-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S1x4096 : Shape := ⟨2, ![1, 4096]⟩
abbrev S64128x1792 : Shape := ⟨2, ![64128, 1792]⟩
abbrev S64128x14 : Shape := ⟨2, ![64128, 14]⟩
abbrev S1792 : Shape := ⟨1, ![1792]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel

variable [Facts]

def fn {F : FTy → Type} [FloatOps F] (main_arg0 : IVec S1x4096 32) (main_arg1 : IVec S64128x1792 8) (main_arg2 : FVec F S64128x14 .f32) (main_arg3 : FVec F S1792 .bf16) : IVec S_ 1 :=
  let main_c : IVec S_ 32 := constantI S_ 32 0#32
  let main_v0 : IVec S1x4096 32 := broadcastInDim S1x4096 ![] bcast_S_S1x4096 main_c
  let main_v1 : IVec S1x4096 1 := cmpi .sge main_arg0 main_v0
  let main_c_0 : IVec S_ 32 := constantI S_ 32 64128#32
  let main_v2 : IVec S1x4096 32 := broadcastInDim S1x4096 ![] bcast_S_S1x4096 main_c_0
  let main_v3 : IVec S1x4096 1 := cmpi .slt main_arg0 main_v2
  let main_v4 : IVec S1x4096 1 := andi main_v1 main_v3
  let main_c_1 : IVec S_ 1 := constantI S_ 1 1#1
  let main_v5 : IVec S_ 1 := (fun x v => Host.reduce IntOp.andi x v reducesTo_S1x4096_S_d0_1 h_S_) main_v4 main_c_1
  main_v5
-- ==== Kernel.lean ====
abbrev S1x4096 : Shape := ⟨2, ![1, 4096]⟩
abbrev S64128x1792 : Shape := ⟨2, ![64128, 1792]⟩
abbrev S64128x14 : Shape := ⟨2, ![64128, 14]⟩
abbrev S1792 : Shape := ⟨1, ![1792]⟩
abbrev S4096 : Shape := ⟨1, ![4096]⟩
abbrev S16032x4x1792 : Shape := ⟨3, ![16032, 4, 1792]⟩
abbrev S16032x1792x4 : Shape := ⟨3, ![16032, 1792, 4]⟩
abbrev S16032x1792 : Shape := ⟨2, ![16032, 1792]⟩
abbrev S14x64128 : Shape := ⟨2, ![14, 64128]⟩
abbrev S1x1792 : Shape := ⟨2, ![1, 1792]⟩
abbrev S4096x1792 : Shape := ⟨2, ![4096, 1792]⟩
abbrev S128x1792 : Shape := ⟨2, ![128, 1792]⟩
abbrev S3x16x8x1792 : Shape := ⟨4, ![3, 16, 8, 1792]⟩
abbrev S128x128 : Shape := ⟨2, ![128, 128]⟩
abbrev S3 : Shape := ⟨1, ![3]⟩
abbrev S_ : Shape := ⟨0, ![]⟩
abbrev S1 : Shape := ⟨1, ![1]⟩
abbrev S1x1x1x1792 : Shape := ⟨4, ![1, 1, 1, 1792]⟩
abbrev S14x128 : Shape := ⟨2, ![14, 128]⟩
abbrev S128x14 : Shape := ⟨2, ![128, 14]⟩
abbrev S3x128x1792 : Shape := ⟨3, ![3, 128, 1792]⟩
abbrev S1x128x1792 : Shape := ⟨3, ![1, 128, 1792]⟩
abbrev S16x1 : Shape := ⟨2, ![16, 1]⟩
abbrev S16x128 : Shape := ⟨2, ![16, 128]⟩
abbrev S1x16x128 : Shape := ⟨3, ![1, 16, 128]⟩
abbrev S16 : Shape := ⟨1, ![16]⟩
abbrev S1x128 : Shape := ⟨2, ![1, 128]⟩

abbrev nBuf : Space → Nat
  | .hbm => 11
  | .vmem => 8
  | .smem => 1
  | _ => 0

abbrev bufTy : (tb : Table) → Fin (tcTables nBuf tb) → BufTy
  | .hbm, ⟨0, _⟩ => ⟨S1x4096, .i32⟩
  | .hbm, ⟨1, _⟩ => ⟨S64128x1792, .i8⟩
  | .hbm, ⟨2, _⟩ => ⟨S64128x14, .f32⟩
  | .hbm, ⟨3, _⟩ => ⟨S1792, .bf16⟩
  | .hbm, ⟨4, _⟩ => ⟨S16032x4x1792, .i8⟩
  | .hbm, ⟨5, _⟩ => ⟨S16032x1792x4, .i8⟩
  | .hbm, ⟨6, _⟩ => ⟨S16032x1792, .i32⟩
  | .hbm, ⟨7, _⟩ => ⟨S14x64128, .f32⟩
  | .hbm, ⟨8, _⟩ => ⟨S1x1792, .bf16⟩
  | .hbm, ⟨9, _⟩ => ⟨S4096x1792, .bf16⟩
  | .hbm, ⟨10, _⟩ => ⟨S4096x1792, .bf16⟩
  | .local _ .vmem, ⟨0, _⟩ => ⟨S1x1792, .bf16⟩
  | .local _ .vmem, ⟨1, _⟩ => ⟨S128x1792, .bf16⟩
  | .local _ .vmem, ⟨2, _⟩ => ⟨S128x1792, .bf16⟩
  | .local _ .vmem, ⟨3, _⟩ => ⟨S128x1792, .bf16⟩
  | .local _ .vmem, ⟨4, _⟩ => ⟨S128x1792, .bf16⟩
  | .local _ .vmem, ⟨5, _⟩ => ⟨S3x16x8x1792, .i32⟩
  | .local _ .vmem, ⟨6, _⟩ => ⟨S14x64128, .f32⟩
  | .local _ .vmem, ⟨7, _⟩ => ⟨S128x128, .f32⟩
  | .local _ .smem, ⟨0, _⟩ => ⟨S4096, .i32⟩
  | _, _ => ⟨S1x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2353 : BitVec 32 := 0#32
  let c16_i32_2354 : BitVec 32 := 16#32
  let v4995 : BitVec 32 := Scalar.addi c0_i32_2353 c16_i32_2354
  let c1_i32_2355 : BitVec 32 := 1#32
  ⟨c0_i32_2353, v4995, c1_i32_2355⟩
def k0_off1 (k0_t1 : Fin k0_t1_loop.trips) : Fin 1 → Nat :=
  let c0_i32_2352 : BitVec 32 := 0#32
  let c128_i32_2364 : BitVec 32 := 128#32
  let v4998 : BitVec 32 := Scalar.muli c0_i32_2352 c128_i32_2364
  let c0_i32_2353 : BitVec 32 := 0#32
  let c1_i32_2355 : BitVec 32 := 1#32
  let arg12 : BitVec 32 := Scf.iv c0_i32_2353 c1_i32_2355 k0_t1
  let c8_i32_2365 : BitVec 32 := 8#32
  let v4999 : BitVec 32 := Scalar.muli arg12 c8_i32_2365
  let v5000 : BitVec 32 := Scalar.addi v4998 v4999
  let c0_i32_2366 : BitVec 32 := 0#32
  let v5001 : BitVec 32 := Scalar.addi v5000 c0_i32_2366
  let v5002 : Index := Scalar.indexCast v5001
  ![v5002.toNat]
def k0_off2 : Fin 1 → Nat :=
  let c0_i32_2350 : BitVec 32 := 0#32
  let c3_i32_2351 : BitVec 32 := 3#32
  let v4994 : BitVec 32 := Scalar.remsi c0_i32_2350 c3_i32_2351
  ![v4994.toNat]
def k0_off3 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c0_i32_2368 : BitVec 32 := 0#32
  let c0_i32_2369 : BitVec 32 := 0#32
  ![v4994.toNat, arg12.toNat, 0, 0]
def k0_off4 (v5003 : BitVec 32) : Fin 2 → Nat :=
  let c2_i32_2367 : BitVec 32 := 2#32
  let v5004 : BitVec 32 := Scalar.shrui v5003 c2_i32_2367
  let c0_i32_2370 : BitVec 32 := 0#32
  ![v5004.toNat, 0]

def k0_chk1 (i : grid0.Coords) (v5003 : BitVec 32) : Prop :=
  (∀ (k0_h1 : k0_cond1 i = 1#1), ∀ a, (k0_off4 v5003) a + S1x1792.size a ≤ S16032x1792.size a)
theorem k0_off4_inb : ∀ (i : grid0.Coords) (v5003 : BitVec 32) (k0_hw1 : k0_chk1 i v5003), ∀ (k0_h1 : k0_cond1 i = 1#1), ∀ a, (k0_off4 v5003) a + S1x1792.size a ≤ S16032x1792.size a := fun i v5003 k0_hw1 k0_h1 => k0_hw1 k0_h1

def k0_off5 (k0_t1 : Fin k0_t1_loop.trips) : Fin 1 → Nat :=
  let c0_i32_2352 : BitVec 32 := 0#32
  let c128_i32_2371 : BitVec 32 := 128#32
  let v5010 : BitVec 32 := Scalar.muli c0_i32_2352 c128_i32_2371
  let c0_i32_2353 : BitVec 32 := 0#32
  let c1_i32_2355 : BitVec 32 := 1#32
  let arg12 : BitVec 32 := Scf.iv c0_i32_2353 c1_i32_2355 k0_t1
  let c8_i32_2372 : BitVec 32 := 8#32
  let v5011 : BitVec 32 := Scalar.muli arg12 c8_i32_2372
  let v5012 : BitVec 32 := Scalar.addi v5010 v5011
  let c1_i32_2373 : BitVec 32 := 1#32
  let v5013 : BitVec 32 := Scalar.addi v5012 c1_i32_2373
  let v5014 : Index := Scalar.indexCast v5013
  ![v5014.toNat]
def k0_off6 : Fin 1 → Nat :=
  let c0_i32_2350 : BitVec 32 := 0#32
  let c3_i32_2351 : BitVec 32 := 3#32
  let v4994 : BitVec 32 := Scalar.remsi c0_i32_2350 c3_i32_2351
  ![v4994.toNat]
def k0_off7 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c1_i32_2375 : BitVec 32 := 1#32
  let c0_i32_2376 : BitVec 32 := 0#32
  ![v4994.toNat, arg12.toNat, 1, 0]
def k0_off8 (v5015 : BitVec 32) : Fin 2 → Nat :=
  let c2_i32_2374 : BitVec 32 := 2#32
  let v5016 : BitVec 32 := Scalar.shrui v5015 c2_i32_2374
  let c0_i32_2377 : BitVec 32 := 0#32
  ![v5016.toNat, 0]

def k0_chk2 (i : grid0.Coords) (v5015 : BitVec 32) : Prop :=
  (∀ (k0_h1 : k0_cond1 i = 1#1), ∀ a, (k0_off8 v5015) a + S1x1792.size a ≤ S16032x1792.size a)
theorem k0_off8_inb : ∀ (i : grid0.Coords) (v5015 : BitVec 32) (k0_hw2 : k0_chk2 i v5015), ∀ (k0_h1 : k0_cond1 i = 1#1), ∀ a, (k0_off8 v5015) a + S1x1792.size a ≤ S16032x1792.size a := fun i v5015 k0_hw2 k0_h1 => k0_hw2 k0_h1

def k0_off9 (k0_t1 : Fin k0_t1_loop.trips) : Fin 1 → Nat :=
  let c0_i32_2352 : BitVec 32 := 0#32
  let c128_i32_2378 : BitVec 32 := 128#32
  let v5022 : BitVec 32 := Scalar.muli c0_i32_2352 c128_i32_2378
  let c0_i32_2353 : BitVec 32 := 0#32
  let c1_i32_2355 : BitVec 32 := 1#32
  let arg12 : BitVec 32 := Scf.iv c0_i32_2353 c1_i32_2355 k0_t1
  let c8_i32_2379 : BitVec 32 := 8#32
  let v5023 : BitVec 32 := Scalar.muli arg12 c8_i32_2379
  let v5024 : BitVec 32 := Scalar.addi v5022 v5023
  let c2_i32_2380 : BitVec 32 := 2#32
  let v5025 : BitVec 32 := Scalar.addi v5024 c2_i32_2380
  let v5026 : Index := Scalar.indexCast v5025
  ![v5026.toNat]
def k0_off10 : Fin 1 → Nat :=
  let c0_i32_2350 : BitVec 32 := 0#32
  let c3_i32_2351 : BitVec 32 := 3#32
  let v4994 : BitVec 32 := Scalar.remsi c0_i32_2350 c3_i32_2351
  ![v4994.toNat]
def k0_off11 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c2_i32_2382 : BitVec 32 := 2#32
  let c0_i32_2383 : BitVec 32 := 0#32
  ![v4994.toNat, arg12.toNat, 2, 0]
def k0_off12 (v5027 : BitVec 32) : Fin 2 → Nat :=
  let c2_i32_2381 : BitVec 32 := 2#32
  let v5028 : BitVec 32 := Scalar.shrui v5027 c2_i32_2381
  let c0_i32_2384 : BitVec 32 := 0#32
  ![v5028.toNat, 0]

def k0_chk3 (i : grid0.Coords) (v5027 : BitVec 32) : Prop :=
  (∀ (k0_h1 : k0_cond1 i = 1#1), ∀ a, (k0_off12 v5027) a + S1x1792.size a ≤ S16032x1792.size a)
theorem k0_off12_inb : ∀ (i : grid0.Coords) (v5027 : BitVec 32) (k0_hw3 : k0_chk3 i v5027), ∀ (k0_h1 : k0_cond1 i = 1#1), ∀ a, (k0_off12 v5027) a + S1x1792.size a ≤ S16032x1792.size a := fun i v5027 k0_hw3 k0_h1 => k0_hw3 k0_h1

def k0_off13 (k0_t1 : Fin k0_t1_loop.trips) : Fin 1 → Nat :=
  let c0_i32_2352 : BitVec 32 := 0#32
  let c128_i32_2385 : BitVec 32 := 128#32
  let v5034 : BitVec 32 := Scalar.muli c0_i32_2352 c128_i32_2385
  let c0_i32_2353 : BitVec 32 := 0#32
  let c1_i32_2355 : BitVec 32 := 1#32
  let arg12 : BitVec 32 := Scf.iv c0_i32_2353 c1_i32_2355 k0_t1
  let c8_i32_2386 : BitVec 32 := 8#32
  let v5035 : BitVec 32 := Scalar.muli arg12 c8_i32_2386
  let v5036 : BitVec 32 := Scalar.addi v5034 v5035
  let c3_i32_2387 : BitVec 32 := 3#32
  let v5037 : BitVec 32 := Scalar.addi v5036 c3_i32_2387
  let v5038 : Index := Scalar.indexCast v5037
  ![v5038.toNat]
def k0_off14 : Fin 1 → Nat :=
  let c0_i32_2350 : BitVec 32 := 0#32
  let c3_i32_2351 : BitVec 32 := 3#32
  let v4994 : BitVec 32 := Scalar.remsi c0_i32_2350 c3_i32_2351
  ![v4994.toNat]
def k0_off15 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c3_i32_2389 : BitVec 32 := 3#32
  let c0_i32_2390 : BitVec 32 := 0#32
  ![v4994.toNat, arg12.toNat, 3, 0]
def k0_off16 (v5039 : BitVec 32) : Fin 2 → Nat :=
  let c2_i32_2388 : BitVec 32 := 2#32
  let v5040 : BitVec 32 := Scalar.shrui v5039 c2_i32_2388
  let c0_i32_2391 : BitVec 32 := 0#32
  ![v5040.toNat, 0]

def k0_chk4 (i : grid0.Coords) (v5039 : BitVec 32) : Prop :=
  (∀ (k0_h1 : k0_cond1 i = 1#1), ∀ a, (k0_off16 v5039) a + S1x1792.size a ≤ S16032x1792.size a)
theorem k0_off16_inb : ∀ (i : grid0.Coords) (v5039 : BitVec 32) (k0_hw4 : k0_chk4 i v5039), ∀ (k0_h1 : k0_cond1 i = 1#1), ∀ a, (k0_off16 v5039) a + S1x1792.size a ≤ S16032x1792.size a := fun i v5039 k0_hw4 k0_h1 => k0_hw4 k0_h1

def k0_off17 (k0_t1 : Fin k0_t1_loop.trips) : Fin 1 → Nat :=
  let c0_i32_2352 : BitVec 32 := 0#32
  let c128_i32_2392 : BitVec 32 := 128#32
  let v5046 : BitVec 32 := Scalar.muli c0_i32_2352 c128_i32_2392
  let c0_i32_2353 : BitVec 32 := 0#32
  let c1_i32_2355 : BitVec 32 := 1#32
  let arg12 : BitVec 32 := Scf.iv c0_i32_2353 c1_i32_2355 k0_t1
  let c8_i32_2393 : BitVec 32 := 8#32
  let v5047 : BitVec 32 := Scalar.muli arg12 c8_i32_2393
  let v5048 : BitVec 32 := Scalar.addi v5046 v5047
  let c4_i32_2394 : BitVec 32 := 4#32
  let v5049 : BitVec 32 := Scalar.addi v5048 c4_i32_2394
  let v5050 : Index := Scalar.indexCast v5049
  ![v5050.toNat]
def k0_off18 : Fin 1 → Nat :=
  let c0_i32_2350 : BitVec 32 := 0#32
  let c3_i32_2351 : BitVec 32 := 3#32
  let v4994 : BitVec 32 := Scalar.remsi c0_i32_2350 c3_i32_2351
  ![v4994.toNat]
def k0_off19 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c4_i32_2396 : BitVec 32 := 4#32
  let c0_i32_2397 : BitVec 32 := 0#32
  ![v4994.toNat, arg12.toNat, 4, 0]
def k0_off20 (v5051 : BitVec 32) : Fin 2 → Nat :=
  let c2_i32_2395 : BitVec 32 := 2#32
  let v5052 : BitVec 32 := Scalar.shrui v5051 c2_i32_2395
  let c0_i32_2398 : BitVec 32 := 0#32
  ![v5052.toNat, 0]

def k0_chk5 (i : grid0.Coords) (v5051 : BitVec 32) : Prop :=
  (∀ (k0_h1 : k0_cond1 i = 1#1), ∀ a, (k0_off20 v5051) a + S1x1792.size a ≤ S16032x1792.size a)
theorem k0_off20_inb : ∀ (i : grid0.Coords) (v5051 : BitVec 32) (k0_hw5 : k0_chk5 i v5051), ∀ (k0_h1 : k0_cond1 i = 1#1), ∀ a, (k0_off20 v5051) a + S1x1792.size a ≤ S16032x1792.size a := fun i v5051 k0_hw5 k0_h1 => k0_hw5 k0_h1

def k0_off21 (k0_t1 : Fin k0_t1_loop.trips) : Fin 1 → Nat :=
  let c0_i32_2352 : BitVec 32 := 0#32
  let c128_i32_2399 : BitVec 32 := 128#32
  let v5058 : BitVec 32 := Scalar.muli c0_i32_2352 c128_i32_2399
  let c0_i32_2353 : BitVec 32 := 0#32
  let c1_i32_2355 : BitVec 32 := 1#32
  let arg12 : BitVec 32 := Scf.iv c0_i32_2353 c1_i32_2355 k0_t1
  let c8_i32_2400 : BitVec 32 := 8#32
  let v5059 : BitVec 32 := Scalar.muli arg12 c8_i32_2400
  let v5060 : BitVec 32 := Scalar.addi v5058 v5059
  let c5_i32_2401 : BitVec 32 := 5#32
  let v5061 : BitVec 32 := Scalar.addi v5060 c5_i32_2401
  let v5062 : Index := Scalar.indexCast v5061
  ![v5062.toNat]
def k0_off22 : Fin 1 → Nat :=
  let c0_i32_2350 : BitVec 32 := 0#32
  let c3_i32_2351 : BitVec 32 := 3#32
  let v4994 : BitVec 32 := Scalar.remsi c0_i32_2350 c3_i32_2351
  ![v4994.toNat]
def k0_off23 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c5_i32_2403 : BitVec 32 := 5#32
  let c0_i32_2404 : BitVec 32 := 0#32
  ![v4994.toNat, arg12.toNat, 5, 0]
def k0_off24 (v5063 : BitVec 32) : Fin 2 → Nat :=
  let c2_i32_2402 : BitVec 32 := 2#32
  let v5064 : BitVec 32 := Scalar.shrui v5063 c2_i32_2402
  let c0_i32_2405 : BitVec 32 := 0#32
  ![v5064.toNat, 0]

def k0_chk6 (i : grid0.Coords) (v5063 : BitVec 32) : Prop :=
  (∀ (k0_h1 : k0_cond1 i = 1#1), ∀ a, (k0_off24 v5063) a + S1x1792.size a ≤ S16032x1792.size a)
theorem k0_off24_inb : ∀ (i : grid0.Coords) (v5063 : BitVec 32) (k0_hw6 : k0_chk6 i v5063), ∀ (k0_h1 : k0_cond1 i = 1#1), ∀ a, (k0_off24 v5063) a + S1x1792.size a ≤ S16032x1792.size a := fun i v5063 k0_hw6 k0_h1 => k0_hw6 k0_h1

def k0_off25 (k0_t1 : Fin k0_t1_loop.trips) : Fin 1 → Nat :=
  let c0_i32_2352 : BitVec 32 := 0#32
  let c128_i32_2406 : BitVec 32 := 128#32
  let v5070 : BitVec 32 := Scalar.muli c0_i32_2352 c128_i32_2406
  let c0_i32_2353 : BitVec 32 := 0#32
  let c1_i32_2355 : BitVec 32 := 1#32
  let arg12 : BitVec 32 := Scf.iv c0_i32_2353 c1_i32_2355 k0_t1
  let c8_i32_2407 : BitVec 32 := 8#32
  let v5071 : BitVec 32 := Scalar.muli arg12 c8_i32_2407
  let v5072 : BitVec 32 := Scalar.addi v5070 v5071
  let c6_i32_2408 : BitVec 32 := 6#32
  let v5073 : BitVec 32 := Scalar.addi v5072 c6_i32_2408
  let v5074 : Index := Scalar.indexCast v5073
  ![v5074.toNat]
def k0_off26 : Fin 1 → Nat :=
  let c0_i32_2350 : BitVec 32 := 0#32
  let c3_i32_2351 : BitVec 32 := 3#32
  let v4994 : BitVec 32 := Scalar.remsi c0_i32_2350 c3_i32_2351
  ![v4994.toNat]
def k0_off27 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c6_i32_2410 : BitVec 32 := 6#32
  let c0_i32_2411 : BitVec 32 := 0#32
  ![v4994.toNat, arg12.toNat, 6, 0]
def k0_off28 (v5075 : BitVec 32) : Fin 2 → Nat :=
  let c2_i32_2409 : BitVec 32 := 2#32
  let v5076 : BitVec 32 := Scalar.shrui v5075 c2_i32_2409
  let c0_i32_2412 : BitVec 32 := 0#32
  ![v5076.toNat, 0]

def k0_chk7 (i : grid0.Coords) (v5075 : BitVec 32) : Prop :=
  (∀ (k0_h1 : k0_cond1 i = 1#1), ∀ a, (k0_off28 v5075) a + S1x1792.size a ≤ S16032x1792.size a)
theorem k0_off28_inb : ∀ (i : grid0.Coords) (v5075 : BitVec 32) (k0_hw7 : k0_chk7 i v5075), ∀ (k0_h1 : k0_cond1 i = 1#1), ∀ a, (k0_off28 v5075) a + S1x1792.size a ≤ S16032x1792.size a := fun i v5075 k0_hw7 k0_h1 => k0_hw7 k0_h1

def k0_off29 (k0_t1 : Fin k0_t1_loop.trips) : Fin 1 → Nat :=
  let c0_i32_2352 : BitVec 32 := 0#32
  let c128_i32_2413 : BitVec 32 := 128#32
  let v5082 : BitVec 32 := Scalar.muli c0_i32_2352 c128_i32_2413
  let c0_i32_2353 : BitVec 32 := 0#32
  let c1_i32_2355 : BitVec 32 := 1#32
  let arg12 : BitVec 32 := Scf.iv c0_i32_2353 c1_i32_2355 k0_t1
  let c8_i32_2414 : BitVec 32 := 8#32
  let v5083 : BitVec 32 := Scalar.muli arg12 c8_i32_2414
  let v5084 : BitVec 32 := Scalar.addi v5082 v5083
  let c7_i32_2415 : BitVec 32 := 7#32
  let v5085 : BitVec 32 := Scalar.addi v5084 c7_i32_2415
  let v5086 : Index := Scalar.indexCast v5085
  ![v5086.toNat]
def k0_off30 : Fin 1 → Nat :=
  let c0_i32_2350 : BitVec 32 := 0#32
  let c3_i32_2351 : BitVec 32 := 3#32
  let v4994 : BitVec 32 := Scalar.remsi c0_i32_2350 c3_i32_2351
  ![v4994.toNat]
def k0_off31 (k0_t1 : Fin k0_t1_loop.trips) : Fin 4 → Nat :=
  let c0_i32_2350 : BitVec 32 := 0#32
  let c3_i32_2351 : BitVec 32 := 3#32
  let v4994 : BitVec 32 := Scalar.remsi c0_i32_2350 c3_i32_2351
  let c0_i32_2353 : BitVec 32 := 0#32
  let c1_i32_2355 : BitVec 32 := 1#32
  let arg12 : BitVec 32 := Scf.iv c0_i32_2353 c1_i32_2355 k0_t1
  let c7_i32_2417 : BitVec 32 := 7#32
  let c0_i32_2418 : BitVec 32 := 0#32
  ![v4994.toNat, arg12.toNat, 7, 0]
def k0_off32 (v5087 : BitVec 32) : Fin 2 → Nat :=
  let c2_i32_2416 : BitVec 32 := 2#32
  let v5088 : BitVec 32 := Scalar.shrui v5087 c2_i32_2416
  let c0_i32_2419 : BitVec 32 := 0#32
  ![v5088.toNat, 0]

def k0_chk8 (i : grid0.Coords) (v5087 : BitVec 32) : Prop :=
  (∀ (k0_h1 : k0_cond1 i = 1#1), ∀ a, (k0_off32 v5087) a + S1x1792.size a ≤ S16032x1792.size a)
theorem k0_off32_inb : ∀ (i : grid0.Coords) (v5087 : BitVec 32) (k0_hw8 : k0_chk8 i v5087), ∀ (k0_h1 : k0_cond1 i = 1#1), ∀ a, (k0_off32 v5087) a + S1x1792.size a ≤ S16032x1792.size a := fun i v5087 k0_hw8 k0_h1 => k0_hw8 k0_h1

@[reducible] def k0_t2_loop : Scf.Loop 32 :=
  let c0_i32_2360 : BitVec 32 := 0#32
  let c16_i32_2361 : BitVec 32 := 16#32
  let v4997 : BitVec 32 := Scalar.addi c0_i32_2360 c16_i32_2361
  let c1_i32_2362 : BitVec 32 := 1#32
  ⟨c0_i32_2360, v4997, c1_i32_2362⟩
def k0_off33 (k0_t2 : Fin k0_t2_loop.trips) : Fin 1 → Nat :=
  let c1_i32_2359 : BitVec 32 := 1#32
  let c128_i32_2364 : BitVec 32 := 128#32
  let v4998 : BitVec 32 := Scalar.muli c1_i32_2359 c128_i32_2364
  let c0_i32_2360 : BitVec 32 := 0#32
  let c1_i32_2362 : BitVec 32 := 1#32
  let arg12 : BitVec 32 := Scf.iv c0_i32_2360 c1_i32_2362 k0_t2
  let c8_i32_2365 : BitVec 32 := 8#32
  let v4999 : BitVec 32 := Scalar.muli arg12 c8_i32_2365
  let v5000 : BitVec 32 := Scalar.addi v4998 v4999
  let c0_i32_2366 : BitVec 32 := 0#32
  let v5001 : BitVec 32 := Scalar.addi v5000 c0_i32_2366
  let v5002 : Index := Scalar.indexCast v5001
  ![v5002.toNat]
def k0_off34 : Fin 1 → Nat :=
  let c1_i32_2357 : BitVec 32 := 1#32
  let c3_i32_2358 : BitVec 32 := 3#32
  let v4996 : BitVec 32 := Scalar.remsi c1_i32_2357 c3_i32_2358
  ![v4996.toNat]
def k0_off35 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c0_i32_2368 : BitVec 32 := 0#32
  let c0_i32_2369 : BitVec 32 := 0#32
  ![v4996.toNat, arg12.toNat, 0, 0]
def k0_off36 (v5003 : BitVec 32) : Fin 2 → Nat :=
  let c2_i32_2367 : BitVec 32 := 2#32
  let v5004 : BitVec 32 := Scalar.shrui v5003 c2_i32_2367
  let c0_i32_2370 : BitVec 32 := 0#32
  ![v5004.toNat, 0]

def k0_chk9 (i : grid0.Coords) (v5003 : BitVec 32) : Prop :=
  (∀ (k0_h1 : k0_cond1 i = 1#1), ∀ a, (k0_off36 v5003) a + S1x1792.size a ≤ S16032x1792.size a)
theorem k0_off36_inb : ∀ (i : grid0.Coords) (v5003 : BitVec 32) (k0_hw9 : k0_chk9 i v5003), ∀ (k0_h1 : k0_cond1 i = 1#1), ∀ a, (k0_off36 v5003) a + S1x1792.size a ≤ S16032x1792.size a := fun i v5003 k0_hw9 k0_h1 => k0_hw9 k0_h1

def k0_off37 (k0_t2 : Fin k0_t2_loop.trips) : Fin 1 → Nat :=
  let c1_i32_2359 : BitVec 32 := 1#32
  let c128_i32_2371 : BitVec 32 := 128#32
  let v5010 : BitVec 32 := Scalar.muli c1_i32_2359 c128_i32_2371
  let c0_i32_2360 : BitVec 32 := 0#32
  let c1_i32_2362 : BitVec 32 := 1#32
  let arg12 : BitVec 32 := Scf.iv c0_i32_2360 c1_i32_2362 k0_t2
  let c8_i32_2372 : BitVec 32 := 8#32
  let v5011 : BitVec 32 := Scalar.muli arg12 c8_i32_2372
  let v5012 : BitVec 32 := Scalar.addi v5010 v5011
  let c1_i32_2373 : BitVec 32 := 1#32
  let v5013 : BitVec 32 := Scalar.addi v5012 c1_i32_2373
  let v5014 : Index := Scalar.indexCast v5013
  ![v5014.toNat]
def k0_off38 : Fin 1 → Nat :=
  let c1_i32_2357 : BitVec 32 := 1#32
  let c3_i32_2358 : BitVec 32 := 3#32
  let v4996 : BitVec 32 := Scalar.remsi c1_i32_2357 c3_i32_2358
  ![v4996.toNat]
def k0_off39 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c1_i32_2375 : BitVec 32 := 1#32
  let c0_i32_2376 : BitVec 32 := 0#32
  ![v4996.toNat, arg12.toNat, 1, 0]
def k0_off40 (v5015 : BitVec 32) : Fin 2 → Nat :=
  let c2_i32_2374 : BitVec 32 := 2#32
  let v5016 : BitVec 32 := Scalar.shrui v5015 c2_i32_2374
  let c0_i32_2377 : BitVec 32 := 0#32
  ![v5016.toNat, 0]

def k0_chk10 (i : grid0.Coords) (v5015 : BitVec 32) : Prop :=
  (∀ (k0_h1 : k0_cond1 i = 1#1), ∀ a, (k0_off40 v5015) a + S1x1792.size a ≤ S16032x1792.size a)
theorem k0_off40_inb : ∀ (i : grid0.Coords) (v5015 : BitVec 32) (k0_hw10 : k0_chk10 i v5015), ∀ (k0_h1 : k0_cond1 i = 1#1), ∀ a, (k0_off40 v5015) a + S1x1792.size a ≤ S16032x1792.size a := fun i v5015 k0_hw10 k0_h1 => k0_hw10 k0_h1

def k0_off41 (k0_t2 : Fin k0_t2_loop.trips) : Fin 1 → Nat :=
  let c1_i32_2359 : BitVec 32 := 1#32
  let c128_i32_2378 : BitVec 32 := 128#32
  let v5022 : BitVec 32 := Scalar.muli c1_i32_2359 c128_i32_2378
  let c0_i32_2360 : BitVec 32 := 0#32
  let c1_i32_2362 : BitVec 32 := 1#32
  let arg12 : BitVec 32 := Scf.iv c0_i32_2360 c1_i32_2362 k0_t2
  let c8_i32_2379 : BitVec 32 := 8#32
  let v5023 : BitVec 32 := Scalar.muli arg12 c8_i32_2379
  let v5024 : BitVec 32 := Scalar.addi v5022 v5023
  let c2_i32_2380 : BitVec 32 := 2#32
  let v5025 : BitVec 32 := Scalar.addi v5024 c2_i32_2380
  let v5026 : Index := Scalar.indexCast v5025
  ![v5026.toNat]
def k0_off42 : Fin 1 → Nat :=
  let c1_i32_2357 : BitVec 32 := 1#32
  let c3_i32_2358 : BitVec 32 := 3#32
  let v4996 : BitVec 32 := Scalar.remsi c1_i32_2357 c3_i32_2358
  ![v4996.toNat]
def k0_off43 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c2_i32_2382 : BitVec 32 := 2#32
  let c0_i32_2383 : BitVec 32 := 0#32
  ![v4996.toNat, arg12.toNat, 2, 0]
def k0_off44 (v5027 : BitVec 32) : Fin 2 → Nat :=
  let c2_i32_2381 : BitVec 32 := 2#32
  let v5028 : BitVec 32 := Scalar.shrui v5027 c2_i32_2381
  let c0_i32_2384 : BitVec 32 := 0#32
  ![v5028.toNat, 0]

def k0_chk11 (i : grid0.Coords) (v5027 : BitVec 32) : Prop :=
  (∀ (k0_h1 : k0_cond1 i = 1#1), ∀ a, (k0_off44 v5027) a + S1x1792.size a ≤ S16032x1792.size a)
theorem k0_off44_inb : ∀ (i : grid0.Coords) (v5027 : BitVec 32) (k0_hw11 : k0_chk11 i v5027), ∀ (k0_h1 : k0_cond1 i = 1#1), ∀ a, (k0_off44 v5027) a + S1x1792.size a ≤ S16032x1792.size a := fun i v5027 k0_hw11 k0_h1 => k0_hw11 k0_h1

def k0_off45 (k0_t2 : Fin k0_t2_loop.trips) : Fin 1 → Nat :=
  let c1_i32_2359 : BitVec 32 := 1#32
  let c128_i32_2385 : BitVec 32 := 128#32
  let v5034 : BitVec 32 := Scalar.muli c1_i32_2359 c128_i32_2385
  let c0_i32_2360 : BitVec 32 := 0#32
  let c1_i32_2362 : BitVec 32 := 1#32
  let arg12 : BitVec 32 := Scf.iv c0_i32_2360 c1_i32_2362 k0_t2
  let c8_i32_2386 : BitVec 32 := 8#32
  let v5035 : BitVec 32 := Scalar.muli arg12 c8_i32_2386
  let v5036 : BitVec 32 := Scalar.addi v5034 v5035
  let c3_i32_2387 : BitVec 32 := 3#32
  let v5037 : BitVec 32 := Scalar.addi v5036 c3_i32_2387
  let v5038 : Index := Scalar.indexCast v5037
  ![v5038.toNat]
def k0_off46 : Fin 1 → Nat :=
  let c1_i32_2357 : BitVec 32 := 1#32
  let c3_i32_2358 : BitVec 32 := 3#32
  let v4996 : BitVec 32 := Scalar.remsi c1_i32_2357 c3_i32_2358
  ![v4996.toNat]
def k0_off47 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c3_i32_2389 : BitVec 32 := 3#32
  let c0_i32_2390 : BitVec 32 := 0#32
  ![v4996.toNat, arg12.toNat, 3, 0]
def k0_off48 (v5039 : BitVec 32) : Fin 2 → Nat :=
  let c2_i32_2388 : BitVec 32 := 2#32
  let v5040 : BitVec 32 := Scalar.shrui v5039 c2_i32_2388
  let c0_i32_2391 : BitVec 32 := 0#32
  ![v5040.toNat, 0]

def k0_chk12 (i : grid0.Coords) (v5039 : BitVec 32) : Prop :=
  (∀ (k0_h1 : k0_cond1 i = 1#1), ∀ a, (k0_off48 v5039) a + S1x1792.size a ≤ S16032x1792.size a)
theorem k0_off48_inb : ∀ (i : grid0.Coords) (v5039 : BitVec 32) (k0_hw12 : k0_chk12 i v5039), ∀ (k0_h1 : k0_cond1 i = 1#1), ∀ a, (k0_off48 v5039) a + S1x1792.size a ≤ S16032x1792.size a := fun i v5039 k0_hw12 k0_h1 => k0_hw12 k0_h1

def k0_off49 (k0_t2 : Fin k0_t2_loop.trips) : Fin 1 → Nat :=
  let c1_i32_2359 : BitVec 32 := 1#32
  let c128_i32_2392 : BitVec 32 := 128#32
  let v5046 : BitVec 32 := Scalar.muli c1_i32_2359 c128_i32_2392
  let c0_i32_2360 : BitVec 32 := 0#32
  let c1_i32_2362 : BitVec 32 := 1#32
  let arg12 : BitVec 32 := Scf.iv c0_i32_2360 c1_i32_2362 k0_t2
  let c8_i32_2393 : BitVec 32 := 8#32
  let v5047 : BitVec 32 := Scalar.muli arg12 c8_i32_2393
  let v5048 : BitVec 32 := Scalar.addi v5046 v5047
  let c4_i32_2394 : BitVec 32 := 4#32
  let v5049 : BitVec 32 := Scalar.addi v5048 c4_i32_2394
  let v5050 : Index := Scalar.indexCast v5049
  ![v5050.toNat]
def k0_off50 : Fin 1 → Nat :=
  let c1_i32_2357 : BitVec 32 := 1#32
  let c3_i32_2358 : BitVec 32 := 3#32
  let v4996 : BitVec 32 := Scalar.remsi c1_i32_2357 c3_i32_2358
  ![v4996.toNat]
def k0_off51 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c4_i32_2396 : BitVec 32 := 4#32
  let c0_i32_2397 : BitVec 32 := 0#32
  ![v4996.toNat, arg12.toNat, 4, 0]
def k0_off52 (v5051 : BitVec 32) : Fin 2 → Nat :=
  let c2_i32_2395 : BitVec 32 := 2#32
  let v5052 : BitVec 32 := Scalar.shrui v5051 c2_i32_2395
  let c0_i32_2398 : BitVec 32 := 0#32
  ![v5052.toNat, 0]

def k0_chk13 (i : grid0.Coords) (v5051 : BitVec 32) : Prop :=
  (∀ (k0_h1 : k0_cond1 i = 1#1), ∀ a, (k0_off52 v5051) a + S1x1792.size a ≤ S16032x1792.size a)
theorem k0_off52_inb : ∀ (i : grid0.Coords) (v5051 : BitVec 32) (k0_hw13 : k0_chk13 i v5051), ∀ (k0_h1 : k0_cond1 i = 1#1), ∀ a, (k0_off52 v5051) a + S1x1792.size a ≤ S16032x1792.size a := fun i v5051 k0_hw13 k0_h1 => k0_hw13 k0_h1

def k0_off53 (k0_t2 : Fin k0_t2_loop.trips) : Fin 1 → Nat :=
  let c1_i32_2359 : BitVec 32 := 1#32
  let c128_i32_2399 : BitVec 32 := 128#32
  let v5058 : BitVec 32 := Scalar.muli c1_i32_2359 c128_i32_2399
  let c0_i32_2360 : BitVec 32 := 0#32
  let c1_i32_2362 : BitVec 32 := 1#32
  let arg12 : BitVec 32 := Scf.iv c0_i32_2360 c1_i32_2362 k0_t2
  let c8_i32_2400 : BitVec 32 := 8#32
  let v5059 : BitVec 32 := Scalar.muli arg12 c8_i32_2400
  let v5060 : BitVec 32 := Scalar.addi v5058 v5059
  let c5_i32_2401 : BitVec 32 := 5#32
  let v5061 : BitVec 32 := Scalar.addi v5060 c5_i32_2401
  let v5062 : Index := Scalar.indexCast v5061
  ![v5062.toNat]
def k0_off54 : Fin 1 → Nat :=
  let c1_i32_2357 : BitVec 32 := 1#32
  let c3_i32_2358 : BitVec 32 := 3#32
  let v4996 : BitVec 32 := Scalar.remsi c1_i32_2357 c3_i32_2358
  ![v4996.toNat]
def k0_off55 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c5_i32_2403 : BitVec 32 := 5#32
  let c0_i32_2404 : BitVec 32 := 0#32
  ![v4996.toNat, arg12.toNat, 5, 0]
def k0_off56 (v5063 : BitVec 32) : Fin 2 → Nat :=
  let c2_i32_2402 : BitVec 32 := 2#32
  let v5064 : BitVec 32 := Scalar.shrui v5063 c2_i32_2402
  let c0_i32_2405 : BitVec 32 := 0#32
  ![v5064.toNat, 0]

def k0_chk14 (i : grid0.Coords) (v5063 : BitVec 32) : Prop :=
  (∀ (k0_h1 : k0_cond1 i = 1#1), ∀ a, (k0_off56 v5063) a + S1x1792.size a ≤ S16032x1792.size a)
theorem k0_off56_inb : ∀ (i : grid0.Coords) (v5063 : BitVec 32) (k0_hw14 : k0_chk14 i v5063), ∀ (k0_h1 : k0_cond1 i = 1#1), ∀ a, (k0_off56 v5063) a + S1x1792.size a ≤ S16032x1792.size a := fun i v5063 k0_hw14 k0_h1 => k0_hw14 k0_h1

def k0_off57 (k0_t2 : Fin k0_t2_loop.trips) : Fin 1 → Nat :=
  let c1_i32_2359 : BitVec 32 := 1#32
  let c128_i32_2406 : BitVec 32 := 128#32
  let v5070 : BitVec 32 := Scalar.muli c1_i32_2359 c128_i32_2406
  let c0_i32_2360 : BitVec 32 := 0#32
  let c1_i32_2362 : BitVec 32 := 1#32
  let arg12 : BitVec 32 := Scf.iv c0_i32_2360 c1_i32_2362 k0_t2
  let c8_i32_2407 : BitVec 32 := 8#32
  let v5071 : BitVec 32 := Scalar.muli arg12 c8_i32_2407
  let v5072 : BitVec 32 := Scalar.addi v5070 v5071
  let c6_i32_2408 : BitVec 32 := 6#32
  let v5073 : BitVec 32 := Scalar.addi v5072 c6_i32_2408
  let v5074 : Index := Scalar.indexCast v5073
  ![v5074.toNat]
def k0_off58 : Fin 1 → Nat :=
  let c1_i32_2357 : BitVec 32 := 1#32
  let c3_i32_2358 : BitVec 32 := 3#32
  let v4996 : BitVec 32 := Scalar.remsi c1_i32_2357 c3_i32_2358
  ![v4996.toNat]
def k0_off59 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c6_i32_2410 : BitVec 32 := 6#32
  let c0_i32_2411 : BitVec 32 := 0#32
  ![v4996.toNat, arg12.toNat, 6, 0]
def k0_off60 (v5075 : BitVec 32) : Fin 2 → Nat :=
  let c2_i32_2409 : BitVec 32 := 2#32
  let v5076 : BitVec 32 := Scalar.shrui v5075 c2_i32_2409
  let c0_i32_2412 : BitVec 32 := 0#32
  ![v5076.toNat, 0]

def k0_chk15 (i : grid0.Coords) (v5075 : BitVec 32) : Prop :=
  (∀ (k0_h1 : k0_cond1 i = 1#1), ∀ a, (k0_off60 v5075) a + S1x1792.size a ≤ S16032x1792.size a)
theorem k0_off60_inb : ∀ (i : grid0.Coords) (v5075 : BitVec 32) (k0_hw15 : k0_chk15 i v5075), ∀ (k0_h1 : k0_cond1 i = 1#1), ∀ a, (k0_off60 v5075) a + S1x1792.size a ≤ S16032x1792.size a := fun i v5075 k0_hw15 k0_h1 => k0_hw15 k0_h1

def k0_off61 (k0_t2 : Fin k0_t2_loop.trips) : Fin 1 → Nat :=
  let c1_i32_2359 : BitVec 32 := 1#32
  let c128_i32_2413 : BitVec 32 := 128#32
  let v5082 : BitVec 32 := Scalar.muli c1_i32_2359 c128_i32_2413
  let c0_i32_2360 : BitVec 32 := 0#32
  let c1_i32_2362 : BitVec 32 := 1#32
  let arg12 : BitVec 32 := Scf.iv c0_i32_2360 c1_i32_2362 k0_t2
  let c8_i32_2414 : BitVec 32 := 8#32
  let v5083 : BitVec 32 := Scalar.muli arg12 c8_i32_2414
  let v5084 : BitVec 32 := Scalar.addi v5082 v5083
  let c7_i32_2415 : BitVec 32 := 7#32
  let v5085 : BitVec 32 := Scalar.addi v5084 c7_i32_2415
  let v5086 : Index := Scalar.indexCast v5085
  ![v5086.toNat]
def k0_off62 : Fin 1 → Nat :=
  let c1_i32_2357 : BitVec 32 := 1#32
  let c3_i32_2358 : BitVec 32 := 3#32
  let v4996 : BitVec 32 := Scalar.remsi c1_i32_2357 c3_i32_2358
  ![v4996.toNat]
def k0_off63 (k0_t2 : Fin k0_t2_loop.trips) : Fin 4 → Nat :=
  let c1_i32_2357 : BitVec 32 := 1#32
  let c3_i32_2358 : BitVec 32 := 3#32
  let v4996 : BitVec 32 := Scalar.remsi c1_i32_2357 c3_i32_2358
  let c0_i32_2360 : BitVec 32 := 0#32
  let c1_i32_2362 : BitVec 32 := 1#32
  let arg12 : BitVec 32 := Scf.iv c0_i32_2360 c1_i32_2362 k0_t2
  let c7_i32_2417 : BitVec 32 := 7#32
  let c0_i32_2418 : BitVec 32 := 0#32
  ![v4996.toNat, arg12.toNat, 7, 0]
def k0_off64 (v5087 : BitVec 32) : Fin 2 → Nat :=
  let c2_i32_2416 : BitVec 32 := 2#32
  let v5088 : BitVec 32 := Scalar.shrui v5087 c2_i32_2416
  let c0_i32_2419 : BitVec 32 := 0#32
  ![v5088.toNat, 0]

def k0_chk16 (i : grid0.Coords) (v5087 : BitVec 32) : Prop :=
  (∀ (k0_h1 : k0_cond1 i = 1#1), ∀ a, (k0_off64 v5087) a + S1x1792.size a ≤ S16032x1792.size a)
theorem k0_off64_inb : ∀ (i : grid0.Coords) (v5087 : BitVec 32) (k0_hw16 : k0_chk16 i v5087), ∀ (k0_h1 : k0_cond1 i = 1#1), ∀ a, (k0_off64 v5087) a + S1x1792.size a ≤ S16032x1792.size a := fun i v5087 k0_hw16 k0_h1 => k0_hw16 k0_h1

def k0_cond2 (i : grid0.Coords) : BitVec 1 :=
  let arg0 : BitVec 32 := BitVec.ofNat 32 (i 0).val
  let c3_i32 : BitVec 32 := 3#32
  let v3 : BitVec 32 := Scalar.addi arg0 c3_i32
  let c1_i32 : BitVec 32 := 1#32
  let v4 : BitVec 32 := Scalar.subi v3 c1_i32
  let c32_i32 : BitVec 32 := 32#32
  let v5 : BitVec 1 := Scalar.cmpi .slt v4 c32_i32
  let v6 : BitVec 32 := Scalar.extui v5
  let c0_i32_1 : BitVec 32 := 0#32
  let v7 : BitVec 1 := Scalar.cmpi .ne v6 c0_i32_1
  v7

@[reducible] def k0_t3_loop : Scf.Loop 32 :=
  let c0_i32_2353 : BitVec 32 := 0#32
  let c16_i32_2354 : BitVec 32 := 16#32
  let v4997 : BitVec 32 := Scalar.addi c0_i32_2353 c16_i32_2354
  let c1_i32_2355 : BitVec 32 := 1#32
  ⟨c0_i32_2353, v4997, c1_i32_2355⟩
def k0_off65 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2357 : BitVec 32 := 128#32
  let v4998 : BitVec 32 := Scalar.muli v4995 c128_i32_2357
  let c0_i32_2353 : BitVec 32 := 0#32
  let c1_i32_2355 : BitVec 32 := 1#32
  let arg12 : BitVec 32 := Scf.iv c0_i32_2353 c1_i32_2355 k0_t3
  let c8_i32_2358 : BitVec 32 := 8#32
  let v4999 : BitVec 32 := Scalar.muli arg12 c8_i32_2358
  let v5000 : BitVec 32 := Scalar.addi v4998 v4999
  let c0_i32_2359 : BitVec 32 := 0#32
  let v5001 : BitVec 32 := Scalar.addi v5000 c0_i32_2359
  let v5002 : Index := Scalar.indexCast v5001
  ![v5002.toNat]
def k0_off66 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off67 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c0_i32_2361 : BitVec 32 := 0#32
  let c0_i32_2362 : BitVec 32 := 0#32
  ![v4996.toNat, arg12.toNat, 0, 0]
def k0_off68 (v5003 : BitVec 32) : Fin 2 → Nat :=
  let c2_i32_2360 : BitVec 32 := 2#32
  let v5004 : BitVec 32 := Scalar.shrui v5003 c2_i32_2360
  let c0_i32_2363 : BitVec 32 := 0#32
  ![v5004.toNat, 0]

def k0_chk17 (i : grid0.Coords) (v5003 : BitVec 32) : Prop :=
  (∀ (k0_h2 : k0_cond2 i = 1#1), ∀ a, (k0_off68 v5003) a + S1x1792.size a ≤ S16032x1792.size a)
theorem k0_off68_inb : ∀ (i : grid0.Coords) (v5003 : BitVec 32) (k0_hw17 : k0_chk17 i v5003), ∀ (k0_h2 : k0_cond2 i = 1#1), ∀ a, (k0_off68 v5003) a + S1x1792.size a ≤ S16032x1792.size a := fun i v5003 k0_hw17 k0_h2 => k0_hw17 k0_h2

def k0_off69 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2364 : BitVec 32 := 128#32
  let v5010 : BitVec 32 := Scalar.muli v4995 c128_i32_2364
  let c0_i32_2353 : BitVec 32 := 0#32
  let c1_i32_2355 : BitVec 32 := 1#32
  let arg12 : BitVec 32 := Scf.iv c0_i32_2353 c1_i32_2355 k0_t3
  let c8_i32_2365 : BitVec 32 := 8#32
  let v5011 : BitVec 32 := Scalar.muli arg12 c8_i32_2365
  let v5012 : BitVec 32 := Scalar.addi v5010 v5011
  let c1_i32_2366 : BitVec 32 := 1#32
  let v5013 : BitVec 32 := Scalar.addi v5012 c1_i32_2366
  let v5014 : Index := Scalar.indexCast v5013
  ![v5014.toNat]
def k0_off70 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off71 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c1_i32_2368 : BitVec 32 := 1#32
  let c0_i32_2369 : BitVec 32 := 0#32
  ![v4996.toNat, arg12.toNat, 1, 0]
def k0_off72 (v5015 : BitVec 32) : Fin 2 → Nat :=
  let c2_i32_2367 : BitVec 32 := 2#32
  let v5016 : BitVec 32 := Scalar.shrui v5015 c2_i32_2367
  let c0_i32_2370 : BitVec 32 := 0#32
  ![v5016.toNat, 0]

def k0_chk18 (i : grid0.Coords) (v5015 : BitVec 32) : Prop :=
  (∀ (k0_h2 : k0_cond2 i = 1#1), ∀ a, (k0_off72 v5015) a + S1x1792.size a ≤ S16032x1792.size a)
theorem k0_off72_inb : ∀ (i : grid0.Coords) (v5015 : BitVec 32) (k0_hw18 : k0_chk18 i v5015), ∀ (k0_h2 : k0_cond2 i = 1#1), ∀ a, (k0_off72 v5015) a + S1x1792.size a ≤ S16032x1792.size a := fun i v5015 k0_hw18 k0_h2 => k0_hw18 k0_h2

def k0_off73 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2371 : BitVec 32 := 128#32
  let v5022 : BitVec 32 := Scalar.muli v4995 c128_i32_2371
  let c0_i32_2353 : BitVec 32 := 0#32
  let c1_i32_2355 : BitVec 32 := 1#32
  let arg12 : BitVec 32 := Scf.iv c0_i32_2353 c1_i32_2355 k0_t3
  let c8_i32_2372 : BitVec 32 := 8#32
  let v5023 : BitVec 32 := Scalar.muli arg12 c8_i32_2372
  let v5024 : BitVec 32 := Scalar.addi v5022 v5023
  let c2_i32_2373 : BitVec 32 := 2#32
  let v5025 : BitVec 32 := Scalar.addi v5024 c2_i32_2373
  let v5026 : Index := Scalar.indexCast v5025
  ![v5026.toNat]
def k0_off74 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off75 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c2_i32_2375 : BitVec 32 := 2#32
  let c0_i32_2376 : BitVec 32 := 0#32
  ![v4996.toNat, arg12.toNat, 2, 0]
def k0_off76 (v5027 : BitVec 32) : Fin 2 → Nat :=
  let c2_i32_2374 : BitVec 32 := 2#32
  let v5028 : BitVec 32 := Scalar.shrui v5027 c2_i32_2374
  let c0_i32_2377 : BitVec 32 := 0#32
  ![v5028.toNat, 0]

def k0_chk19 (i : grid0.Coords) (v5027 : BitVec 32) : Prop :=
  (∀ (k0_h2 : k0_cond2 i = 1#1), ∀ a, (k0_off76 v5027) a + S1x1792.size a ≤ S16032x1792.size a)
theorem k0_off76_inb : ∀ (i : grid0.Coords) (v5027 : BitVec 32) (k0_hw19 : k0_chk19 i v5027), ∀ (k0_h2 : k0_cond2 i = 1#1), ∀ a, (k0_off76 v5027) a + S1x1792.size a ≤ S16032x1792.size a := fun i v5027 k0_hw19 k0_h2 => k0_hw19 k0_h2

def k0_off77 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2378 : BitVec 32 := 128#32
  let v5034 : BitVec 32 := Scalar.muli v4995 c128_i32_2378
  let c0_i32_2353 : BitVec 32 := 0#32
  let c1_i32_2355 : BitVec 32 := 1#32
  let arg12 : BitVec 32 := Scf.iv c0_i32_2353 c1_i32_2355 k0_t3
  let c8_i32_2379 : BitVec 32 := 8#32
  let v5035 : BitVec 32 := Scalar.muli arg12 c8_i32_2379
  let v5036 : BitVec 32 := Scalar.addi v5034 v5035
  let c3_i32_2380 : BitVec 32 := 3#32
  let v5037 : BitVec 32 := Scalar.addi v5036 c3_i32_2380
  let v5038 : Index := Scalar.indexCast v5037
  ![v5038.toNat]
def k0_off78 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off79 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c3_i32_2382 : BitVec 32 := 3#32
  let c0_i32_2383 : BitVec 32 := 0#32
  ![v4996.toNat, arg12.toNat, 3, 0]
def k0_off80 (v5039 : BitVec 32) : Fin 2 → Nat :=
  let c2_i32_2381 : BitVec 32 := 2#32
  let v5040 : BitVec 32 := Scalar.shrui v5039 c2_i32_2381
  let c0_i32_2384 : BitVec 32 := 0#32
  ![v5040.toNat, 0]

def k0_chk20 (i : grid0.Coords) (v5039 : BitVec 32) : Prop :=
  (∀ (k0_h2 : k0_cond2 i = 1#1), ∀ a, (k0_off80 v5039) a + S1x1792.size a ≤ S16032x1792.size a)
theorem k0_off80_inb : ∀ (i : grid0.Coords) (v5039 : BitVec 32) (k0_hw20 : k0_chk20 i v5039), ∀ (k0_h2 : k0_cond2 i = 1#1), ∀ a, (k0_off80 v5039) a + S1x1792.size a ≤ S16032x1792.size a := fun i v5039 k0_hw20 k0_h2 => k0_hw20 k0_h2

def k0_off81 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2385 : BitVec 32 := 128#32
  let v5046 : BitVec 32 := Scalar.muli v4995 c128_i32_2385
  let c0_i32_2353 : BitVec 32 := 0#32
  let c1_i32_2355 : BitVec 32 := 1#32
  let arg12 : BitVec 32 := Scf.iv c0_i32_2353 c1_i32_2355 k0_t3
  let c8_i32_2386 : BitVec 32 := 8#32
  let v5047 : BitVec 32 := Scalar.muli arg12 c8_i32_2386
  let v5048 : BitVec 32 := Scalar.addi v5046 v5047
  let c4_i32_2387 : BitVec 32 := 4#32
  let v5049 : BitVec 32 := Scalar.addi v5048 c4_i32_2387
  let v5050 : Index := Scalar.indexCast v5049
  ![v5050.toNat]
def k0_off82 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off83 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c4_i32_2389 : BitVec 32 := 4#32
  let c0_i32_2390 : BitVec 32 := 0#32
  ![v4996.toNat, arg12.toNat, 4, 0]
def k0_off84 (v5051 : BitVec 32) : Fin 2 → Nat :=
  let c2_i32_2388 : BitVec 32 := 2#32
  let v5052 : BitVec 32 := Scalar.shrui v5051 c2_i32_2388
  let c0_i32_2391 : BitVec 32 := 0#32
  ![v5052.toNat, 0]

def k0_chk21 (i : grid0.Coords) (v5051 : BitVec 32) : Prop :=
  (∀ (k0_h2 : k0_cond2 i = 1#1), ∀ a, (k0_off84 v5051) a + S1x1792.size a ≤ S16032x1792.size a)
theorem k0_off84_inb : ∀ (i : grid0.Coords) (v5051 : BitVec 32) (k0_hw21 : k0_chk21 i v5051), ∀ (k0_h2 : k0_cond2 i = 1#1), ∀ a, (k0_off84 v5051) a + S1x1792.size a ≤ S16032x1792.size a := fun i v5051 k0_hw21 k0_h2 => k0_hw21 k0_h2

def k0_off85 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2392 : BitVec 32 := 128#32
  let v5058 : BitVec 32 := Scalar.muli v4995 c128_i32_2392
  let c0_i32_2353 : BitVec 32 := 0#32
  let c1_i32_2355 : BitVec 32 := 1#32
  let arg12 : BitVec 32 := Scf.iv c0_i32_2353 c1_i32_2355 k0_t3
  let c8_i32_2393 : BitVec 32 := 8#32
  let v5059 : BitVec 32 := Scalar.muli arg12 c8_i32_2393
  let v5060 : BitVec 32 := Scalar.addi v5058 v5059
  let c5_i32_2394 : BitVec 32 := 5#32
  let v5061 : BitVec 32 := Scalar.addi v5060 c5_i32_2394
  let v5062 : Index := Scalar.indexCast v5061
  ![v5062.toNat]
def k0_off86 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off87 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c5_i32_2396 : BitVec 32 := 5#32
  let c0_i32_2397 : BitVec 32 := 0#32
  ![v4996.toNat, arg12.toNat, 5, 0]
def k0_off88 (v5063 : BitVec 32) : Fin 2 → Nat :=
  let c2_i32_2395 : BitVec 32 := 2#32
  let v5064 : BitVec 32 := Scalar.shrui v5063 c2_i32_2395
  let c0_i32_2398 : BitVec 32 := 0#32
  ![v5064.toNat, 0]

def k0_chk22 (i : grid0.Coords) (v5063 : BitVec 32) : Prop :=
  (∀ (k0_h2 : k0_cond2 i = 1#1), ∀ a, (k0_off88 v5063) a + S1x1792.size a ≤ S16032x1792.size a)
theorem k0_off88_inb : ∀ (i : grid0.Coords) (v5063 : BitVec 32) (k0_hw22 : k0_chk22 i v5063), ∀ (k0_h2 : k0_cond2 i = 1#1), ∀ a, (k0_off88 v5063) a + S1x1792.size a ≤ S16032x1792.size a := fun i v5063 k0_hw22 k0_h2 => k0_hw22 k0_h2

def k0_off89 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2399 : BitVec 32 := 128#32
  let v5070 : BitVec 32 := Scalar.muli v4995 c128_i32_2399
  let c0_i32_2353 : BitVec 32 := 0#32
  let c1_i32_2355 : BitVec 32 := 1#32
  let arg12 : BitVec 32 := Scf.iv c0_i32_2353 c1_i32_2355 k0_t3
  let c8_i32_2400 : BitVec 32 := 8#32
  let v5071 : BitVec 32 := Scalar.muli arg12 c8_i32_2400
  let v5072 : BitVec 32 := Scalar.addi v5070 v5071
  let c6_i32_2401 : BitVec 32 := 6#32
  let v5073 : BitVec 32 := Scalar.addi v5072 c6_i32_2401
  let v5074 : Index := Scalar.indexCast v5073
  ![v5074.toNat]
def k0_off90 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off91 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c6_i32_2403 : BitVec 32 := 6#32
  let c0_i32_2404 : BitVec 32 := 0#32
  ![v4996.toNat, arg12.toNat, 6, 0]
def k0_off92 (v5075 : BitVec 32) : Fin 2 → Nat :=
  let c2_i32_2402 : BitVec 32 := 2#32
  let v5076 : BitVec 32 := Scalar.shrui v5075 c2_i32_2402
  let c0_i32_2405 : BitVec 32 := 0#32
  ![v5076.toNat, 0]

def k0_chk23 (i : grid0.Coords) (v5075 : BitVec 32) : Prop :=
  (∀ (k0_h2 : k0_cond2 i = 1#1), ∀ a, (k0_off92 v5075) a + S1x1792.size a ≤ S16032x1792.size a)
theorem k0_off92_inb : ∀ (i : grid0.Coords) (v5075 : BitVec 32) (k0_hw23 : k0_chk23 i v5075), ∀ (k0_h2 : k0_cond2 i = 1#1), ∀ a, (k0_off92 v5075) a + S1x1792.size a ≤ S16032x1792.size a := fun i v5075 k0_hw23 k0_h2 => k0_hw23 k0_h2

def k0_off93 (i : grid0.Coords) (k0_t3 : Fin k0_t3_loop.trips) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c128_i32_2406 : BitVec 32 := 128#32
  let v5082 : BitVec 32 := Scalar.muli v4995 c128_i32_2406
  let c0_i32_2353 : BitVec 32 := 0#32
  let c1_i32_2355 : BitVec 32 := 1#32
  let arg12 : BitVec 32 := Scf.iv c0_i32_2353 c1_i32_2355 k0_t3
  let c8_i32_2407 : BitVec 32 := 8#32
  let v5083 : BitVec 32 := Scalar.muli arg12 c8_i32_2407
  let v5084 : BitVec 32 := Scalar.addi v5082 v5083
  let c7_i32_2408 : BitVec 32 := 7#32
  let v5085 : BitVec 32 := Scalar.addi v5084 c7_i32_2408
  let v5086 : Index := Scalar.indexCast v5085
  ![v5086.toNat]
def k0_off94 (i : grid0.Coords) : Fin 1 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  ![v4996.toNat]
def k0_off95 (i : grid0.Coords) (k0_t3 : Fin k0_t3_loop.trips) : Fin 4 → Nat :=
  let arg0 : BitVec 32 := BitVec.ofNat 32 (i 0).val
  let c3_i32_2350 : BitVec 32 := 3#32
  let v4994 : BitVec 32 := Scalar.addi arg0 c3_i32_2350
  let c1_i32_2351 : BitVec 32 := 1#32
  let v4995 : BitVec 32 := Scalar.subi v4994 c1_i32_2351
  let c3_i32_2352 : BitVec 32 := 3#32
  let v4996 : BitVec 32 := Scalar.remsi v4995 c3_i32_2352
  let c0_i32_2353 : BitVec 32 := 0#32
  let c1_i32_2355 : BitVec 32 := 1#32
  let arg12 : BitVec 32 := Scf.iv c0_i32_2353 c1_i32_2355 k0_t3
  let c7_i32_2410 : BitVec 32 := 7#32
  let c0_i32_2411 : BitVec 32 := 0#32
  ![v4996.toNat, arg12.toNat, 7, 0]
def k0_off96 (v5087 : BitVec 32) : Fin 2 → Nat :=
  let c2_i32_2409 : BitVec 32 := 2#32
  let v5088 : BitVec 32 := Scalar.shrui v5087 c2_i32_2409
  let c0_i32_2412 : BitVec 32 := 0#32
  ![v5088.toNat, 0]

def k0_chk24 (i : grid0.Coords) (v5087 : BitVec 32) : Prop :=
  (∀ (k0_h2 : k0_cond2 i = 1#1), ∀ a, (k0_off96 v5087) a + S1x1792.size a ≤ S16032x1792.size a)
theorem k0_off96_inb : ∀ (i : grid0.Coords) (v5087 : BitVec 32) (k0_hw24 : k0_chk24 i v5087), ∀ (k0_h2 : k0_cond2 i = 1#1), ∀ a, (k0_off96 v5087) a + S1x1792.size a ≤ S16032x1792.size a := fun i v5087 k0_hw24 k0_h2 => k0_hw24 k0_h2

@[reducible] def k0_t4_loop : Scf.Loop 32 :=
  let c0_i32_2 : BitVec 32 := 0#32
  let c16_i32 : BitVec 32 := 16#32
  let v10 : BitVec 32 := Scalar.addi c0_i32_2 c16_i32
  let c1_i32_3 : BitVec 32 := 1#32
  ⟨c0_i32_2, v10, c1_i32_3⟩
def k0_off97 (i : grid0.Coords) (k0_t4 : Fin k0_t4_loop.trips) : Fin 1 → Nat :=
  let arg0 : BitVec 32 := BitVec.ofNat 32 (i 0).val
  let c128_i32_2352 : BitVec 32 := 128#32
  let v4996 : BitVec 32 := Scalar.muli arg0 c128_i32_2352
  let c0_i32_2 : BitVec 32 := 0#32
  let c1_i32_3 : BitVec 32 := 1#32
  let arg12 : BitVec 32 := Scf.iv c0_i32_2 c1_i32_3 k0_t4
  let c8_i32_2350 : BitVec 32 := 8#32
  let v4994 : BitVec 32 := Scalar.muli arg12 c8_i32_2350
  let c0_i32_2351 : BitVec 32 := 0#32
  let v4995 : BitVec 32 := Scalar.addi v4994 c0_i32_2351
  let v4997 : BitVec 32 := Scalar.addi v4996 v4995
  let v4998 : Index := Scalar.indexCast v4997
  ![v4998.toNat]
def k0_mult1 (v4999 : BitVec 32) : BitVec 32 :=
  let c7_i32_2353 : BitVec 32 := 7#32
  let v5000 : BitVec 32 := Scalar.shrui v4999 c7_i32_2353
  let c128_i32_2354 : BitVec 32 := 128#32
  let v5001 : BitVec 32 := Scalar.muli v5000 c128_i32_2354
  v5001

def k0_off98 (v4999 : BitVec 32) : Fin 2 → Nat :=
  let c0_2355 : Index := 0#32
  let c7_i32_2353 : BitVec 32 := 7#32
  let v5000 : BitVec 32 := Scalar.shrui v4999 c7_i32_2353
  let c128_i32_2354 : BitVec 32 := 128#32
  let v5001 : BitVec 32 := Scalar.muli v5000 c128_i32_2354
  let v5002 : BitVec 32 := v5001
  let v5003 : Index := Scalar.indexCast v5002
  ![0, v5003.toNat]

def k0_chk25 (v4999 : BitVec 32) : Prop :=
  (128 ∣ (k0_mult1 v4999).toNat) ∧
  (∀ a, (k0_off98 v4999) a + S14x128.size a ≤ S14x64128.size a)
theorem k0_mult1_dvd : ∀ (v4999 : BitVec 32) (k0_hw25 : k0_chk25 v4999), 128 ∣ (k0_mult1 v4999).toNat := fun v4999 k0_hw25 => k0_hw25.1
theorem k0_off98_inb : ∀ (v4999 : BitVec 32) (k0_hw25 : k0_chk25 v4999), ∀ a, (k0_off98 v4999) a + S14x128.size a ≤ S14x64128.size a := fun v4999 k0_hw25 => k0_hw25.2

def k0_off99 (i : grid0.Coords) (k0_t4 : Fin k0_t4_loop.trips) : Fin 1 → Nat :=
  let arg0 : BitVec 32 := BitVec.ofNat 32 (i 0).val
  let c128_i32_2358 : BitVec 32 := 128#32
  let v5013 : BitVec 32 := Scalar.muli arg0 c128_i32_2358
  let c0_i32_2 : BitVec 32 := 0#32
  let c1_i32_3 : BitVec 32 := 1#32
  let arg12 : BitVec 32 := Scf.iv c0_i32_2 c1_i32_3 k0_t4
  let c8_i32_2356 : BitVec 32 := 8#32
  let v5011 : BitVec 32 := Scalar.muli arg12 c8_i32_2356
  let c1_i32_2357 : BitVec 32 := 1#32
  let v5012 : BitVec 32 := Scalar.addi v5011 c1_i32_2357
  let v5014 : BitVec 32 := Scalar.addi v5013 v5012
  let v5015 : Index := Scalar.indexCast v5014
  ![v5015.toNat]
def k0_mult2 (v5016 : BitVec 32) : BitVec 32 :=
  let c7_i32_2359 : BitVec 32 := 7#32
  let v5017 : BitVec 32 := Scalar.shrui v5016 c7_i32_2359
  let c128_i32_2360 : BitVec 32 := 128#32
  let v5018 : BitVec 32 := Scalar.muli v5017 c128_i32_2360
  v5018

def k0_off100 (v5016 : BitVec 32) : Fin 2 → Nat :=
  let c0_2361 : Index := 0#32
  let c7_i32_2359 : BitVec 32 := 7#32
  let v5017 : BitVec 32 := Scalar.shrui v5016 c7_i32_2359
  let c128_i32_2360 : BitVec 32 := 128#32
  let v5018 : BitVec 32 := Scalar.muli v5017 c128_i32_2360
  let v5019 : BitVec 32 := v5018
  let v5020 : Index := Scalar.indexCast v5019
  ![0, v5020.toNat]

def k0_chk26 (v5016 : BitVec 32) : Prop :=
  (128 ∣ (k0_mult2 v5016).toNat) ∧
  (∀ a, (k0_off100 v5016) a + S14x128.size a ≤ S14x64128.size a)
theorem k0_mult2_dvd : ∀ (v5016 : BitVec 32) (k0_hw26 : k0_chk26 v5016), 128 ∣ (k0_mult2 v5016).toNat := fun v5016 k0_hw26 => k0_hw26.1
theorem k0_off100_inb : ∀ (v5016 : BitVec 32) (k0_hw26 : k0_chk26 v5016), ∀ a, (k0_off100 v5016) a + S14x128.size a ≤ S14x64128.size a := fun v5016 k0_hw26 => k0_hw26.2

def k0_off101 (i : grid0.Coords) (k0_t4 : Fin k0_t4_loop.trips) : Fin 1 → Nat :=
  let arg0 : BitVec 32 := BitVec.ofNat 32 (i 0).val
  let c128_i32_2365 : BitVec 32 := 128#32
  let v5030 : BitVec 32 := Scalar.muli arg0 c128_i32_2365
  let c0_i32_2 : BitVec 32 := 0#32
  let c1_i32_3 : BitVec 32 := 1#32
  let arg12 : BitVec 32 := Scf.iv c0_i32_2 c1_i32_3 k0_t4
  let c8_i32_2363 : BitVec 32 := 8#32
  let v5028 : BitVec 32 := Scalar.muli arg12 c8_i32_2363
  let c2_i32_2364 : BitVec 32 := 2#32
  let v5029 : BitVec 32 := Scalar.addi v5028 c2_i32_2364
  let v5031 : BitVec 32 := Scalar.addi v5030 v5029
  let v5032 : Index := Scalar.indexCast v5031
  ![v5032.toNat]
def k0_mult3 (v5033 : BitVec 32) : BitVec 32 :=
  let c7_i32_2366 : BitVec 32 := 7#32
  let v5034 : BitVec 32 := Scalar.shrui v5033 c7_i32_2366
  let c128_i32_2367 : BitVec 32 := 128#32
  let v5035 : BitVec 32 := Scalar.muli v5034 c128_i32_2367
  v5035

def k0_off102 (v5033 : BitVec 32) : Fin 2 → Nat :=
  let c0_2368 : Index := 0#32
  let c7_i32_2366 : BitVec 32 := 7#32
  let v5034 : BitVec 32 := Scalar.shrui v5033 c7_i32_2366
  let c128_i32_2367 : BitVec 32 := 128#32
  let v5035 : BitVec 32 := Scalar.muli v5034 c128_i32_2367
  let v5036 : BitVec 32 := v5035
  let v5037 : Index := Scalar.indexCast v5036
  ![0, v5037.toNat]

def k0_chk27 (v5033 : BitVec 32) : Prop :=
  (128 ∣ (k0_mult3 v5033).toNat) ∧
  (∀ a, (k0_off102 v5033) a + S14x128.size a ≤ S14x64128.size a)
theorem k0_mult3_dvd : ∀ (v5033 : BitVec 32) (k0_hw27 : k0_chk27 v5033), 128 ∣ (k0_mult3 v5033).toNat := fun v5033 k0_hw27 => k0_hw27.1
theorem k0_off102_inb : ∀ (v5033 : BitVec 32) (k0_hw27 : k0_chk27 v5033), ∀ a, (k0_off102 v5033) a + S14x128.size a ≤ S14x64128.size a := fun v5033 k0_hw27 => k0_hw27.2

def k0_off103 (i : grid0.Coords) (k0_t4 : Fin k0_t4_loop.trips) : Fin 1 → Nat :=
  let arg0 : BitVec 32 := BitVec.ofNat 32 (i 0).val
  let c128_i32_2372 : BitVec 32 := 128#32
  let v5047 : BitVec 32 := Scalar.muli arg0 c128_i32_2372
  let c0_i32_2 : BitVec 32 := 0#32
  let c1_i32_3 : BitVec 32 := 1#32
  let arg12 : BitVec 32 := Scf.iv c0_i32_2 c1_i32_3 k0_t4
  let c8_i32_2370 : BitVec 32 := 8#32
  let v5045 : BitVec 32 := Scalar.muli arg12 c8_i32_2370
  let c3_i32_2371 : BitVec 32 := 3#32
  let v5046 : BitVec 32 := Scalar.addi v5045 c3_i32_2371
  let v5048 : BitVec 32 := Scalar.addi v5047 v5046
  let v5049 : Index := Scalar.indexCast v5048
  ![v5049.toNat]
def k0_mult4 (v5050 : BitVec 32) : BitVec 32 :=
  let c7_i32_2373 : BitVec 32 := 7#32
  let v5051 : BitVec 32 := Scalar.shrui v5050 c7_i32_2373
  let c128_i32_2374 : BitVec 32 := 128#32
  let v5052 : BitVec 32 := Scalar.muli v5051 c128_i32_2374
  v5052

def k0_off104 (v5050 : BitVec 32) : Fin 2 → Nat :=
  let c0_2375 : Index := 0#32
  let c7_i32_2373 : BitVec 32 := 7#32
  let v5051 : BitVec 32 := Scalar.shrui v5050 c7_i32_2373
  let c128_i32_2374 : BitVec 32 := 128#32
  let v5052 : BitVec 32 := Scalar.muli v5051 c128_i32_2374
  let v5053 : BitVec 32 := v5052
  let v5054 : Index := Scalar.indexCast v5053
  ![0, v5054.toNat]

def k0_chk28 (v5050 : BitVec 32) : Prop :=
  (128 ∣ (k0_mult4 v5050).toNat) ∧
  (∀ a, (k0_off104 v5050) a + S14x128.size a ≤ S14x64128.size a)
theorem k0_mult4_dvd : ∀ (v5050 : BitVec 32) (k0_hw28 : k0_chk28 v5050), 128 ∣ (k0_mult4 v5050).toNat := fun v5050 k0_hw28 => k0_hw28.1
theorem k0_off104_inb : ∀ (v5050 : BitVec 32) (k0_hw28 : k0_chk28 v5050), ∀ a, (k0_off104 v5050) a + S14x128.size a ≤ S14x64128.size a := fun v5050 k0_hw28 => k0_hw28.2

def k0_off105 (i : grid0.Coords) (k0_t4 : Fin k0_t4_loop.trips) : Fin 1 → Nat :=
  let arg0 : BitVec 32 := BitVec.ofNat 32 (i 0).val
  let c128_i32_2379 : BitVec 32 := 128#32
  let v5064 : BitVec 32 := Scalar.muli arg0 c128_i32_2379
  let c0_i32_2 : BitVec 32 := 0#32
  let c1_i32_3 : BitVec 32 := 1#32
  let arg12 : BitVec 32 := Scf.iv c0_i32_2 c1_i32_3 k0_t4
  let c8_i32_2377 : BitVec 32 := 8#32
  let v5062 : BitVec 32 := Scalar.muli arg12 c8_i32_2377
  let c4_i32_2378 : BitVec 32 := 4#32
  let v5063 : BitVec 32 := Scalar.addi v5062 c4_i32_2378
  let v5065 : BitVec 32 := Scalar.addi v5064 v5063
  let v5066 : Index := Scalar.indexCast v5065
  ![v5066.toNat]
def k0_mult5 (v5067 : BitVec 32) : BitVec 32 :=
  let c7_i32_2380 : BitVec 32 := 7#32
  let v5068 : BitVec 32 := Scalar.shrui v5067 c7_i32_2380
  let c128_i32_2381 : BitVec 32 := 128#32
  let v5069 : BitVec 32 := Scalar.muli v5068 c128_i32_2381
  v5069

def k0_off106 (v5067 : BitVec 32) : Fin 2 → Nat :=
  let c0_2382 : Index := 0#32
  let c7_i32_2380 : BitVec 32 := 7#32
  let v5068 : BitVec 32 := Scalar.shrui v5067 c7_i32_2380
  let c128_i32_2381 : BitVec 32 := 128#32
  let v5069 : BitVec 32 := Scalar.muli v5068 c128_i32_2381
  let v5070 : BitVec 32 := v5069
  let v5071 : Index := Scalar.indexCast v5070
  ![0, v5071.toNat]

def k0_chk29 (v5067 : BitVec 32) : Prop :=
  (128 ∣ (k0_mult5 v5067).toNat) ∧
  (∀ a, (k0_off106 v5067) a + S14x128.size a ≤ S14x64128.size a)
theorem k0_mult5_dvd : ∀ (v5067 : BitVec 32) (k0_hw29 : k0_chk29 v5067), 128 ∣ (k0_mult5 v5067).toNat := fun v5067 k0_hw29 => k0_hw29.1
theorem k0_off106_inb : ∀ (v5067 : BitVec 32) (k0_hw29 : k0_chk29 v5067), ∀ a, (k0_off106 v5067) a + S14x128.size a ≤ S14x64128.size a := fun v5067 k0_hw29 => k0_hw29.2

def k0_off107 (i : grid0.Coords) (k0_t4 : Fin k0_t4_loop.trips) : Fin 1 → Nat :=
  let arg0 : BitVec 32 := BitVec.ofNat 32 (i 0).val
  let c128_i32_2386 : BitVec 32 := 128#32
  let v5081 : BitVec 32 := Scalar.muli arg0 c128_i32_2386
  let c0_i32_2 : BitVec 32 := 0#32
  let c1_i32_3 : BitVec 32 := 1#32
  let arg12 : BitVec 32 := Scf.iv c0_i32_2 c1_i32_3 k0_t4
  let c8_i32_2384 : BitVec 32 := 8#32
  let v5079 : BitVec 32 := Scalar.muli arg12 c8_i32_2384
  let c5_i32_2385 : BitVec 32 := 5#32
  let v5080 : BitVec 32 := Scalar.addi v5079 c5_i32_2385
  let v5082 : BitVec 32 := Scalar.addi v5081 v5080
  let v5083 : Index := Scalar.indexCast v5082
  ![v5083.toNat]
def k0_mult6 (v5084 : BitVec 32) : BitVec 32 :=
  let c7_i32_2387 : BitVec 32 := 7#32
  let v5085 : BitVec 32 := Scalar.shrui v5084 c7_i32_2387
  let c128_i32_2388 : BitVec 32 := 128#32
  let v5086 : BitVec 32 := Scalar.muli v5085 c128_i32_2388
  v5086

def k0_off108 (v5084 : BitVec 32) : Fin 2 → Nat :=
  let c0_2389 : Index := 0#32
  let c7_i32_2387 : BitVec 32 := 7#32
  let v5085 : BitVec 32 := Scalar.shrui v5084 c7_i32_2387
  let c128_i32_2388 : BitVec 32 := 128#32
  let v5086 : BitVec 32 := Scalar.muli v5085 c128_i32_2388
  let v5087 : BitVec 32 := v5086
  let v5088 : Index := Scalar.indexCast v5087
  ![0, v5088.toNat]

def k0_chk30 (v5084 : BitVec 32) : Prop :=
  (128 ∣ (k0_mult6 v5084).toNat) ∧
  (∀ a, (k0_off108 v5084) a + S14x128.size a ≤ S14x64128.size a)
theorem k0_mult6_dvd : ∀ (v5084 : BitVec 32) (k0_hw30 : k0_chk30 v5084), 128 ∣ (k0_mult6 v5084).toNat := fun v5084 k0_hw30 => k0_hw30.1
theorem k0_off108_inb : ∀ (v5084 : BitVec 32) (k0_hw30 : k0_chk30 v5084), ∀ a, (k0_off108 v5084) a + S14x128.size a ≤ S14x64128.size a := fun v5084 k0_hw30 => k0_hw30.2

def k0_off109 (i : grid0.Coords) (k0_t4 : Fin k0_t4_loop.trips) : Fin 1 → Nat :=
  let arg0 : BitVec 32 := BitVec.ofNat 32 (i 0).val
  let c128_i32_2393 : BitVec 32 := 128#32
  let v5098 : BitVec 32 := Scalar.muli arg0 c128_i32_2393
  let c0_i32_2 : BitVec 32 := 0#32
  let c1_i32_3 : BitVec 32 := 1#32
  let arg12 : BitVec 32 := Scf.iv c0_i32_2 c1_i32_3 k0_t4
  let c8_i32_2391 : BitVec 32 := 8#32
  let v5096 : BitVec 32 := Scalar.muli arg12 c8_i32_2391
  let c6_i32_2392 : BitVec 32 := 6#32
  let v5097 : BitVec 32 := Scalar.addi v5096 c6_i32_2392
  let v5099 : BitVec 32 := Scalar.addi v5098 v5097
  let v5100 : Index := Scalar.indexCast v5099
  ![v5100.toNat]
def k0_mult7 (v5101 : BitVec 32) : BitVec 32 :=
  let c7_i32_2394 : BitVec 32 := 7#32
  let v5102 : BitVec 32 := Scalar.shrui v5101 c7_i32_2394
  let c128_i32_2395 : BitVec 32 := 128#32
  let v5103 : BitVec 32 := Scalar.muli v5102 c128_i32_2395
  v5103

def k0_off110 (v5101 : BitVec 32) : Fin 2 → Nat :=
  let c0_2396 : Index := 0#32
  let c7_i32_2394 : BitVec 32 := 7#32
  let v5102 : BitVec 32 := Scalar.shrui v5101 c7_i32_2394
  let c128_i32_2395 : BitVec 32 := 128#32
  let v5103 : BitVec 32 := Scalar.muli v5102 c128_i32_2395
  let v5104 : BitVec 32 := v5103
  let v5105 : Index := Scalar.indexCast v5104
  ![0, v5105.toNat]

def k0_chk31 (v5101 : BitVec 32) : Prop :=
  (128 ∣ (k0_mult7 v5101).toNat) ∧
  (∀ a, (k0_off110 v5101) a + S14x128.size a ≤ S14x64128.size a)
theorem k0_mult7_dvd : ∀ (v5101 : BitVec 32) (k0_hw31 : k0_chk31 v5101), 128 ∣ (k0_mult7 v5101).toNat := fun v5101 k0_hw31 => k0_hw31.1
theorem k0_off110_inb : ∀ (v5101 : BitVec 32) (k0_hw31 : k0_chk31 v5101), ∀ a, (k0_off110 v5101) a + S14x128.size a ≤ S14x64128.size a := fun v5101 k0_hw31 => k0_hw31.2

def k0_off111 (i : grid0.Coords) (k0_t4 : Fin k0_t4_loop.trips) : Fin 1 → Nat :=
  let arg0 : BitVec 32 := BitVec.ofNat 32 (i 0).val
  let c128_i32_2400 : BitVec 32 := 128#32
  let v5115 : BitVec 32 := Scalar.muli arg0 c128_i32_2400
  let c0_i32_2 : BitVec 32 := 0#32
  let c1_i32_3 : BitVec 32 := 1#32
  let arg12 : BitVec 32 := Scf.iv c0_i32_2 c1_i32_3 k0_t4
  let c8_i32_2398 : BitVec 32 := 8#32
  let v5113 : BitVec 32 := Scalar.muli arg12 c8_i32_2398
  let c7_i32_2399 : BitVec 32 := 7#32
  let v5114 : BitVec 32 := Scalar.addi v5113 c7_i32_2399
  let v5116 : BitVec 32 := Scalar.addi v5115 v5114
  let v5117 : Index := Scalar.indexCast v5116
  ![v5117.toNat]
def k0_mult8 (v5118 : BitVec 32) : BitVec 32 :=
  let c7_i32_2401 : BitVec 32 := 7#32
  let v5119 : BitVec 32 := Scalar.shrui v5118 c7_i32_2401
  let c128_i32_2402 : BitVec 32 := 128#32
  let v5120 : BitVec 32 := Scalar.muli v5119 c128_i32_2402
  v5120

def k0_off112 (v5118 : BitVec 32) : Fin 2 → Nat :=
  let c0_2403 : Index := 0#32
  let c7_i32_2401 : BitVec 32 := 7#32
  let v5119 : BitVec 32 := Scalar.shrui v5118 c7_i32_2401
  let c128_i32_2402 : BitVec 32 := 128#32
  let v5120 : BitVec 32 := Scalar.muli v5119 c128_i32_2402
  let v5121 : BitVec 32 := v5120
  let v5122 : Index := Scalar.indexCast v5121
  ![0, v5122.toNat]

def k0_chk32 (v5118 : BitVec 32) : Prop :=
  (128 ∣ (k0_mult8 v5118).toNat) ∧
  (∀ a, (k0_off112 v5118) a + S14x128.size a ≤ S14x64128.size a)
theorem k0_mult8_dvd : ∀ (v5118 : BitVec 32) (k0_hw32 : k0_chk32 v5118), 128 ∣ (k0_mult8 v5118).toNat := fun v5118 k0_hw32 => k0_hw32.1
theorem k0_off112_inb : ∀ (v5118 : BitVec 32) (k0_hw32 : k0_chk32 v5118), ∀ a, (k0_off112 v5118) a + S14x128.size a ≤ S14x64128.size a := fun v5118 k0_hw32 => k0_hw32.2

def k0_off113 (i : grid0.Coords) : Fin 1 → Nat :=
  let arg0 : BitVec 32 := BitVec.ofNat 32 (i 0).val
  let c3_i32_6 : BitVec 32 := 3#32
  let v18 : BitVec 32 := Scalar.remsi arg0 c3_i32_6
  ![v18.toNat]
def k0_off114 (i : grid0.Coords) : Fin 3 → Nat :=
  let arg0 : BitVec 32 := BitVec.ofNat 32 (i 0).val
  let c3_i32_6 : BitVec 32 := 3#32
  let v18 : BitVec 32 := Scalar.remsi arg0 c3_i32_6
  let c0_i32_7 : BitVec 32 := 0#32
  let c0_i32_8 : BitVec 32 := 0#32
  ![v18.toNat, 0, 0]
def k0_off115 (i : grid0.Coords) (c0_i32_12 : BitVec 32) (c0_i32_13 : BitVec 32) : Fin 1 → Nat :=
  let arg0 : BitVec 32 := BitVec.ofNat 32 (i 0).val
  let c128_i32 : BitVec 32 := 128#32
  let v27 : BitVec 32 := Scalar.muli arg0 c128_i32
  let v28 : BitVec 32 := Scalar.addi v27 c0_i32_12
  let v29 : BitVec 32 := Scalar.addi v28 c0_i32_13
  let v30 : Index := Scalar.indexCast v29
  ![v30.toNat]
def k0_off116 (i : grid0.Coords) : Fin 3 → Nat :=
  let arg0 : BitVec 32 := BitVec.ofNat 32 (i 0).val
  let c3_i32_6 : BitVec 32 := 3#32
  let v18 : BitVec 32 := Scalar.remsi arg0 c3_i32_6
  let v221 : Index := Scalar.indexCast v18
  let c0_111 : Index := 0#32
  let c0_112 : Index := 0#32
  ![v221.toNat, 0, 0]
def k0_off117 (i : grid0.Coords) : Fin 3 → Nat :=
  let arg0 : BitVec 32 := BitVec.ofNat 32 (i 0).val
  let c3_i32_6 : BitVec 32 := 3#32
  let v18 : BitVec 32 := Scalar.remsi arg0 c3_i32_6
  let v239 : Index := Scalar.indexCast v18
  let c0_117 : Index := 0#32
  let c128 : Index := 128#32
  ![v239.toNat, 0, 128]
def k0_off118 (i : grid0.Coords) : Fin 3 → Nat :=
  let arg0 : BitVec 32 := BitVec.ofNat 32 (i 0).val
  let c3_i32_6 : BitVec 32 := 3#32
  let v18 : BitVec 32 := Scalar.remsi arg0 c3_i32_6
  let v257 : Index := Scalar.indexCast v18
  let c0_122 : Index := 0#32
  let c256 : Index := 256#32
  ![v257.toNat, 0, 256]
def k0_off119 (i : grid0.Coords) : Fin 3 → Nat :=
  let arg0 : BitVec 32 := BitVec.ofNat 32 (i 0).val
  let c3_i32_6 : BitVec 32 := 3#32
  let v18 : BitVec 32 := Scalar.remsi arg0 c3_i32_6
  let v275 : Index := Scalar.indexCast v18
  let c0_127 : Index := 0#32
  let c384 : Index := 384#32
  ![v275.toNat, 0, 384]
def k0_off120 (i : grid0.Coords) : Fin 3 → Nat :=
  let arg0 : BitVec 32 := BitVec.ofNat 32 (i 0).val
  let c3_i32_6 : BitVec 32 := 3#32
  let v18 : BitVec 32 := Scalar.remsi arg0 c3_i32_6
  let v293 : Index := Scalar.indexCast v18
  let c0_132 : Index := 0#32
  let c512 : Index := 512#32
  ![v293.toNat, 0, 512]
def k0_off121 (i : grid0.Coords) : Fin 3 → Nat :=
  let arg0 : BitVec 32 := BitVec.ofNat 32 (i 0).val
  let c3_i32_6 : BitVec 32 := 3#32
  let v18 : BitVec 32 := Scalar.remsi arg0 c3_i32_6
  let v311 : Index := Scalar.indexCast v18
  let c0_137 : Index := 0#32
  let c640 : Index := 640#32
  ![v311.toNat, 0, 640]
def k0_off122 (i : grid0.Coords) : Fin 3 → Nat :=
  let arg0 : BitVec 32 := BitVec.ofNat 32 (i 0).val
  let c3_i32_6 : BitVec 32 := 3#32
  let v18 : BitVec 32 := Scalar.remsi arg0 c3_i32_6
  let v329 : Index := Scalar.indexCast v18
  let c0_142 : Index := 0#32
  let c768 : Index := 768#32
  ![v329.toNat, 0, 768]
def k0_off123 (i : grid0.Coords) : Fin 3 → Nat :=
  let arg0 : BitVec 32 := BitVec.ofNat 32 (i 0).val
  let c3_i32_6 : BitVec 32 := 3#32
  let v18 : BitVec 32 := Scalar.remsi arg0 c3_i32_6
  let v347 : Index := Scalar.indexCast v18
  let c0_147 : Index := 0#32
  let c896 : Index := 896#32
  ![v347.toNat, 0, 896]
def k0_off124 (i : grid0.Coords) : Fin 3 → Nat :=
  let arg0 : BitVec 32 := BitVec.ofNat 32 (i 0).val
  let c3_i32_6 : BitVec 32 := 3#32
  let v18 : BitVec 32 := Scalar.remsi arg0 c3_i32_6
  let v365 : Index := Scalar.indexCast v18
  let c0_152 : Index := 0#32
  let c1024 : Index := 1024#32
  ![v365.toNat, 0, 1024]
def k0_off125 (i : grid0.Coords) : Fin 3 → Nat :=
  let arg0 : BitVec 32 := BitVec.ofNat 32 (i 0).val
  let c3_i32_6 : BitVec 32 := 3#32
  let v18 : BitVec 32 := Scalar.remsi arg0 c3_i32_6
  let v383 : Index := Scalar.indexCast v18
  let c0_157 : Index := 0#32
  let c1152 : Index := 1152#32
  ![v383.toNat, 0, 1152]
def k0_off126 (i : grid0.Coords) : Fin 3 → Nat :=
  let arg0 : BitVec 32 := BitVec.ofNat 32 (i 0).val
  let c3_i32_6 : BitVec 32 := 3#32
  let v18 : BitVec 32 := Scalar.remsi arg0 c3_i32_6
  let v401 : Index := Scalar.indexCast v18
  let c0_162 : Index := 0#32
  let c1280 : Index := 1280#32
  ![v401.toNat, 0, 1280]
def k0_off127 (i : grid0.Coords) : Fin 3 → Nat :=
  let arg0 : BitVec 32 := BitVec.ofNat 32 (i 0).val
  let c3_i32_6 : BitVec 32 := 3#32
  let v18 : BitVec 32 := Scalar.remsi arg0 c3_i32_6
  let v419 : Index := Scalar.indexCast v18
  let c0_167 : Index := 0#32
  let c1408 : Index := 1408#32
  ![v419.toNat, 0, 1408]
def k0_off128 (i : grid0.Coords) : Fin 3 → Nat :=
  let arg0 : BitVec 32 := BitVec.ofNat 32 (i 0).val
  let c3_i32_6 : BitVec 32 := 3#32
  let v18 : BitVec 32 := Scalar.remsi arg0 c3_i32_6
  let v437 : Index := Scalar.indexCast v18
  let c0_172 : Index := 0#32
  let c1536 : Index := 1536#32
  ![v437.toNat, 0, 1536]
def k0_off129 (i : grid0.Coords) : Fin 3 → Nat :=
  let arg0 : BitVec 32 := BitVec.ofNat 32 (i 0).val
  let c3_i32_6 : BitVec 32 := 3#32
  let v18 : BitVec 32 := Scalar.remsi arg0 c3_i32_6
  let v455 : Index := Scalar.indexCast v18
  let c0_177 : Index := 0#32
  let c1664 : Index := 1664#32
  ![v455.toNat, 0, 1664]
def k0_off130 (i : grid0.Coords) : Fin 3 → Nat :=
  let arg0 : BitVec 32 := BitVec.ofNat 32 (i 0).val
  let c3_i32_6 : BitVec 32 := 3#32
  let v18 : BitVec 32 := Scalar.remsi arg0 c3_i32_6
  let v842 : Index := Scalar.indexCast v18
  let c16 : Index := 16#32
  let c0_383 : Index := 0#32
  ![v842.toNat, 16, 0]
def k0_off131 (i : grid0.Coords) : Fin 3 → Nat :=
  let arg0 : BitVec 32 := BitVec.ofNat 32 (i 0).val
  let c3_i32_6 : BitVec 32 := 3#32
  let v18 : BitVec 32 := Scalar.remsi arg0 c3_i32_6
  let v860 : Index := Scalar.indexCast v18
  let c16_389 : Index := 16#32
  let c128_390 : Index := 128#32
  ![v860.toNat, 16, 128]
def k0_off132 (i : grid0.Coords) : Fin 3 → Nat :=
  let arg0 : BitVec 32 := BitVec.ofNat 32 (i 0).val
  let c3_i32_6 : BitVec 32 := 3#32
  let v18 : BitVec 32 := Scalar.remsi arg0 c3_i32_6
  let v878 : Index := Scalar.indexCast v18
  let c16_396 : Index := 16#32
  let c256_397 : Index := 256#32
  ![v878.toNat, 16, 256]
def k0_off133 (i : grid0.Coords) : Fin 3 → Nat :=
  let arg0 : BitVec 32 := BitVec.ofNat 32 (i 0).val
  let c3_i32_6 : BitVec 32 := 3#32
  let v18 : BitVec 32 := Scalar.remsi arg0 c3_i32_6
  let v896 : Index := Scalar.indexCast v18
  let c16_403 : Index := 16#32
  let c384_404 : Index := 384#32
  ![v896.toNat, 16, 384]
def k0_off134 (i : grid0.Coords) : Fin 3 → Nat :=
  let arg0 : BitVec 32 := BitVec.ofNat 32 (i 0).val
  let c3_i32_6 : BitVec 32 := 3#32
  let v18 : BitVec 32 := Scalar.remsi arg0 c3_i32_6
  let v914 : Index := Scalar.indexCast v18
  let c16_410 : Index := 16#32
  let c512_411 : Index := 512#32
  ![v914.toNat, 16, 512]
def k0_off135 (i : grid0.Coords) : Fin 3 → Nat :=
  let arg0 : BitVec 32 := BitVec.ofNat 32 (i 0).val
  let c3_i32_6 : BitVec 32 := 3#32
  let v18 : BitVec 32 := Scalar.remsi arg0 c3_i32_6
  let v932 : Index := Scalar.indexCast v18
  let c16_417 : Index := 16#32
  let c640_418 : Index := 640#32
  ![v932.toNat, 16, 640]
def k0_off136 (i : grid0.Coords) : Fin 3 → Nat :=
  let arg0 : BitVec 32 := BitVec.ofNat 32 (i 0).val
  let c3_i32_6 : BitVec 32 := 3#32
  let v18 : BitVec 32 := Scalar.remsi arg0 c3_i32_6
  let v950 : Index := Scalar.indexCast v18
  let c16_424 : Index := 16#32
  let c768_425 : Index := 768#32
  ![v950.toNat, 16, 768]
def k0_off137 (i : grid0.Coords) : Fin 3 → Nat :=
  let arg0 : BitVec 32 := BitVec.ofNat 32 (i 0).val
  let c3_i32_6 : BitVec 32 := 3#32
  let v18 : BitVec 32 := Scalar.remsi arg0 c3_i32_6
  let v968 : Index := Scalar.indexCast v18
  let c16_431 : Index := 16#32
  let c896_432 : Index := 896#32
  ![v968.toNat, 16, 896]
def k0_off138 (i : grid0.Coords) : Fin 3 → Nat :=
  let arg0 : BitVec 32 := BitVec.ofNat 32 (i 0).val
  let c3_i32_6 : BitVec 32 := 3#32
  let v18 : BitVec 32 := Scalar.remsi arg0 c3_i32_6
  let v986 : Index := Scalar.indexCast v18
  let c16_438 : Index := 16#32
  let c1024_439 : Index := 1024#32
  ![v986.toNat, 16, 1024]
def k0_off139 (i : grid0.Coords) : Fin 3 → Nat :=
  let arg0 : BitVec 32 := BitVec.ofNat 32 (i 0).val
  let c3_i32_6 : BitVec 32 := 3#32
  let v18 : BitVec 32 := Scalar.remsi arg0 c3_i32_6
  let v1004 : Index := Scalar.indexCast v18
  let c16_445 : Index := 16#32
  let c1152_446 : Index := 1152#32
  ![v1004.toNat, 16, 1152]
def k0_off140 (i : grid0.Coords) : Fin 3 → Nat :=
  let arg0 : BitVec 32 := BitVec.ofNat 32 (i 0).val
  let c3_i32_6 : BitVec 32 := 3#32
  let v18 : BitVec 32 := Scalar.remsi arg0 c3_i32_6
  let v1022 : Index := Scalar.indexCast v18
  let c16_452 : Index := 16#32
  let c1280_453 : Index := 1280#32
  ![v1022.toNat, 16, 1280]
def k0_off141 (i : grid0.Coords) : Fin 3 → Nat :=
  let arg0 : BitVec 32 := BitVec.ofNat 32 (i 0).val
  let c3_i32_6 : BitVec 32 := 3#32
  let v18 : BitVec 32 := Scalar.remsi arg0 c3_i32_6
  let v1040 : Index := Scalar.indexCast v18
  let c16_459 : Index := 16#32
  let c1408_460 : Index := 1408#32
  ![v1040.toNat, 16, 1408]
def k0_off142 (i : grid0.Coords) : Fin 3 → Nat :=
  let arg0 : BitVec 32 := BitVec.ofNat 32 (i 0).val
  let c3_i32_6 : BitVec 32 := 3#32
  let v18 : BitVec 32 := Scalar.remsi arg0 c3_i32_6
  let v1058 : Index := Scalar.indexCast v18
  let c16_466 : Index := 16#32
  let c1536_467 : Index := 1536#32
  ![v1058.toNat, 16, 1536]
def k0_off143 (i : grid0.Coords) : Fin 3 → Nat :=
  let arg0 : BitVec 32 := BitVec.ofNat 32 (i 0).val
  let c3_i32_6 : BitVec 32 := 3#32
  let v18 : BitVec 32 := Scalar.remsi arg0 c3_i32_6
  let v1076 : Index := Scalar.indexCast v18
  let c16_473 : Index := 16#32
  let c1664_474 : Index := 1664#32
  ![v1076.toNat, 16, 1664]
def k0_off144 (i : grid0.Coords) : Fin 3 → Nat :=
  let arg0 : BitVec 32 := BitVec.ofNat 32 (i 0).val
  let c3_i32_6 : BitVec 32 := 3#32
  let v18 : BitVec 32 := Scalar.remsi arg0 c3_i32_6
  let v1463 : Index := Scalar.indexCast v18
  let c32 : Index := 32#32
  let c0_681 : Index := 0#32
  ![v1463.toNat, 32, 0]
def k0_off145 (i : grid0.Coords) : Fin 3 → Nat :=
  let arg0 : BitVec 32 := BitVec.ofNat 32 (i 0).val
  let c3_i32_6 : BitVec 32 := 3#32
  let v18 : BitVec 32 := Scalar.remsi arg0 c3_i32_6
  let v1481 : Index := Scalar.indexCast v18
  let c32_687 : Index := 32#32
  let c128_688 : Index := 128#32
  ![v1481.toNat, 32, 128]
def k0_off146 (i : grid0.Coords) : Fin 3 → Nat :=
  let arg0 : BitVec 32 := BitVec.ofNat 32 (i 0).val
  let c3_i32_6 : BitVec 32 := 3#32
  let v18 : BitVec 32 := Scalar.remsi arg0 c3_i32_6
  let v1499 : Index := Scalar.indexCast v18
  let c32_694 : Index := 32#32
  let c256_695 : Index := 256#32
  ![v1499.toNat, 32, 256]
def k0_off147 (i : grid0.Coords) : Fin 3 → Nat :=
  let arg0 : BitVec 32 := BitVec.ofNat 32 (i 0).val
  let c3_i32_6 : BitVec 32 := 3#32
  let v18 : BitVec 32 := Scalar.remsi arg0 c3_i32_6
  let v1517 : Index := Scalar.indexCast v18
  let c32_701 : Index := 32#32
  let c384_702 : Index := 384#32
  ![v1517.toNat, 32, 384]
def k0_off148 (i : grid0.Coords) : Fin 3 → Nat :=
  let arg0 : BitVec 32 := BitVec.ofNat 32 (i 0).val
  let c3_i32_6 : BitVec 32 := 3#32
  let v18 : BitVec 32 := Scalar.remsi arg0 c3_i32_6
  let v1535 : Index := Scalar.indexCast v18
  let c32_708 : Index := 32#32
  let c512_709 : Index := 512#32
  ![v1535.toNat, 32, 512]
def k0_off149 (i : grid0.Coords) : Fin 3 → Nat :=
  let arg0 : BitVec 32 := BitVec.ofNat 32 (i 0).val
  let c3_i32_6 : BitVec 32 := 3#32
  let v18 : BitVec 32 := Scalar.remsi arg0 c3_i32_6
  let v1553 : Index := Scalar.indexCast v18
  let c32_715 : Index := 32#32
  let c640_716 : Index := 640#32
  ![v1553.toNat, 32, 640]
def k0_off150 (i : grid0.Coords) : Fin 3 → Nat :=
  let arg0 : BitVec 32 := BitVec.ofNat 32 (i 0).val
  let c3_i32_6 : BitVec 32 := 3#32
  let v18 : BitVec 32 := Scalar.remsi arg0 c3_i32_6
  let v1571 : Index := Scalar.indexCast v18
  let c32_722 : Index := 32#32
  let c768_723 : Index := 768#32
  ![v1571.toNat, 32, 768]
def k0_off151 (i : grid0.Coords) : Fin 3 → Nat :=
  let arg0 : BitVec 32 := BitVec.ofNat 32 (i 0).val
  let c3_i32_6 : BitVec 32 := 3#32
  let v18 : BitVec 32 := Scalar.remsi arg0 c3_i32_6
  let v1589 : Index := Scalar.indexCast v18
  let c32_729 : Index := 32#32
  let c896_730 : Index := 896#32
  ![v1589.toNat, 32, 896]
def k0_off152 (i : grid0.Coords) : Fin 3 → Nat :=
  let arg0 : BitVec 32 := BitVec.ofNat 32 (i 0).val
  let c3_i32_6 : BitVec 32 := 3#32
  let v18 : BitVec 32 := Scalar.remsi arg0 c3_i32_6
  let v1607 : Index := Scalar.indexCast v18
  let c32_736 : Index := 32#32
  let c1024_737 : Index := 1024#32
  ![v1607.toNat, 32, 1024]
def k0_off153 (i : grid0.Coords) : Fin 3 → Nat :=
  let arg0 : BitVec 32 := BitVec.ofNat 32 (i 0).val
  let c3_i32_6 : BitVec 32 := 3#32
  let v18 : BitVec 32 := Scalar.remsi arg0 c3_i32_6
  let v1625 : Index := Scalar.indexCast v18
  let c32_743 : Index := 32#32
  let c1152_744 : Index := 1152#32
  ![v1625.toNat, 32, 1152]
def k0_off154 (i : grid0.Coords) : Fin 3 → Nat :=
  let arg0 : BitVec 32 := BitVec.ofNat 32 (i 0).val
  let c3_i32_6 : BitVec 32 := 3#32
  let v18 : BitVec 32 := Scalar.remsi arg0 c3_i32_6
  let v1643 : Index := Scalar.indexCast v18
  let c32_750 : Index := 32#32
  let c1280_751 : Index := 1280#32
  ![v1643.toNat, 32, 1280]
def k0_off155 (i : grid0.Coords) : Fin 3 → Nat :=
  let arg0 : BitVec 32 := BitVec.ofNat 32 (i 0).val
  let c3_i32_6 : BitVec 32 := 3#32
  let v18 : BitVec 32 := Scalar.remsi arg0 c3_i32_6
  let v1661 : Index := Scalar.indexCast v18
  let c32_757 : Index := 32#32
  let c1408_758 : Index := 1408#32
  ![v1661.toNat, 32, 1408]
def k0_off156 (i : grid0.Coords) : Fin 3 → Nat :=
  let arg0 : BitVec 32 := BitVec.ofNat 32 (i 0).val
  let c3_i32_6 : BitVec 32 := 3#32
  let v18 : BitVec 32 := Scalar.remsi arg0 c3_i32_6
  let v1679 : Index := Scalar.indexCast v18
  let c32_764 : Index := 32#32
  let c1536_765 : Index := 1536#32
  ![v1679.toNat, 32, 1536]
def k0_off157 (i : grid0.Coords) : Fin 3 → Nat :=
  let arg0 : BitVec 32 := BitVec.ofNat 32 (i 0).val
  let c3_i32_6 : BitVec 32 := 3#32
  let v18 : BitVec 32 := Scalar.remsi arg0 c3_i32_6
  let v1697 : Index := Scalar.indexCast v18
  let c32_771 : Index := 32#32
  let c1664_772 : Index := 1664#32
  ![v1697.toNat, 32, 1664]
def k0_off158 (i : grid0.Coords) : Fin 3 → Nat :=
  let arg0 : BitVec 32 := BitVec.ofNat 32 (i 0).val
  let c3_i32_6 : BitVec 32 := 3#32
  let v18 : BitVec 32 := Scalar.remsi arg0 c3_i32_6
  let v2084 : Index := Scalar.indexCast v18
  let c48 : Index := 48#32
  let c0_978 : Index := 0#32
  ![v2084.toNat, 48, 0]
def k0_off159 (i : grid0.Coords) : Fin 3 → Nat :=
  let arg0 : BitVec 32 := BitVec.ofNat 32 (i 0).val
  let c3_i32_6 : BitVec 32 := 3#32
  let v18 : BitVec 32 := Scalar.remsi arg0 c3_i32_6
  let v2102 : Index := Scalar.indexCast v18
  let c48_984 : Index := 48#32
  let c128_985 : Index := 128#32
  ![v2102.toNat, 48, 128]
def k0_off160 (i : grid0.Coords) : Fin 3 → Nat :=
  let arg0 : BitVec 32 := BitVec.ofNat 32 (i 0).val
  let c3_i32_6 : BitVec 32 := 3#32
  let v18 : BitVec 32 := Scalar.remsi arg0 c3_i32_6
  let v2120 : Index := Scalar.indexCast v18
  let c48_991 : Index := 48#32
  let c256_992 : Index := 256#32
  ![v2120.toNat, 48, 256]
def k0_off161 (i : grid0.Coords) : Fin 3 → Nat :=
  let arg0 : BitVec 32 := BitVec.ofNat 32 (i 0).val
  let c3_i32_6 : BitVec 32 := 3#32
  let v18 : BitVec 32 := Scalar.remsi arg0 c3_i32_6
  let v2138 : Index := Scalar.indexCast v18
  let c48_998 : Index := 48#32
  let c384_999 : Index := 384#32
  ![v2138.toNat, 48, 384]
def k0_off162 (i : grid0.Coords) : Fin 3 → Nat :=
  let arg0 : BitVec 32 := BitVec.ofNat 32 (i 0).val
  let c3_i32_6 : BitVec 32 := 3#32
  let v18 : BitVec 32 := Scalar.remsi arg0 c3_i32_6
  let v2156 : Index := Scalar.indexCast v18
  let c48_1005 : Index := 48#32
  let c512_1006 : Index := 512#32
  ![v2156.toNat, 48, 512]
def k0_off163 (i : grid0.Coords) : Fin 3 → Nat :=
  let arg0 : BitVec 32 := BitVec.ofNat 32 (i 0).val
  let c3_i32_6 : BitVec 32 := 3#32
  let v18 : BitVec 32 := Scalar.remsi arg0 c3_i32_6
  let v2174 : Index := Scalar.indexCast v18
  let c48_1012 : Index := 48#32
  let c640_1013 : Index := 640#32
  ![v2174.toNat, 48, 640]
def k0_off164 (i : grid0.Coords) : Fin 3 → Nat :=
  let arg0 : BitVec 32 := BitVec.ofNat 32 (i 0).val
  let c3_i32_6 : BitVec 32 := 3#32
  let v18 : BitVec 32 := Scalar.remsi arg0 c3_i32_6
  let v2192 : Index := Scalar.indexCast v18
  let c48_1019 : Index := 48#32
  let c768_1020 : Index := 768#32
  ![v2192.toNat, 48, 768]
def k0_off165 (i : grid0.Coords) : Fin 3 → Nat :=
  let arg0 : BitVec 32 := BitVec.ofNat 32 (i 0).val
  let c3_i32_6 : BitVec 32 := 3#32
  let v18 : BitVec 32 := Scalar.remsi arg0 c3_i32_6
  let v2210 : Index := Scalar.indexCast v18
  let c48_1026 : Index := 48#32
  let c896_1027 : Index := 896#32
  ![v2210.toNat, 48, 896]
def k0_off166 (i : grid0.Coords) : Fin 3 → Nat :=
  let arg0 : BitVec 32 := BitVec.ofNat 32 (i 0).val
  let c3_i32_6 : BitVec 32 := 3#32
  let v18 : BitVec 32 := Scalar.remsi arg0 c3_i32_6
  let v2228 : Index := Scalar.indexCast v18
  let c48_1033 : Index := 48#32
  let c1024_1034 : Index := 1024#32
  ![v2228.toNat, 48, 1024]
def k0_off167 (i : grid0.Coords) : Fin 3 → Nat :=
  let arg0 : BitVec 32 := BitVec.ofNat 32 (i 0).val
  let c3_i32_6 : BitVec 32 := 3#32
  let v18 : BitVec 32 := Scalar.remsi arg0 c3_i32_6
  let v2246 : Index := Scalar.indexCast v18
  let c48_1040 : Index := 48#32
  let c1152_1041 : Index := 1152#32
  ![v2246.toNat, 48, 1152]
def k0_off168 (i : grid0.Coords) : Fin 3 → Nat :=
  let arg0 : BitVec 32 := BitVec.ofNat 32 (i 0).val
  let c3_i32_6 : BitVec 32 := 3#32
  let v18 : BitVec 32 := Scalar.remsi arg0 c3_i32_6
  let v2264 : Index := Scalar.indexCast v18
  let c48_1047 : Index := 48#32
  let c1280_1048 : Index := 1280#32
  ![v2264.toNat, 48, 1280]
def k0_off169 (i : grid0.Coords) : Fin 3 → Nat :=
  let arg0 : BitVec 32 := BitVec.ofNat 32 (i 0).val
  let c3_i32_6 : BitVec 32 := 3#32
  let v18 : BitVec 32 := Scalar.remsi arg0 c3_i32_6
  let v2282 : Index := Scalar.indexCast v18
  let c48_1054 : Index := 48#32
  let c1408_1055 : Index := 1408#32
  ![v2282.toNat, 48, 1408]
def k0_off170 (i : grid0.Coords) : Fin 3 → Nat :=
  let arg0 : BitVec 32 := BitVec.ofNat 32 (i 0).val
  let c3_i32_6 : BitVec 32 := 3#32
  let v18 : BitVec 32 := Scalar.remsi arg0 c3_i32_6
  let v2300 : Index := Scalar.indexCast v18
  let c48_1061 : Index := 48#32
  let c1536_1062 : Index := 1536#32
  ![v2300.toNat, 48, 1536]
def k0_off171 (i : grid0.Coords) : Fin 3 → Nat :=
  let arg0 : BitVec 32 := BitVec.ofNat 32 (i 0).val
  let c3_i32_6 : BitVec 32 := 3#32
  let v18 : BitVec 32 := Scalar.remsi arg0 c3_i32_6
  let v2318 : Index := Scalar.indexCast v18
  let c48_1068 : Index := 48#32
  let c1664_1069 : Index := 1664#32
  ![v2318.toNat, 48, 1664]
def k0_off172 (i : grid0.Coords) : Fin 3 → Nat :=
  let arg0 : BitVec 32 := BitVec.ofNat 32 (i 0).val
  let c3_i32_6 : BitVec 32 := 3#32
  let v18 : BitVec 32 := Scalar.remsi arg0 c3_i32_6
  let v2705 : Index := Scalar.indexCast v18
  let c64 : Index := 64#32
  let c0_1275 : Index := 0#32
  ![v2705.toNat, 64, 0]
def k0_off173 (i : grid0.Coords) : Fin 3 → Nat :=
  let arg0 : BitVec 32 := BitVec.ofNat 32 (i 0).val
  let c3_i32_6 : BitVec 32 := 3#32
  let v18 : BitVec 32 := Scalar.remsi arg0 c3_i32_6
  let v2723 : Index := Scalar.indexCast v18
  let c64_1281 : Index := 64#32
  let c128_1282 : Index := 128#32
  ![v2723.toNat, 64, 128]
def k0_off174 (i : grid0.Coords) : Fin 3 → Nat :=
  let arg0 : BitVec 32 := BitVec.ofNat 32 (i 0).val
  let c3_i32_6 : BitVec 32 := 3#32
  let v18 : BitVec 32 := Scalar.remsi arg0 c3_i32_6
  let v2741 : Index := Scalar.indexCast v18
  let c64_1288 : Index := 64#32
  let c256_1289 : Index := 256#32
  ![v2741.toNat, 64, 256]
def k0_off175 (i : grid0.Coords) : Fin 3 → Nat :=
  let arg0 : BitVec 32 := BitVec.ofNat 32 (i 0).val
  let c3_i32_6 : BitVec 32 := 3#32
  let v18 : BitVec 32 := Scalar.remsi arg0 c3_i32_6
  let v2759 : Index := Scalar.indexCast v18
  let c64_1295 : Index := 64#32
  let c384_1296 : Index := 384#32
  ![v2759.toNat, 64, 384]
def k0_off176 (i : grid0.Coords) : Fin 3 → Nat :=
  let arg0 : BitVec 32 := BitVec.ofNat 32 (i 0).val
  let c3_i32_6 : BitVec 32 := 3#32
  let v18 : BitVec 32 := Scalar.remsi arg0 c3_i32_6
  let v2777 : Index := Scalar.indexCast v18
  let c64_1302 : Index := 64#32
  let c512_1303 : Index := 512#32
  ![v2777.toNat, 64, 512]
def k0_off177 (i : grid0.Coords) : Fin 3 → Nat :=
  let arg0 : BitVec 32 := BitVec.ofNat 32 (i 0).val
  let c3_i32_6 : BitVec 32 := 3#32
  let v18 : BitVec 32 := Scalar.remsi arg0 c3_i32_6
  let v2795 : Index := Scalar.indexCast v18
  let c64_1309 : Index := 64#32
  let c640_1310 : Index := 640#32
  ![v2795.toNat, 64, 640]
def k0_off178 (i : grid0.Coords) : Fin 3 → Nat :=
  let arg0 : BitVec 32 := BitVec.ofNat 32 (i 0).val
  let c3_i32_6 : BitVec 32 := 3#32
  let v18 : BitVec 32 := Scalar.remsi arg0 c3_i32_6
  let v2813 : Index := Scalar.indexCast v18
  let c64_1316 : Index := 64#32
  let c768_1317 : Index := 768#32
  ![v2813.toNat, 64, 768]
def k0_off179 (i : grid0.Coords) : Fin 3 → Nat :=
  let arg0 : BitVec 32 := BitVec.ofNat 32 (i 0).val
  let c3_i32_6 : BitVec 32 := 3#32
  let v18 : BitVec 32 := Scalar.remsi arg0 c3_i32_6
  let v2831 : Index := Scalar.indexCast v18
  let c64_1323 : Index := 64#32
  let c896_1324 : Index := 896#32
  ![v2831.toNat, 64, 896]
def k0_off180 (i : grid0.Coords) : Fin 3 → Nat :=
  let arg0 : BitVec 32 := BitVec.ofNat 32 (i 0).val
  let c3_i32_6 : BitVec 32 := 3#32
  let v18 : BitVec 32 := Scalar.remsi arg0 c3_i32_6
  let v2849 : Index := Scalar.indexCast v18
  let c64_1330 : Index := 64#32
  let c1024_1331 : Index := 1024#32
  ![v2849.toNat, 64, 1024]
def k0_off181 (i : grid0.Coords) : Fin 3 → Nat :=
  let arg0 : BitVec 32 := BitVec.ofNat 32 (i 0).val
  let c3_i32_6 : BitVec 32 := 3#32
  let v18 : BitVec 32 := Scalar.remsi arg0 c3_i32_6
  let v2867 : Index := Scalar.indexCast v18
  let c64_1337 : Index := 64#32
  let c1152_1338 : Index := 1152#32
  ![v2867.toNat, 64, 1152]
def k0_off182 (i : grid0.Coords) : Fin 3 → Nat :=
  let arg0 : BitVec 32 := BitVec.ofNat 32 (i 0).val
  let c3_i32_6 : BitVec 32 := 3#32
  let v18 : BitVec 32 := Scalar.remsi arg0 c3_i32_6
  let v2885 : Index := Scalar.indexCast v18
  let c64_1344 : Index := 64#32
  let c1280_1345 : Index := 1280#32
  ![v2885.toNat, 64, 1280]
def k0_off183 (i : grid0.Coords) : Fin 3 → Nat :=
  let arg0 : BitVec 32 := BitVec.ofNat 32 (i 0).val
  let c3_i32_6 : BitVec 32 := 3#32
  let v18 : BitVec 32 := Scalar.remsi arg0 c3_i32_6
  let v2903 : Index := Scalar.indexCast v18
  let c64_1351 : Index := 64#32
  let c1408_1352 : Index := 1408#32
  ![v2903.toNat, 64, 1408]
def k0_off184 (i : grid0.Coords) : Fin 3 → Nat :=
  let arg0 : BitVec 32 := BitVec.ofNat 32 (i 0).val
  let c3_i32_6 : BitVec 32 := 3#32
  let v18 : BitVec 32 := Scalar.remsi arg0 c3_i32_6
  let v2921 : Index := Scalar.indexCast v18
  let c64_1358 : Index := 64#32
  let c1536_1359 : Index := 1536#32
  ![v2921.toNat, 64, 1536]
def k0_off185 (i : grid0.Coords) : Fin 3 → Nat :=
  let arg0 : BitVec 32 := BitVec.ofNat 32 (i 0).val
  let c3_i32_6 : BitVec 32 := 3#32
  let v18 : BitVec 32 := Scalar.remsi arg0 c3_i32_6
  let v2939 : Index := Scalar.indexCast v18
  let c64_1365 : Index := 64#32
  let c1664_1366 : Index := 1664#32
  ![v2939.toNat, 64, 1664]
def k0_off186 (i : grid0.Coords) : Fin 3 → Nat :=
  let arg0 : BitVec 32 := BitVec.ofNat 32 (i 0).val
  let c3_i32_6 : BitVec 32 := 3#32
  let v18 : BitVec 32 := Scalar.remsi arg0 c3_i32_6
  let v3326 : Index := Scalar.indexCast v18
  let c80 : Index := 80#32
  let c0_1572 : Index := 0#32
  ![v3326.toNat, 80, 0]
def k0_off187 (i : grid0.Coords) : Fin 3 → Nat :=
  let arg0 : BitVec 32 := BitVec.ofNat 32 (i 0).val
  let c3_i32_6 : BitVec 32 := 3#32
  let v18 : BitVec 32 := Scalar.remsi arg0 c3_i32_6
  let v3344 : Index := Scalar.indexCast v18
  let c80_1578 : Index := 80#32
  let c128_1579 : Index := 128#32
  ![v3344.toNat, 80, 128]
def k0_off188 (i : grid0.Coords) : Fin 3 → Nat :=
  let arg0 : BitVec 32 := BitVec.ofNat 32 (i 0).val
  let c3_i32_6 : BitVec 32 := 3#32
  let v18 : BitVec 32 := Scalar.remsi arg0 c3_i32_6
  let v3362 : Index := Scalar.indexCast v18
  let c80_1585 : Index := 80#32
  let c256_1586 : Index := 256#32
  ![v3362.toNat, 80, 256]
def k0_off189 (i : grid0.Coords) : Fin 3 → Nat :=
  let arg0 : BitVec 32 := BitVec.ofNat 32 (i 0).val
  let c3_i32_6 : BitVec 32 := 3#32
  let v18 : BitVec 32 := Scalar.remsi arg0 c3_i32_6
  let v3380 : Index := Scalar.indexCast v18
  let c80_1592 : Index := 80#32
  let c384_1593 : Index := 384#32
  ![v3380.toNat, 80, 384]
def k0_off190 (i : grid0.Coords) : Fin 3 → Nat :=
  let arg0 : BitVec 32 := BitVec.ofNat 32 (i 0).val
  let c3_i32_6 : BitVec 32 := 3#32
  let v18 : BitVec 32 := Scalar.remsi arg0 c3_i32_6
  let v3398 : Index := Scalar.indexCast v18
  let c80_1599 : Index := 80#32
  let c512_1600 : Index := 512#32
  ![v3398.toNat, 80, 512]
def k0_off191 (i : grid0.Coords) : Fin 3 → Nat :=
  let arg0 : BitVec 32 := BitVec.ofNat 32 (i 0).val
  let c3_i32_6 : BitVec 32 := 3#32
  let v18 : BitVec 32 := Scalar.remsi arg0 c3_i32_6
  let v3416 : Index := Scalar.indexCast v18
  let c80_1606 : Index := 80#32
  let c640_1607 : Index := 640#32
  ![v3416.toNat, 80, 640]
def k0_off192 (i : grid0.Coords) : Fin 3 → Nat :=
  let arg0 : BitVec 32 := BitVec.ofNat 32 (i 0).val
  let c3_i32_6 : BitVec 32 := 3#32
  let v18 : BitVec 32 := Scalar.remsi arg0 c3_i32_6
  let v3434 : Index := Scalar.indexCast v18
  let c80_1613 : Index := 80#32
  let c768_1614 : Index := 768#32
  ![v3434.toNat, 80, 768]
def k0_off193 (i : grid0.Coords) : Fin 3 → Nat :=
  let arg0 : BitVec 32 := BitVec.ofNat 32 (i 0).val
  let c3_i32_6 : BitVec 32 := 3#32
  let v18 : BitVec 32 := Scalar.remsi arg0 c3_i32_6
  let v3452 : Index := Scalar.indexCast v18
  let c80_1620 : Index := 80#32
  let c896_1621 : Index := 896#32
  ![v3452.toNat, 80, 896]
def k0_off194 (i : grid0.Coords) : Fin 3 → Nat :=
  let arg0 : BitVec 32 := BitVec.ofNat 32 (i 0).val
  let c3_i32_6 : BitVec 32 := 3#32
  let v18 : BitVec 32 := Scalar.remsi arg0 c3_i32_6
  let v3470 : Index := Scalar.indexCast v18
  let c80_1627 : Index := 80#32
  let c1024_1628 : Index := 1024#32
  ![v3470.toNat, 80, 1024]
def k0_off195 (i : grid0.Coords) : Fin 3 → Nat :=
  let arg0 : BitVec 32 := BitVec.ofNat 32 (i 0).val
  let c3_i32_6 : BitVec 32 := 3#32
  let v18 : BitVec 32 := Scalar.remsi arg0 c3_i32_6
  let v3488 : Index := Scalar.indexCast v18
  let c80_1634 : Index := 80#32
  let c1152_1635 : Index := 1152#32
  ![v3488.toNat, 80, 1152]
def k0_off196 (i : grid0.Coords) : Fin 3 → Nat :=
  let arg0 : BitVec 32 := BitVec.ofNat 32 (i 0).val
  let c3_i32_6 : BitVec 32 := 3#32
  let v18 : BitVec 32 := Scalar.remsi arg0 c3_i32_6
  let v3506 : Index := Scalar.indexCast v18
  let c80_1641 : Index := 80#32
  let c1280_1642 : Index := 1280#32
  ![v3506.toNat, 80, 1280]
def k0_off197 (i : grid0.Coords) : Fin 3 → Nat :=
  let arg0 : BitVec 32 := BitVec.ofNat 32 (i 0).val
  let c3_i32_6 : BitVec 32 := 3#32
  let v18 : BitVec 32 := Scalar.remsi arg0 c3_i32_6
  let v3524 : Index := Scalar.indexCast v18
  let c80_1648 : Index := 80#32
  let c1408_1649 : Index := 1408#32
  ![v3524.toNat, 80, 1408]
def k0_off198 (i : grid0.Coords) : Fin 3 → Nat :=
  let arg0 : BitVec 32 := BitVec.ofNat 32 (i 0).val
  let c3_i32_6 : BitVec 32 := 3#32
  let v18 : BitVec 32 := Scalar.remsi arg0 c3_i32_6
  let v3542 : Index := Scalar.indexCast v18
  let c80_1655 : Index := 80#32
  let c1536_1656 : Index := 1536#32
  ![v3542.toNat, 80, 1536]
def k0_off199 (i : grid0.Coords) : Fin 3 → Nat :=
  let arg0 : BitVec 32 := BitVec.ofNat 32 (i 0).val
  let c3_i32_6 : BitVec 32 := 3#32
  let v18 : BitVec 32 := Scalar.remsi arg0 c3_i32_6
  let v3560 : Index := Scalar.indexCast v18
  let c80_1662 : Index := 80#32
  let c1664_1663 : Index := 1664#32
  ![v3560.toNat, 80, 1664]
def k0_off200 (i : grid0.Coords) : Fin 3 → Nat :=
  let arg0 : BitVec 32 := BitVec.ofNat 32 (i 0).val
  let c3_i32_6 : BitVec 32 := 3#32
  let v18 : BitVec 32 := Scalar.remsi arg0 c3_i32_6
  let v3947 : Index := Scalar.indexCast v18
  let c96 : Index := 96#32
  let c0_1869 : Index := 0#32
  ![v3947.toNat, 96, 0]
def k0_off201 (i : grid0.Coords) : Fin 3 → Nat :=
  let arg0 : BitVec 32 := BitVec.ofNat 32 (i 0).val
  let c3_i32_6 : BitVec 32 := 3#32
  let v18 : BitVec 32 := Scalar.remsi arg0 c3_i32_6
  let v3965 : Index := Scalar.indexCast v18
  let c96_1875 : Index := 96#32
  let c128_1876 : Index := 128#32
  ![v3965.toNat, 96, 128]
def k0_off202 (i : grid0.Coords) : Fin 3 → Nat :=
  let arg0 : BitVec 32 := BitVec.ofNat 32 (i 0).val
  let c3_i32_6 : BitVec 32 := 3#32
  let v18 : BitVec 32 := Scalar.remsi arg0 c3_i32_6
  let v3983 : Index := Scalar.indexCast v18
  let c96_1882 : Index := 96#32
  let c256_1883 : Index := 256#32
  ![v3983.toNat, 96, 256]
def k0_off203 (i : grid0.Coords) : Fin 3 → Nat :=
  let arg0 : BitVec 32 := BitVec.ofNat 32 (i 0).val
  let c3_i32_6 : BitVec 32 := 3#32
  let v18 : BitVec 32 := Scalar.remsi arg0 c3_i32_6
  let v4001 : Index := Scalar.indexCast v18
  let c96_1889 : Index := 96#32
  let c384_1890 : Index := 384#32
  ![v4001.toNat, 96, 384]
def k0_off204 (i : grid0.Coords) : Fin 3 → Nat :=
  let arg0 : BitVec 32 := BitVec.ofNat 32 (i 0).val
  let c3_i32_6 : BitVec 32 := 3#32
  let v18 : BitVec 32 := Scalar.remsi arg0 c3_i32_6
  let v4019 : Index := Scalar.indexCast v18
  let c96_1896 : Index := 96#32
  let c512_1897 : Index := 512#32
  ![v4019.toNat, 96, 512]
def k0_off205 (i : grid0.Coords) : Fin 3 → Nat :=
  let arg0 : BitVec 32 := BitVec.ofNat 32 (i 0).val
  let c3_i32_6 : BitVec 32 := 3#32
  let v18 : BitVec 32 := Scalar.remsi arg0 c3_i32_6
  let v4037 : Index := Scalar.indexCast v18
  let c96_1903 : Index := 96#32
  let c640_1904 : Index := 640#32
  ![v4037.toNat, 96, 640]
def k0_off206 (i : grid0.Coords) : Fin 3 → Nat :=
  let arg0 : BitVec 32 := BitVec.ofNat 32 (i 0).val
  let c3_i32_6 : BitVec 32 := 3#32
  let v18 : BitVec 32 := Scalar.remsi arg0 c3_i32_6
  let v4055 : Index := Scalar.indexCast v18
  let c96_1910 : Index := 96#32
  let c768_1911 : Index := 768#32
  ![v4055.toNat, 96, 768]
def k0_off207 (i : grid0.Coords) : Fin 3 → Nat :=
  let arg0 : BitVec 32 := BitVec.ofNat 32 (i 0).val
  let c3_i32_6 : BitVec 32 := 3#32
  let v18 : BitVec 32 := Scalar.remsi arg0 c3_i32_6
  let v4073 : Index := Scalar.indexCast v18
  let c96_1917 : Index := 96#32
  let c896_1918 : Index := 896#32
  ![v4073.toNat, 96, 896]
def k0_off208 (i : grid0.Coords) : Fin 3 → Nat :=
  let arg0 : BitVec 32 := BitVec.ofNat 32 (i 0).val
  let c3_i32_6 : BitVec 32 := 3#32
  let v18 : BitVec 32 := Scalar.remsi arg0 c3_i32_6
  let v4091 : Index := Scalar.indexCast v18
  let c96_1924 : Index := 96#32
  let c1024_1925 : Index := 1024#32
  ![v4091.toNat, 96, 1024]
def k0_off209 (i : grid0.Coords) : Fin 3 → Nat :=
  let arg0 : BitVec 32 := BitVec.ofNat 32 (i 0).val
  let c3_i32_6 : BitVec 32 := 3#32
  let v18 : BitVec 32 := Scalar.remsi arg0 c3_i32_6
  let v4109 : Index := Scalar.indexCast v18
  let c96_1931 : Index := 96#32
  let c1152_1932 : Index := 1152#32
  ![v4109.toNat, 96, 1152]
def k0_off210 (i : grid0.Coords) : Fin 3 → Nat :=
  let arg0 : BitVec 32 := BitVec.ofNat 32 (i 0).val
  let c3_i32_6 : BitVec 32 := 3#32
  let v18 : BitVec 32 := Scalar.remsi arg0 c3_i32_6
  let v4127 : Index := Scalar.indexCast v18
  let c96_1938 : Index := 96#32
  let c1280_1939 : Index := 1280#32
  ![v4127.toNat, 96, 1280]
def k0_off211 (i : grid0.Coords) : Fin 3 → Nat :=
  let arg0 : BitVec 32 := BitVec.ofNat 32 (i 0).val
  let c3_i32_6 : BitVec 32 := 3#32
  let v18 : BitVec 32 := Scalar.remsi arg0 c3_i32_6
  let v4145 : Index := Scalar.indexCast v18
  let c96_1945 : Index := 96#32
  let c1408_1946 : Index := 1408#32
  ![v4145.toNat, 96, 1408]
def k0_off212 (i : grid0.Coords) : Fin 3 → Nat :=
  let arg0 : BitVec 32 := BitVec.ofNat 32 (i 0).val
  let c3_i32_6 : BitVec 32 := 3#32
  let v18 : BitVec 32 := Scalar.remsi arg0 c3_i32_6
  let v4163 : Index := Scalar.indexCast v18
  let c96_1952 : Index := 96#32
  let c1536_1953 : Index := 1536#32
  ![v4163.toNat, 96, 1536]
def k0_off213 (i : grid0.Coords) : Fin 3 → Nat :=
  let arg0 : BitVec 32 := BitVec.ofNat 32 (i 0).val
  let c3_i32_6 : BitVec 32 := 3#32
  let v18 : BitVec 32 := Scalar.remsi arg0 c3_i32_6
  let v4181 : Index := Scalar.indexCast v18
  let c96_1959 : Index := 96#32
  let c1664_1960 : Index := 1664#32
  ![v4181.toNat, 96, 1664]
def k0_off214 (i : grid0.Coords) : Fin 3 → Nat :=
  let arg0 : BitVec 32 := BitVec.ofNat 32 (i 0).val
  let c3_i32_6 : BitVec 32 := 3#32
  let v18 : BitVec 32 := Scalar.remsi arg0 c3_i32_6
  let v4568 : Index := Scalar.indexCast v18
  let c112 : Index := 112#32
  let c0_2166 : Index := 0#32
  ![v4568.toNat, 112, 0]
def k0_off215 (i : grid0.Coords) : Fin 3 → Nat :=
  let arg0 : BitVec 32 := BitVec.ofNat 32 (i 0).val
  let c3_i32_6 : BitVec 32 := 3#32
  let v18 : BitVec 32 := Scalar.remsi arg0 c3_i32_6
  let v4586 : Index := Scalar.indexCast v18
  let c112_2172 : Index := 112#32
  let c128_2173 : Index := 128#32
  ![v4586.toNat, 112, 128]
def k0_off216 (i : grid0.Coords) : Fin 3 → Nat :=
  let arg0 : BitVec 32 := BitVec.ofNat 32 (i 0).val
  let c3_i32_6 : BitVec 32 := 3#32
  let v18 : BitVec 32 := Scalar.remsi arg0 c3_i32_6
  let v4604 : Index := Scalar.indexCast v18
  let c112_2179 : Index := 112#32
  let c256_2180 : Index := 256#32
  ![v4604.toNat, 112, 256]
def k0_off217 (i : grid0.Coords) : Fin 3 → Nat :=
  let arg0 : BitVec 32 := BitVec.ofNat 32 (i 0).val
  let c3_i32_6 : BitVec 32 := 3#32
  let v18 : BitVec 32 := Scalar.remsi arg0 c3_i32_6
  let v4622 : Index := Scalar.indexCast v18
  let c112_2186 : Index := 112#32
  let c384_2187 : Index := 384#32
  ![v4622.toNat, 112, 384]
def k0_off218 (i : grid0.Coords) : Fin 3 → Nat :=
  let arg0 : BitVec 32 := BitVec.ofNat 32 (i 0).val
  let c3_i32_6 : BitVec 32 := 3#32
  let v18 : BitVec 32 := Scalar.remsi arg0 c3_i32_6
  let v4640 : Index := Scalar.indexCast v18
  let c112_2193 : Index := 112#32
  let c512_2194 : Index := 512#32
  ![v4640.toNat, 112, 512]
def k0_off219 (i : grid0.Coords) : Fin 3 → Nat :=
  let arg0 : BitVec 32 := BitVec.ofNat 32 (i 0).val
  let c3_i32_6 : BitVec 32 := 3#32
  let v18 : BitVec 32 := Scalar.remsi arg0 c3_i32_6
  let v4658 : Index := Scalar.indexCast v18
  let c112_2200 : Index := 112#32
  let c640_2201 : Index := 640#32
  ![v4658.toNat, 112, 640]
def k0_off220 (i : grid0.Coords) : Fin 3 → Nat :=
  let arg0 : BitVec 32 := BitVec.ofNat 32 (i 0).val
  let c3_i32_6 : BitVec 32 := 3#32
  let v18 : BitVec 32 := Scalar.remsi arg0 c3_i32_6
  let v4676 : Index := Scalar.indexCast v18
  let c112_2207 : Index := 112#32
  let c768_2208 : Index := 768#32
  ![v4676.toNat, 112, 768]
def k0_off221 (i : grid0.Coords) : Fin 3 → Nat :=
  let arg0 : BitVec 32 := BitVec.ofNat 32 (i 0).val
  let c3_i32_6 : BitVec 32 := 3#32
  let v18 : BitVec 32 := Scalar.remsi arg0 c3_i32_6
  let v4694 : Index := Scalar.indexCast v18
  let c112_2214 : Index := 112#32
  let c896_2215 : Index := 896#32
  ![v4694.toNat, 112, 896]
def k0_off222 (i : grid0.Coords) : Fin 3 → Nat :=
  let arg0 : BitVec 32 := BitVec.ofNat 32 (i 0).val
  let c3_i32_6 : BitVec 32 := 3#32
  let v18 : BitVec 32 := Scalar.remsi arg0 c3_i32_6
  let v4712 : Index := Scalar.indexCast v18
  let c112_2221 : Index := 112#32
  let c1024_2222 : Index := 1024#32
  ![v4712.toNat, 112, 1024]
def k0_off223 (i : grid0.Coords) : Fin 3 → Nat :=
  let arg0 : BitVec 32 := BitVec.ofNat 32 (i 0).val
  let c3_i32_6 : BitVec 32 := 3#32
  let v18 : BitVec 32 := Scalar.remsi arg0 c3_i32_6
  let v4730 : Index := Scalar.indexCast v18
  let c112_2228 : Index := 112#32
  let c1152_2229 : Index := 1152#32
  ![v4730.toNat, 112, 1152]
def k0_off224 (i : grid0.Coords) : Fin 3 → Nat :=
  let arg0 : BitVec 32 := BitVec.ofNat 32 (i 0).val
  let c3_i32_6 : BitVec 32 := 3#32
  let v18 : BitVec 32 := Scalar.remsi arg0 c3_i32_6
  let v4748 : Index := Scalar.indexCast v18
  let c112_2235 : Index := 112#32
  let c1280_2236 : Index := 1280#32
  ![v4748.toNat, 112, 1280]
def k0_off225 (i : grid0.Coords) : Fin 3 → Nat :=
  let arg0 : BitVec 32 := BitVec.ofNat 32 (i 0).val
  let c3_i32_6 : BitVec 32 := 3#32
  let v18 : BitVec 32 := Scalar.remsi arg0 c3_i32_6
  let v4766 : Index := Scalar.indexCast v18
  let c112_2242 : Index := 112#32
  let c1408_2243 : Index := 1408#32
  ![v4766.toNat, 112, 1408]
def k0_off226 (i : grid0.Coords) : Fin 3 → Nat :=
  let arg0 : BitVec 32 := BitVec.ofNat 32 (i 0).val
  let c3_i32_6 : BitVec 32 := 3#32
  let v18 : BitVec 32 := Scalar.remsi arg0 c3_i32_6
  let v4784 : Index := Scalar.indexCast v18
  let c112_2249 : Index := 112#32
  let c1536_2250 : Index := 1536#32
  ![v4784.toNat, 112, 1536]
def k0_off227 (i : grid0.Coords) : Fin 3 → Nat :=
  let arg0 : BitVec 32 := BitVec.ofNat 32 (i 0).val
  let c3_i32_6 : BitVec 32 := 3#32
  let v18 : BitVec 32 := Scalar.remsi arg0 c3_i32_6
  let v4802 : Index := Scalar.indexCast v18
  let c112_2256 : Index := 112#32
  let c1664_2257 : Index := 1664#32
  ![v4802.toNat, 112, 1664]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1x4096 : Shape := ⟨2, ![1, 4096]⟩
abbrev S64128x1792 : Shape := ⟨2, ![64128, 1792]⟩
abbrev S64128x14 : Shape := ⟨2, ![64128, 14]⟩
abbrev S1792 : Shape := ⟨1, ![1792]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1792 : Shape := ⟨2, ![4096, 1792]⟩
abbrev S4096x14 : Shape := ⟨2, ![4096, 14]⟩
abbrev S4096x14x128 : Shape := ⟨3, ![4096, 14, 128]⟩
abbrev S4096x14x1 : Shape := ⟨3, ![4096, 14, 1]⟩
abbrev S1x1792 : Shape := ⟨2, ![1, 1792]⟩

abbrev nBuf : Space → Nat
  | .hbm => 78
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S64128x1792, .i8⟩
  | .hbm, ⟨2, _⟩ => ⟨S64128x14, .f32⟩
  | .hbm, ⟨3, _⟩ => ⟨S1792, .bf16⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S1x1, .i32⟩
  | .hbm, ⟨18, _⟩ => ⟨S4096x1, .i32⟩
  | .hbm, ⟨19, _⟩ => ⟨S4096x1, .i1⟩
  | .hbm, ⟨20, _⟩ => ⟨S4096x1, .i1⟩
  | .hbm, ⟨21, _⟩ => ⟨S_, .i1⟩
  | .hbm, ⟨22, _⟩ => ⟨S4096, .i1⟩
  | .hbm, ⟨23, _⟩ => ⟨S4096x1792, .i8⟩
  | .hbm, ⟨24, _⟩ => ⟨S4096x1792, .i1⟩
  | .hbm, ⟨25, _⟩ => ⟨S_, .i8⟩
  | .hbm, ⟨26, _⟩ => ⟨S4096x1792, .i8⟩
  | .hbm, ⟨27, _⟩ => ⟨S4096x1792, .i8⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S1, .i32⟩
  | .hbm, ⟨37, _⟩ => ⟨S_, .i32⟩
  | .hbm, ⟨38, _⟩ => ⟨S4096x1, .i32⟩
  | .hbm, ⟨39, _⟩ => ⟨S4096x1, .i1⟩
  | .hbm, ⟨40, _⟩ => ⟨S1x1, .i32⟩
  | .hbm, ⟨41, _⟩ => ⟨S4096x1, .i32⟩
  | .hbm, ⟨42, _⟩ => ⟨S4096x1, .i1⟩
  | .hbm, ⟨43, _⟩ => ⟨S4096x1, .i1⟩
  | .hbm, ⟨44, _⟩ => ⟨S_, .i1⟩
  | .hbm, ⟨45, _⟩ => ⟨S4096, .i1⟩
  | .hbm, ⟨46, _⟩ => ⟨S4096x14, .f32⟩
  | .hbm, ⟨47, _⟩ => ⟨S4096x14, .i1⟩
  | .hbm, ⟨48, _⟩ => ⟨S_, .f32⟩
  | .hbm, ⟨49, _⟩ => ⟨S4096x14, .f32⟩
  | .hbm, ⟨50, _⟩ => ⟨S4096x14, .f32⟩
  | .hbm, ⟨51, _⟩ => ⟨S4096x14, .bf16⟩
  | .hbm, ⟨52, _⟩ => ⟨S4096x14x128, .i8⟩
  | .hbm, ⟨53, _⟩ => ⟨S4096x14x128, .i32⟩
  | .hbm, ⟨54, _⟩ => ⟨S4096x14x128, .bf16⟩
  | .hbm, ⟨55, _⟩ => ⟨S4096x14x1, .bf16⟩
  | .hbm, ⟨56, _⟩ => ⟨S4096x14x128, .bf16⟩
  | .hbm, ⟨57, _⟩ => ⟨S4096x14x128, .bf16⟩
  | .hbm, ⟨58, _⟩ => ⟨S4096x1792, .bf16⟩
  | .hbm, ⟨59, _⟩ => ⟨S4096x1792, .f32⟩
  | .hbm, ⟨60, _⟩ => ⟨S4096x1792, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1792, .f32⟩
  | .hbm, ⟨72, _⟩ => ⟨S4096x1792, .f32⟩
  | .hbm, ⟨73, _⟩ => ⟨S1792, .f32⟩
  | .hbm, ⟨74, _⟩ => ⟨S1x1792, .f32⟩
  | .hbm, ⟨75, _⟩ => ⟨S4096x1792, .f32⟩
  | .hbm, ⟨76, _⟩ => ⟨S4096x1792, .f32⟩
  | .hbm, ⟨77, _⟩ => ⟨S4096x1792, .bf16⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_4 : Ref sig .tc := ⟨.hbm, 25, rfl⟩
abbrev main_call0_v15 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_cst : Ref sig .tc := ⟨.hbm, 61, rfl⟩
abbrev main_v13 : Ref sig .tc := ⟨.hbm, 62, rfl⟩
abbrev main_v14 : Ref sig .tc := ⟨.hbm, 63, rfl⟩
abbrev main_cst_0 : Ref sig .tc := ⟨.hbm, 64, rfl⟩
abbrev main_v15 : Ref sig .tc := ⟨.hbm, 65, rfl⟩
abbrev main_v16 : Ref sig .tc := ⟨.hbm, 66, rfl⟩
abbrev main_cst_1 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩

abbrev nD : Nat := 1
abbrev τ : Topo := Topo.v7x

variable {F : FTy → Type} [FloatOps F]
-- ==== Proof.Ideal.Body.lean ====
/-
  The kernel's body, written as the program it was unrolled from: a row's copy, a step of the scale loop, one row's
  shift, one group's step of a tile, in each of the two passes — each ONE definition over its trip's numbers —, and the
  proof that the printed body IS their composition (`body_eq`).
-/
module

public import proofs.«01_k».proof.Proof.Gen.KernelIdeal
public import Idealize.ShloMosaic.Lib.Pipeline.Regions
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.Sem

universe v

variable {F : FTy → Type} [FloatOps F]

/-- One program per element of a list of numbers, in order. -/
def each {α : Type} {E : Type → Type v} (f : α → Prog E PUnit) : List α → Prog E PUnit
  | [] => .ret ⟨⟩
  | a :: l => f a >>= fun _ => each f l

/-- A fold over a list of numbers, in order. -/
def fold {α σ : Type} {E : Type → Type v} (f : α → σ → Prog E σ) : List α → σ → Prog E σ
  | [], s => .ret s
  | a :: l, s => f a s >>= fun s' => fold f l s'

/-- The numbers of a trip's eight rows, of a tile's sixteen rows, of a row's fourteen groups, of a block's eight tiles. -/
abbrev L8 : List (Fin 8) := [0, 1, 2, 3, 4, 5, 6, 7]
abbrev L16 : List (Fin 16) := [0, 1, 2, 3, 4, 5, 6, 7, 8, 9, 10, 11, 12, 13, 14, 15]
abbrev L14 : List (Fin 14) := [0, 1, 2, 3, 4, 5, 6, 7, 8, 9, 10, 11, 12, 13]

/-! ### Offsets -/

/-- The word of the id table the `u`-th row of trip `iv` of block `s` reads. -/
def idOff (s iv u : BitVec 32) : Fin 1 → Nat :=
  ![(Scalar.indexCast (Scalar.addi (Scalar.addi (Scalar.muli s 128#32) (Scalar.muli iv 8#32)) u)).toNat]

/-- The row of the ring the `u`-th row of trip `iv` of the block in slot `s` is copied to. -/
def ringOff (slot iv : BitVec 32) (u : Fin 8) : Fin 4 → Nat := ![slot.toNat, iv.toNat, u.val, 0]

/-- The row of the word table a token's row lies in. -/
def rowOff (v : BitVec 32) : Fin 2 → Nat := ![(Scalar.shrui v 2#32).toNat, 0]

/-- The word row lies inside the table: what the copy's start assumes of a token. -/
def rowOk (b : BitVec 1) (v : BitVec 32) : Prop :=
  ∀ (_ : b = 1#1), ∀ a, rowOff v a + S1x1792.size a ≤ S16032x1792.size a
instance rowOk.dec (b : BitVec 1) (v : BitVec 32) : Decidable (rowOk b v) :=
  decidable_of_iff' (∀ (_ : b = 1#1), ∀ a, rowOff v a + S1x1792.size a ≤ S16032x1792.size a) Iff.rfl

/-- The aligned 128 columns of the scale table a token's column lies in. -/
def scaleOff (v : BitVec 32) : Fin 2 → Nat := ![0, (Scalar.indexCast (Scalar.muli (Scalar.shrui v 7#32) 128#32)).toNat]
def scaleOk (v : BitVec 32) : Prop :=
  (128 ∣ (Scalar.muli (Scalar.shrui v 7#32) 128#32).toNat) ∧ (∀ a, scaleOff v a + S14x128.size a ≤ S14x64128.size a)
instance scaleOk.dec (v : BitVec 32) : Decidable (scaleOk v) :=
  decidable_of_iff' ((128 ∣ (Scalar.muli (Scalar.shrui v 7#32) 128#32).toNat) ∧ (∀ a, scaleOff v a + S14x128.size a ≤ S14x64128.size a)) Iff.rfl

theorem tile_inb (t : Fin 8) (g : Fin 14) : ∀ a, (![16 * t.val, 128 * g.val] : Fin 2 → Nat) a + S16x128.size a ≤ S128x1792.size a := by
  revert t g; decide +kernel
theorem tile_packed (t : Fin 8) (g : Fin 14) :
    (Rect.unit (s := S128x1792) ![16 * t.val, 128 * g.val] S16x128.size (tile_inb t g)).PackedRows (EltTy.packing .bf16) := by
  revert t g; decide +kernel
theorem scale_inb (t : Fin 8) (g : Fin 14) : ∀ a, (![16 * t.val, g.val] : Fin 2 → Nat) a + S16x1.size a ≤ S128x128.size a := by
  revert t g; decide +kernel
theorem weight_inb (g : Fin 14) : ∀ a, (![0, 128 * g.val] : Fin 2 → Nat) a + S1x128.size a ≤ S1x1792.size a := by
  revert g; decide +kernel

/-- The slot of grid point `i`. -/
abbrev slotOf (i : grid0.Coords) : BitVec 32 := Scalar.remsi (BitVec.ofNat 32 (i 0).val) 3#32

def wordOff (i : grid0.Coords) (t : Fin 8) (g : Fin 14) : Fin 3 → Nat :=
  ![(Scalar.indexCast (slotOf i)).toNat, 16 * t.val, 128 * g.val]
theorem word_inb : ∀ (i : grid0.Coords) (t : Fin 8) (g : Fin 14) (a), (wordOff i t g) a + S1x16x128.size a ≤ S3x128x1792.size a := by
  decide +kernel

theorem trips1 : k0_t1_loop.trips = 16 := by decide +kernel
theorem trips2 : k0_t2_loop.trips = 16 := by decide +kernel
theorem trips3 : k0_t3_loop.trips = 16 := by decide +kernel
theorem trips4 : k0_t4_loop.trips = 16 := by decide +kernel

/-- The induction variable of a sixteen-trip loop, -/
abbrev iv (k : Nat) : BitVec 32 := Scf.iv 0#32 1#32 k
theorem iv_toNat : ∀ k : Fin 16, (iv k.val).toNat = k.val := by decide +kernel
theorem iv_toNat' (k : Nat) (hk : k < 16) : (iv k).toNat = k := iv_toNat ⟨k, hk⟩

/-- The id a row's copy reads is the block's, the trip's and the row's numbers put together. -/
theorem idOff_eq (s : BitVec 32) (hs : s.toNat < 32) (k : Nat) (hk : k < 16) (u : Fin 8) :
    idOff s (iv k) (BitVec.ofNat 32 u.val) = ![s.toNat * 128 + k * 8 + u.val] := by
  have h := iv_toNat' k hk
  have hu := u.isLt
  unfold idOff
  congr 1
  simp only [Scalar.indexCast, Scalar.addi, Scalar.muli, IntOp.addi, IntOp.muli, BitVec.toNat_add, BitVec.toNat_mul, BitVec.toNat_ofNat, h]
  omega
theorem idOff_inb (s : BitVec 32) (hs : s.toNat < 32) (k : Nat) (hk : k < 16) (u : Fin 8) :
    ∀ a, idOff s (iv k) (BitVec.ofNat 32 u.val) a + S1.size a ≤ S4096.size a := by
  rw [idOff_eq s hs k hk u]
  intro a
  have hu := u.isLt
  fin_cases a
  show s.toNat * 128 + k * 8 + u.val + 1 ≤ 4096
  omega
theorem ringOff_inb (slot : BitVec 32) (hs : slot.toNat < 3) (k : Nat) (hk : k < 16) (u : Fin 8) :
    ∀ a, ringOff slot (iv k) u a + S1x1x1x1792.size a ≤ S3x16x8x1792.size a := by
  intro a
  have h := iv_toNat' k hk
  have hu := u.isLt
  fin_cases a
  · show slot.toNat + 1 ≤ 3; omega
  · show (iv k).toNat + 1 ≤ 16; omega
  · show u.val + 1 ≤ 8; omega
  · show 0 + 1792 ≤ 1792; omega
theorem semOff_inb (slot : BitVec 32) (hs : slot.toNat < 3) : ∀ a, (![slot.toNat] : Fin 1 → Nat) a + S1.size a ≤ S3.size a := by
  intro a
  fin_cases a
  show slot.toNat + 1 ≤ 3; omega

/-- The block started at grid point `i`: the one two ahead, as the kernel computes it. -/
abbrev ahead (i : grid0.Coords) : BitVec 32 := Scalar.subi (Scalar.addi (BitVec.ofNat 32 (i 0).val) 3#32) 1#32
theorem ahead_toNat : ∀ i : grid0.Coords, (ahead i).toNat = (i 0).val + 2 := by decide +kernel
theorem cond1_iff : ∀ i : grid0.Coords, (k0_cond1 i = 1#1 ↔ (i 0).val = 0) := by decide +kernel
theorem cond2_iff : ∀ i : grid0.Coords, (k0_cond2 i = 1#1 ↔ (i 0).val + 2 < 32) := by decide +kernel
theorem ahead_lt (i : grid0.Coords) (h : k0_cond2 i = 1#1) : (ahead i).toNat < 32 := by
  rw [ahead_toNat]; exact (cond2_iff i).mp h
/-- A block's slot. -/
abbrev slotB (s : BitVec 32) : BitVec 32 := Scalar.remsi s 3#32
theorem slotB_toNat : ∀ s : Fin 34, (slotB (BitVec.ofNat 32 s.val)).toNat = s.val % 3 := by decide +kernel
theorem slotB_lt (s : BitVec 32) (hs : s.toNat < 34) : (slotB s).toNat < 3 := by
  have h := slotB_toNat ⟨s.toNat, hs⟩
  simp only [BitVec.ofNat_toNat, BitVec.setWidth_eq] at h
  rw [h]; exact Nat.mod_lt _ (by decide)

/-- The token a step of the scale loop reads. -/
def pickOff (i : grid0.Coords) (lane : BitVec 32) : Fin 1 → Nat :=
  ![(Scalar.indexCast (Scalar.addi (Scalar.muli (BitVec.ofNat 32 (i 0).val) 128#32) lane)).toNat]
/-- The lane of the `u`-th step of trip `k`. -/
abbrev laneOf (k : Nat) (u : Fin 8) : BitVec 32 := Scalar.addi (Scalar.muli (iv k) 8#32) (BitVec.ofNat 32 u.val)
theorem laneOf_toNat (k : Nat) (hk : k < 16) (u : Fin 8) : (laneOf k u).toNat = 8 * k + u.val := by
  have h := iv_toNat' k hk
  have hu := u.isLt
  simp only [laneOf, Scalar.addi, Scalar.muli, IntOp.addi, IntOp.muli, BitVec.toNat_add, BitVec.toNat_mul, BitVec.toNat_ofNat, h]
  omega
theorem pickOff_eq (i : grid0.Coords) (k : Nat) (hk : k < 16) (u : Fin 8) :
    pickOff i (laneOf k u) = ![(i 0).val * 128 + (8 * k + u.val)] := by
  have h := laneOf_toNat k hk u
  have hu := u.isLt
  have hi : (i 0).val < 32 := (i 0).isLt
  unfold pickOff
  congr 1
  simp only [Scalar.indexCast, Scalar.addi, Scalar.muli, IntOp.addi, IntOp.muli, BitVec.toNat_add, BitVec.toNat_mul, BitVec.toNat_ofNat] at h ⊢
  omega
theorem pickOff_inb (i : grid0.Coords) (k : Nat) (hk : k < 16) (u : Fin 8) :
    ∀ a, pickOff i (laneOf k u) a + S1.size a ≤ S4096.size a := by
  rw [pickOff_eq i k hk u]
  intro a
  have hu := u.isLt
  have hi : (i 0).val < 32 := (i 0).isLt
  fin_cases a
  show (i 0).val * 128 + (8 * k + u.val) + 1 ≤ 4096
  omega

/-! ### The pieces -/

section Pieces
variable (i : grid0.Coords) (arg1 : Memref sig .tc .smem S4096 .i32) (arg2 : Memref sig .tc .hbm S16032x1792 .i32)
  (arg4 : Memref sig .tc .vmem S1x1792 .bf16)
  (arg5 : Memref sig .tc .vmem S128x1792 .bf16) (harg5 : arg5.IsWhole)
  (arg6 : Memref sig .tc .vmem S128x1792 .bf16) (harg6 : arg6.IsWhole)
  (arg7 : Memref sig .tc .vmem S3x16x8x1792 .i32) (harg7 : arg7.IsWhole)
  (arg8 : Memref sig .tc .vmem S14x64128 .f32) (arg9 : Memref sig .tc .vmem S128x128 .f32) (arg10 : DmaSems sig S3)

/-- One row's copy started: the token read, its word row of the table copied to the ring's row, on the slot's semaphore. -/
def rowStart (b : BitVec 1) (hb : b = 1#1) (o1 : Fin 1 → Nat) (h1 : ∀ a, o1 a + S1.size a ≤ S4096.size a)
    (o2 : Fin 1 → Nat) (h2 : ∀ a, o2 a + S1.size a ≤ S3.size a)
    (o3 : Fin 4 → Nat) (h3 : ∀ a, o3 a + S1x1x1x1792.size a ≤ S3x16x8x1792.size a) :
    Prog (TpuEff nD τ sig (Elt F) Λ₀ .tc) PUnit := do
  let v : Elt F .i32 ← smemLoad arg1 (Rect.unit (s := S4096) o1 S1.size h1) numel1_S1 rfl
  have hw : rowOk b v := (← Prog.lift (TpuEff.assume (rowOk b v) (rowOk.dec b v))).down
  Prog.lift (.enqueueDma
    (arg2.slice (Rect.unit (s := S16032x1792) (rowOff v) S1x1792.size (hw hb)) (fun _ => rfl))
    (.here ((arg7.slice (Rect.unit (s := S3x16x8x1792) o3 S1x1x1x1792.size h3) (fun _ => rfl)).squeeze S1x1792 squeezes_S1x1x1x1792_S1x1792))
    (.dma ((arg10.slice (Rect.unit (s := S3) o2 S1.size h2)).squeeze S_ squeezes_S1_S_).sem)
    (View.wordExact_bits rfl) ((View.wordExact_bits rfl).reshape _ _) ⟨Or.inl rfl, trivial⟩)

/-- One step of the scale loop: the token's column of the scale table rotated to lane `t` of the tile and kept there. -/
def pickStep (v8 : IVec S14x128 32) (lane : BitVec 32) (o1 : Fin 1 → Nat) (h1 : ∀ a, o1 a + S1.size a ≤ S4096.size a)
    (acc : FVec F S14x128 .f32) : Prog (TpuEff nD τ sig (Elt F) Λ₀ .tc) (FVec F S14x128 .f32) := do
  let v : Elt F .i32 ← smemLoad arg1 (Rect.unit (s := S4096) o1 S1.size h1) numel1_S1 rfl
  have hw : scaleOk v := (← Prog.lift (TpuEff.assume (scaleOk v) (scaleOk.dec v))).down
  let x : Vec F S14x128 .f32 ← Prog.lift (.load arg8 (Rect.unit (s := S14x64128) (scaleOff v) S14x128.size hw.2).toLoadRect (View.loadsAt_vmem h_S14x128))
  pure (select (cmpi .eq v8 (broadcast S14x128 lane)) (dynamicRotate 1 (Scalar.andi (Scalar.subi lane v) 127#32) none x rotates_S14x128_d1) acc)

/-- One row's shift read from its token and kept in the tile's column of shifts. -/
def upStep (v25 : IVec S16x1 32) (t : Fin 8) (u : Fin 16) (up : IVec S16x1 32) : Prog (TpuEff nD τ sig (Elt F) Λ₀ .tc) (IVec S16x1 32) := do
  let v : Elt F .i32 ← smemLoad arg1 (Rect.unit (s := S4096) (k0_off115 i (BitVec.ofNat 32 (16 * t.val)) (BitVec.ofNat 32 u.val)) S1.size (k0_off115_inb i t u)) numel1_S1 rfl
  pure (select (cmpi .eq v25 (broadcast S16x1 (BitVec.ofNat 32 u.val))) (broadcast S16x1 (Scalar.muli (Scalar.subi 3#32 (Scalar.andi v 3#32)) 8#32)) up)

/-- A group of a tile, dequantised: the words' bytes shifted out, as floats, times the rows' scales, rounded. -/
def deq (up : IVec S16x1 32) (w : Vec F S1x16x128 .i32) (sc : Vec F S16x1 .f32) : FVec F S16x128 .bf16 :=
  truncf .bf16 (mulf (sitofp .f32 (shrsi (shli (shapeCast S16x128 w shapeCasts_S1x16x128_S16x128)
      (broadcastTo S16x128 (shapeCast S16x1 up shapeCasts_S16x1_S16x1) broadcasts_S16x1_S16x128)) (broadcast S16x128 24#32)))
    (broadcastTo S16x128 sc broadcasts_S16x1_S16x128)) bitsLt_bf16_f32

/-- The sum of squares with one more group in it. -/
def sqAdd (acc : FVec F S16x128 .f32) (e : FVec F S16x128 .bf16) : FVec F S16x128 .f32 :=
  addf acc (mulf (extf .f32 e bitsLt_bf16_f32) (extf .f32 e bitsLt_bf16_f32))

/-- One group's step of the first pass over a tile: dequantise, store, add the squares. -/
def grpStep (t : Fin 8) (up : IVec S16x1 32) (g : Fin 14) (acc : FVec F S16x128 .f32) : Prog (TpuEff nD τ sig (Elt F) Λ₀ .tc) (FVec F S16x128 .f32) := do
  let w : Vec F S1x16x128 .i32 ← Prog.lift (.load (arg7.reshape S3x128x1792 reshapes_S3x16x8x1792_S3x128x1792.1 reshapes_S3x16x8x1792_S3x128x1792.2 harg7.contiguous)
    (Rect.unit (s := S3x128x1792) (wordOff i t g) S1x16x128.size (word_inb i t g)).toLoadRect (View.loadsAt_vmem h_S1x16x128))
  let sc : Vec F S16x1 .f32 ← Prog.lift (.load arg9 (Rect.unit (s := S128x128) ![16 * t.val, g.val] S16x1.size (scale_inb t g)).toLoadRect (View.loadsAt_vmem h_S16x1))
  let _ : Vec F S16x128 .bf16 ← Prog.lift (.load arg6 (Rect.unit (s := S128x1792) ![16 * t.val, 128 * g.val] S16x128.size (tile_inb t g)).toLoadRect (View.loadsAt_vmem h_S16x128))
  Prog.lift (.store arg6 (Rect.unit (s := S128x1792) ![16 * t.val, 128 * g.val] S16x128.size (tile_inb t g)) (deq up w sc) Finset.univ (View.stores_vmem h_S16x128 (harg6.storeExact_slice rfl _ (tile_packed t g)) (fun _ => rfl)) (.inl rfl))
  pure (sqAdd acc (deq up w sc))

/-- The reciprocal root of a tile's mean square. -/
def rmsRec (acc : FVec F S16x128 .f32) : FVec F S16x1 .f32 :=
  rsqrt (addf (divf (shapeCast S16x1 (multiReduction .add [1] S16 acc 0x00000000#32 reduces_S16x128_S16 (.inl rfl) rfl) shapeCasts_S16_S16x1)
    (broadcast S16x1 (Scalar.ofBits .f32 0x44E00000#32))) (broadcast S16x1 (Scalar.ofBits .f32 0x358637BD#32)))

/-- A group of the result: the embedding times the reciprocal root, times the weights, rounded. -/
def normed (r : FVec F S16x1 .f32) (e : Vec F S16x128 .bf16) (w : Vec F S1x128 .bf16) : FVec F S16x128 .bf16 :=
  truncf .bf16 (mulf (mulf (extf .f32 (shapeCast S16x128 e shapeCasts_S16x128_S16x128) bitsLt_bf16_f32) (broadcastTo S16x128 r broadcasts_S16x1_S16x128))
    (broadcastTo S16x128 (extf .f32 (shapeCast S1x128 w shapeCasts_S1x128_S1x128) bitsLt_bf16_f32) broadcasts_S1x128_S16x128)) bitsLt_bf16_f32

/-- One group's step of the second pass over a tile. -/
def outStep (t : Fin 8) (r : FVec F S16x1 .f32) (g : Fin 14) : Prog (TpuEff nD τ sig (Elt F) Λ₀ .tc) PUnit := do
  let e : Vec F S16x128 .bf16 ← Prog.lift (.load arg6 (Rect.unit (s := S128x1792) ![16 * t.val, 128 * g.val] S16x128.size (tile_inb t g)).toLoadRect (View.loadsAt_vmem h_S16x128))
  let w : Vec F S1x128 .bf16 ← Prog.lift (.load arg4 (Rect.unit (s := S1x1792) ![0, 128 * g.val] S1x128.size (weight_inb g)).toLoadRect (View.loadsAt_vmem h_S1x128))
  let _ : Vec F S16x128 .bf16 ← Prog.lift (.load arg5 (Rect.unit (s := S128x1792) ![16 * t.val, 128 * g.val] S16x128.size (tile_inb t g)).toLoadRect (View.loadsAt_vmem h_S16x128))
  Prog.lift (.store arg5 (Rect.unit (s := S128x1792) ![16 * t.val, 128 * g.val] S16x128.size (tile_inb t g)) (normed r e w) Finset.univ (View.stores_vmem h_S16x128 (harg5.storeExact_slice rfl _ (tile_packed t g)) (fun _ => rfl)) (.inl rfl))

/-- A tile of sixteen rows: its shifts, the first pass, the second. -/
def tile (v25 : IVec S16x1 32) (t : Fin 8) : Prog (TpuEff nD τ sig (Elt F) Λ₀ .tc) PUnit := do
  let up ← fold (upStep (F := F) i arg1 v25 t) L16 (broadcast S16x1 0#32)
  let acc ← fold (grpStep i arg6 harg6 arg7 harg7 arg9 t up) L14 (broadcast S16x128 (Scalar.ofBits .f32 0x00000000#32))
  each (outStep arg4 arg5 harg5 arg6 t (rmsRec acc)) L14

/-- A trip of a block's start: eight rows' copies. -/
def startTrip (b : BitVec 1) (hb : b = 1#1) (s : BitVec 32) (hs : s.toNat < 32) (k : Nat) (hk : k < 16) : Prog (TpuEff nD τ sig (Elt F) Λ₀ .tc) PUnit :=
  each (fun u : Fin 8 => rowStart (F := F) arg1 arg2 arg7 arg10 b hb (idOff s (iv k) (BitVec.ofNat 32 u.val)) (idOff_inb s hs k hk u)
    ![(slotB s).toNat] (semOff_inb _ (slotB_lt s (by omega))) (ringOff (slotB s) (iv k) u) (ringOff_inb _ (slotB_lt s (by omega)) k hk u)) L8

/-- A trip of the scale loop: eight steps. -/
def pickTrip (v8 : IVec S14x128 32) (k : Nat) (hk : k < 16) (acc : FVec F S14x128 .f32) : Prog (TpuEff nD τ sig (Elt F) Λ₀ .tc) (FVec F S14x128 .f32) :=
  fold (fun u : Fin 8 => pickStep (F := F) arg1 arg8 v8 (laneOf k u) (pickOff i (laneOf k u)) (pickOff_inb i k hk u)) L8 acc

variable (arg3 : Memref sig .tc .hbm S14x64128 .f32) (harg3 : arg3.IsWhole) (harg8 : arg8.IsWhole) (arg11 : DmaSems sig S_)

/-- The scales of a block's tokens, as the scale loop gathers them (a lane per token), turned to rows and rounded. -/
def metaOf (acc : FVec F S14x128 .f32) : FVec F S128x14 .f32 :=
  shapeCast S128x14 (extf .f32 (truncf .bf16 (transpose S128x14 [1, 0] acc transposes_S14x128_p1_0_S128x14) bitsLt_bf16_f32) bitsLt_bf16_f32) shapeCasts_S128x14_S128x14

/-- The pipeline's filling, at the first grid point: the scale table's copy, the first two blocks' row copies, and the
    scale table waited for. -/
def fill : Prog (TpuEff nD τ sig (Elt F) Λ₀ .tc) PUnit :=
  if h1 : k0_cond1 i = 1#1 then do
    Prog.lift (.enqueueDma arg3 (.here arg8) (.dma arg11.sem) harg3.wordExact harg8.wordExact ⟨Or.inl rfl, trivial⟩)
    Scf.Loop.for k0_t1_loop (k0_t1_ok i h1) ⟨⟩ fun k _ => startTrip (F := F) arg1 arg2 arg7 arg10 (k0_cond1 i) h1 0#32 (by decide) k.val (trips1 ▸ k.isLt)
    Scf.Loop.for k0_t2_loop (k0_t2_ok i h1) ⟨⟩ fun k _ => startTrip (F := F) arg1 arg2 arg7 arg10 (k0_cond1 i) h1 1#32 (by decide) k.val (trips2 ▸ k.isLt)
    Prog.lift (.waitDma2 arg11.sem arg3 arg8 harg3.wordExact harg8.wordExact)
    pure ⟨⟩
  else pure ⟨⟩

/-- The block two ahead started, if there is one. -/
def next : Prog (TpuEff nD τ sig (Elt F) Λ₀ .tc) PUnit :=
  if h2 : k0_cond2 i = 1#1 then do
    Scf.Loop.for k0_t3_loop (k0_t3_ok i h2) ⟨⟩ fun k _ => startTrip (F := F) arg1 arg2 arg7 arg10 (k0_cond2 i) h2 (ahead i) (ahead_lt i h2) k.val (trips3 ▸ k.isLt)
    pure ⟨⟩
  else pure ⟨⟩

/-- The block's scales gathered. -/
def pick : Prog (TpuEff nD τ sig (Elt F) Λ₀ .tc) (FVec F S14x128 .f32) :=
  Scf.Loop.for k0_t4_loop k0_t4_ok (broadcast S14x128 (Scalar.ofBits .f32 0x00000000#32)) fun k acc =>
    pickTrip (F := F) i arg1 arg8 (iota .tc S14x128 32 [1] iota_S14x128_d1_w32) k.val (trips4 ▸ k.isLt) acc

/-- The scales kept as columns. -/
def keep (acc : FVec F S14x128 .f32) : Prog (TpuEff nD τ sig (Elt F) Λ₀ .tc) PUnit := do
  let _ : Vec F S128x14 .f32 ← Prog.lift (.load arg9 (Rect.unit (s := S128x128) ![0, 0] S128x14.size inb_S128x128_S128x14_0_0).toLoadRect (View.loadsAt_vmem h_S128x14))
  Prog.lift (.store arg9 (Rect.unit (s := S128x128) ![0, 0] S128x14.size inb_S128x128_S128x14_0_0) (metaOf acc) Finset.univ (View.stores_vmem_bits_univ h_S128x14 rfl) (.inl rfl))

/-- The block's 128 row copies waited for at once. -/
def drain : Prog (TpuEff nD τ sig (Elt F) Λ₀ .tc) PUnit :=
  Prog.lift (.waitDma2 ((arg10.slice (Rect.unit (s := S3) (k0_off113 i) S1.size (k0_off113_inb i))).squeeze S_ squeezes_S1_S_).sem
    (arg2.slice (Rect.unit (s := S16032x1792) ![0, 0] S128x1792.size inb_S16032x1792_S128x1792_0_0) (fun _ => rfl))
    (((arg7.reshape S3x128x1792 reshapes_S3x16x8x1792_S3x128x1792.1 reshapes_S3x16x8x1792_S3x128x1792.2 harg7.contiguous).slice (Rect.unit (s := S3x128x1792) (k0_off114 i) S1x128x1792.size (k0_off114_inb i)) (fun _ => rfl)).squeeze S128x1792 squeezes_S1x128x1792_S128x1792)
    (View.wordExact_bits rfl) ((View.wordExact_bits rfl).reshape _ _))

/-- The block's eight tiles. -/
def tiles : Prog (TpuEff nD τ sig (Elt F) Λ₀ .tc) PUnit :=
  each (tile (F := F) i arg1 arg4 arg5 harg5 arg6 harg6 arg7 harg7 arg9 (iota .tc S16x1 32 [0] iota_S16x1_d0_w32)) L8

/-- The kernel at one grid point. -/
def body : Prog (TpuEff nD τ sig (Elt F) Λ₀ .tc) PUnit := do
  fill (F := F) i arg1 arg2 arg7 arg8 arg10 arg3 harg3 harg8 arg11
  next (F := F) i arg1 arg2 arg7 arg10
  let acc ← pick (F := F) i arg1 arg8
  keep (F := F) arg9 acc
  drain (F := F) i arg2 arg7 harg7 arg10
  tiles (F := F) i arg1 arg4 arg5 harg5 arg6 harg6 arg7 harg7 arg9

end Pieces

section Eq
variable (i : grid0.Coords) (arg1 : Memref sig .tc .smem S4096 .i32) (harg1 : arg1.IsWhole) (arg2 : Memref sig .tc .hbm S16032x1792 .i32) (harg2 : arg2.IsWhole) (arg3 : Memref sig .tc .hbm S14x64128 .f32) (harg3 : arg3.IsWhole) (arg4 : Memref sig .tc .vmem S1x1792 .bf16) (harg4 : arg4.IsWhole) (arg5 : Memref sig .tc .vmem S128x1792 .bf16) (harg5 : arg5.IsWhole) (arg6 : Memref sig .tc .vmem S128x1792 .bf16) (harg6 : arg6.IsWhole) (arg7 : Memref sig .tc .vmem S3x16x8x1792 .i32) (harg7 : arg7.IsWhole) (arg8 : Memref sig .tc .vmem S14x64128 .f32) (harg8 : arg8.IsWhole) (arg9 : Memref sig .tc .vmem S128x128 .f32) (harg9 : arg9.IsWhole) (arg10 : DmaSems sig S3) (arg11 : DmaSems sig S_)

/-- The printed body's first window, as printed, over the pieces. -/
theorem part10_eq : k0_part10 (F := F) i arg1 harg1 arg2 harg2 arg3 harg3 arg4 harg4 arg5 harg5 arg6 harg6 arg7 harg7 arg8 harg8 arg9 harg9 arg10 arg11 = (do
  if h1 : k0_cond1 i = 1#1 then do
    Prog.lift (.enqueueDma arg3 (.here arg8) (.dma arg11.sem) harg3.wordExact harg8.wordExact ⟨Or.inl rfl, trivial⟩)
    Scf.Loop.for k0_t1_loop (k0_t1_ok i h1) ⟨⟩ fun k _ => startTrip (F := F) arg1 arg2 arg7 arg10 (k0_cond1 i) h1 0#32 (by decide) k.val (trips1 ▸ k.isLt)
    Scf.Loop.for k0_t2_loop (k0_t2_ok i h1) ⟨⟩ fun k _ => startTrip (F := F) arg1 arg2 arg7 arg10 (k0_cond1 i) h1 1#32 (by decide) k.val (trips2 ▸ k.isLt)
    Prog.lift (.waitDma2 arg11.sem arg3 arg8 harg3.wordExact harg8.wordExact)
    pure ⟨⟩
  else do
    pure ⟨⟩
  if h2 : k0_cond2 i = 1#1 then do
    Scf.Loop.for k0_t3_loop (k0_t3_ok i h2) ⟨⟩ fun k _ => startTrip (F := F) arg1 arg2 arg7 arg10 (k0_cond2 i) h2 (ahead i) (ahead_lt i h2) k.val (trips3 ▸ k.isLt)
    pure ⟨⟩
  else do
    pure ⟨⟩
  let acc : FVec F S14x128 .f32 ← pick (F := F) i arg1 arg8
  keep (F := F) arg9 acc
  drain (F := F) i arg2 arg7 harg7 arg10
  let v31 : Elt F .i32 ← smemLoad arg1 (Rect.unit (s := S4096) (k0_off115 i 0#32 0#32) S1.size (k0_off115_inb i 0 0)) numel1_S1 rfl
  pure ⟨BitVec.ofNat 32 (i 0).val, slotOf i, iota .tc S16x1 32 [0] iota_S16x1_d0_w32, broadcast S16x1 0#32, v31, 3#32⟩) := by
  chain_rfl

theorem part10_eq' : k0_part10 (F := F) i arg1 harg1 arg2 harg2 arg3 harg3 arg4 harg4 arg5 harg5 arg6 harg6 arg7 harg7 arg8 harg8 arg9 harg9 arg10 arg11 = (do
    fill (F := F) i arg1 arg2 arg7 arg8 arg10 arg3 harg3 harg8 arg11
    next (F := F) i arg1 arg2 arg7 arg10
    let acc ← pick (F := F) i arg1 arg8
    keep (F := F) arg9 acc
    drain (F := F) i arg2 arg7 harg7 arg10
    let v31 : Elt F .i32 ← smemLoad arg1 (Rect.unit (s := S4096) (k0_off115 i 0#32 0#32) S1.size (k0_off115_inb i 0 0)) numel1_S1 rfl
    pure ⟨BitVec.ofNat 32 (i 0).val, slotOf i, iota .tc S16x1 32 [0] iota_S16x1_d0_w32, broadcast S16x1 0#32, v31, 3#32⟩) := by
  rw [part10_eq]
  by_cases h1 : k0_cond1 i = 1#1 <;> by_cases h2 : k0_cond2 i = 1#1 <;>
    simp only [fill, next, dif_pos, dif_neg, h1, h2, not_false_eq_true, bind_assoc, pure_bind]

/-- The printed body after its first window, in its two halves. -/
def restA (x : Σ' (arg0 : BitVec 32) (v18 : BitVec 32) (v25 : IVec S16x1 32) (v26 : IVec S16x1 32) (v31 : Elt F .i32), BitVec 32) :
    Prog (TpuEff nD τ sig (Elt F) Λ₀ .tc) (Σ' (arg0 : BitVec 32) (v18 : BitVec 32) (v25 : IVec S16x1 32) (v2341 : FVec F S16x1 .f32) (v2356 : FVec F S16x128 .f32), FVec F S16x128 .f32) :=
  match x with
  | ⟨arg0, v18, v25, v26, v31, c3_i32_14⟩ => do
    let ⟨v62, v69⟩ : Σ' (v62 : IVec S16x1 32), BitVec 32 ← k0_part11 i arg1 harg1 arg2 harg2 arg3 harg3 arg4 harg4 arg5 harg5 arg6 harg6 arg7 harg7 arg8 harg8 arg9 harg9 arg10 arg11 arg0 v25 v26 v31 c3_i32_14
    let ⟨v98, v106, c6_i32_54⟩ : Σ' (v98 : IVec S16x1 32) (v106 : BitVec 32), BitVec 32 ← k0_part12 i arg1 harg1 arg2 harg2 arg3 harg3 arg4 harg4 arg5 harg5 arg6 harg6 arg7 harg7 arg8 harg8 arg9 harg9 arg10 arg11 arg0 v25 v62 v69
    let ⟨v134, v144, v145⟩ : Σ' (v134 : IVec S16x1 32) (v144 : IVec S16x1 1), IVec S16x1 32 ← k0_part13 i arg1 harg1 arg2 harg2 arg3 harg3 arg4 harg4 arg5 harg5 arg6 harg6 arg7 harg7 arg8 harg8 arg9 harg9 arg10 arg11 arg0 v25 v98 v106 c6_i32_54
    let ⟨v182, v183⟩ : Σ' (v182 : IVec S16x1 32), BitVec 32 ← k0_part14 i arg1 harg1 arg2 harg2 arg3 harg3 arg4 harg4 arg5 harg5 arg6 harg6 arg7 harg7 arg8 harg8 arg9 harg9 arg10 arg11 arg0 v25 v134 v144 v145
    let ⟨v218, v219⟩ : Σ' (v218 : IVec S16x1 32), FVec F S16x128 .f32 ← k0_part15 i arg1 harg1 arg2 harg2 arg3 harg3 arg4 harg4 arg5 harg5 arg6 harg6 arg7 harg7 arg8 harg8 arg9 harg9 arg10 arg11 arg0 v18 v25 v182 v183
    let ⟨v255, v262, v263⟩ : Σ' (v255 : FVec F S16x128 .f32) (v262 : IVec S16x128 32), IVec S16x128 32 ← k0_part16 i arg1 harg1 arg2 harg2 arg3 harg3 arg4 harg4 arg5 harg5 arg6 harg6 arg7 harg7 arg8 harg8 arg9 harg9 arg10 arg11 v18 v218 v219
    let ⟨v291, v305⟩ : Σ' (v291 : FVec F S16x128 .f32), FVec F S16x128 .bf16 ← k0_part17 i arg1 harg1 arg2 harg2 arg3 harg3 arg4 harg4 arg5 harg5 arg6 harg6 arg7 harg7 arg8 harg8 arg9 harg9 arg10 arg11 v18 v218 v255 v262 v263
    let v345 : FVec F S16x128 .f32 ← k0_part18 i arg1 harg1 arg2 harg2 arg3 harg3 arg4 harg4 arg5 harg5 arg6 harg6 arg7 harg7 arg8 harg8 arg9 harg9 arg10 arg11 v18 v218 v291 v305
    let ⟨v381, v388⟩ : Σ' (v381 : FVec F S16x128 .f32), IVec S16x128 32 ← k0_part19 i arg1 harg1 arg2 harg2 arg3 harg3 arg4 harg4 arg5 harg5 arg6 harg6 arg7 harg7 arg8 harg8 arg9 harg9 arg10 arg11 v18 v218 v345
    let ⟨v417, v427, v429⟩ : Σ' (v417 : FVec F S16x128 .f32) (v427 : FVec F S16x128 .f32), FVec F S16x128 .f32 ← k0_part20 i arg1 harg1 arg2 harg2 arg3 harg3 arg4 harg4 arg5 harg5 arg6 harg6 arg7 harg7 arg8 harg8 arg9 harg9 arg10 arg11 v18 v218 v381 v388
    let ⟨v453, v470⟩ : Σ' (v453 : FVec F S16x128 .f32), FVec F S16x128 .f32 ← k0_part21 i arg1 harg1 arg2 harg2 arg3 harg3 arg4 harg4 arg5 harg5 arg6 harg6 arg7 harg7 arg8 harg8 arg9 harg9 arg10 arg11 v18 v218 v417 v427 v429
    let ⟨v478, v507, v509⟩ : Σ' (v478 : FVec F S16x1 .f32) (v507 : FVec F S16x128 .f32), FVec F S1x128 .bf16 ← k0_part22 i arg1 harg1 arg2 harg2 arg3 harg3 arg4 harg4 arg5 harg5 arg6 harg6 arg7 harg7 arg8 harg8 arg9 harg9 arg10 arg11 v453 v470
    let v548 : FVec F S16x128 .f32 ← k0_part23 i arg1 harg1 arg2 harg2 arg3 harg3 arg4 harg4 arg5 harg5 arg6 harg6 arg7 harg7 arg8 harg8 arg9 harg9 arg10 arg11 v478 v507 v509
    let v585 : FVec F S16x128 .bf16 ← k0_part24 i arg1 harg1 arg2 harg2 arg3 harg3 arg4 harg4 arg5 harg5 arg6 harg6 arg7 harg7 arg8 harg8 arg9 harg9 arg10 arg11 v478 v548
    k0_part25 i arg1 harg1 arg2 harg2 arg3 harg3 arg4 harg4 arg5 harg5 arg6 harg6 arg7 harg7 arg8 harg8 arg9 harg9 arg10 arg11 v478 v585
    let ⟨v659, v660⟩ : Σ' (v659 : IVec S16x1 32), BitVec 32 ← k0_part26 i arg1 harg1 arg2 harg2 arg3 harg3 arg4 harg4 arg5 harg5 arg6 harg6 arg7 harg7 arg8 harg8 arg9 harg9 arg10 arg11 arg0 v25 v478
    let ⟨v695, v697, c4_i32_300⟩ : Σ' (v695 : IVec S16x1 32) (v697 : BitVec 32), BitVec 32 ← k0_part27 i arg1 harg1 arg2 harg2 arg3 harg3 arg4 harg4 arg5 harg5 arg6 harg6 arg7 harg7 arg8 harg8 arg9 harg9 arg10 arg11 arg0 v25 v659 v660
    let ⟨v731, v736⟩ : Σ' (v731 : IVec S16x1 32), Elt F .i32 ← k0_part28 i arg1 harg1 arg2 harg2 arg3 harg3 arg4 harg4 arg5 harg5 arg6 harg6 arg7 harg7 arg8 harg8 arg9 harg9 arg10 arg11 arg0 v25 v695 v697 c4_i32_300
    let ⟨v767, v773, c3_i32_344⟩ : Σ' (v767 : IVec S16x1 32) (v773 : BitVec 32), BitVec 32 ← k0_part29 i arg1 harg1 arg2 harg2 arg3 harg3 arg4 harg4 arg5 harg5 arg6 harg6 arg7 harg7 arg8 harg8 arg9 harg9 arg10 arg11 arg0 v25 v731 v736
    let ⟨v803, v811⟩ : Σ' (v803 : IVec S16x1 32), BitVec 32 ← k0_part30 i arg1 harg1 arg2 harg2 arg3 harg3 arg4 harg4 arg5 harg5 arg6 harg6 arg7 harg7 arg8 harg8 arg9 harg9 arg10 arg11 arg0 v25 v767 v773 c3_i32_344
    let ⟨v839, v840, v850⟩ : Σ' (v839 : IVec S16x1 32) (v840 : FVec F S16x128 .f32), FVec F S16x128 .f32 ← k0_part31 i arg1 harg1 arg2 harg2 arg3 harg3 arg4 harg4 arg5 harg5 arg6 harg6 arg7 harg7 arg8 harg8 arg9 harg9 arg10 arg11 arg0 v18 v25 v803 v811
    let ⟨v876, v890⟩ : Σ' (v876 : FVec F S16x128 .f32), FVec F S16x128 .bf16 ← k0_part32 i arg1 harg1 arg2 harg2 arg3 harg3 arg4 harg4 arg5 harg5 arg6 harg6 arg7 harg7 arg8 harg8 arg9 harg9 arg10 arg11 v18 v839 v840 v850
    let ⟨v930, v933⟩ : Σ' (v930 : FVec F S16x128 .f32), Vec F S1x16x128 .i32 ← k0_part33 i arg1 harg1 arg2 harg2 arg3 harg3 arg4 harg4 arg5 harg5 arg6 harg6 arg7 harg7 arg8 harg8 arg9 harg9 arg10 arg11 v18 v839 v876 v890
    let ⟨v966, v976⟩ : Σ' (v966 : FVec F S16x128 .f32), FVec F S16x128 .f32 ← k0_part34 i arg1 harg1 arg2 harg2 arg3 harg3 arg4 harg4 arg5 harg5 arg6 harg6 arg7 harg7 arg8 harg8 arg9 harg9 arg10 arg11 v18 v839 v930 v933
    let ⟨v1002, v1016⟩ : Σ' (v1002 : FVec F S16x128 .f32), FVec F S16x128 .bf16 ← k0_part35 i arg1 harg1 arg2 harg2 arg3 harg3 arg4 harg4 arg5 harg5 arg6 harg6 arg7 harg7 arg8 harg8 arg9 harg9 arg10 arg11 v18 v839 v966 v976
    let v1056 : FVec F S16x128 .f32 ← k0_part36 i arg1 harg1 arg2 harg2 arg3 harg3 arg4 harg4 arg5 harg5 arg6 harg6 arg7 harg7 arg8 harg8 arg9 harg9 arg10 arg11 v18 v839 v1002 v1016
    let v1099 : FVec F S16x1 .f32 ← k0_part37 i arg1 harg1 arg2 harg2 arg3 harg3 arg4 harg4 arg5 harg5 arg6 harg6 arg7 harg7 arg8 harg8 arg9 harg9 arg10 arg11 v18 v839 v1056
    let v1137 : FVec F S16x128 .bf16 ← k0_part38 i arg1 harg1 arg2 harg2 arg3 harg3 arg4 harg4 arg5 harg5 arg6 harg6 arg7 harg7 arg8 harg8 arg9 harg9 arg10 arg11 v1099
    let v1176 : FVec F S16x128 .f32 ← k0_part39 i arg1 harg1 arg2 harg2 arg3 harg3 arg4 harg4 arg5 harg5 arg6 harg6 arg7 harg7 arg8 harg8 arg9 harg9 arg10 arg11 v1099 v1137
    let ⟨v1212, v1213⟩ : Σ' (v1212 : FVec F S16x128 .f32), Vec F S1x128 .bf16 ← k0_part40 i arg1 harg1 arg2 harg2 arg3 harg3 arg4 harg4 arg5 harg5 arg6 harg6 arg7 harg7 arg8 harg8 arg9 harg9 arg10 arg11 v1099 v1176
    let ⟨v1248, v1252⟩ : Σ' (v1248 : FVec F S16x128 .f32), FVec F S16x128 .f32 ← k0_part41 i arg1 harg1 arg2 harg2 arg3 harg3 arg4 harg4 arg5 harg5 arg6 harg6 arg7 harg7 arg8 harg8 arg9 harg9 arg10 arg11 v1099 v1212 v1213
    let ⟨v1280, v1288⟩ : Σ' (v1280 : IVec S16x1 32), BitVec 32 ← k0_part42 i arg1 harg1 arg2 harg2 arg3 harg3 arg4 harg4 arg5 harg5 arg6 harg6 arg7 harg7 arg8 harg8 arg9 harg9 arg10 arg11 arg0 v25 v1099 v1248 v1252
    let ⟨v1316, v1324, v1326⟩ : Σ' (v1316 : IVec S16x1 32) (v1324 : BitVec 32), IVec S16x1 1 ← k0_part43 i arg1 harg1 arg2 harg2 arg3 harg3 arg4 harg4 arg5 harg5 arg6 harg6 arg7 harg7 arg8 harg8 arg9 harg9 arg10 arg11 arg0 v25 v1280 v1288
    let ⟨v1364, c128_i32_624⟩ : Σ' (v1364 : IVec S16x1 32), BitVec 32 ← k0_part44 i arg1 harg1 arg2 harg2 arg3 harg3 arg4 harg4 arg5 harg5 arg6 harg6 arg7 harg7 arg8 harg8 arg9 harg9 arg10 arg11 arg0 v25 v1316 v1324 v1326
    let ⟨v1400, v1402⟩ : Σ' (v1400 : IVec S16x1 32), BitVec 32 ← k0_part45 i arg1 harg1 arg2 harg2 arg3 harg3 arg4 harg4 arg5 harg5 arg6 harg6 arg7 harg7 arg8 harg8 arg9 harg9 arg10 arg11 arg0 v25 v1364 c128_i32_624
    let v1436 : IVec S16x1 32 ← k0_part46 i arg1 harg1 arg2 harg2 arg3 harg3 arg4 harg4 arg5 harg5 arg6 harg6 arg7 harg7 arg8 harg8 arg9 harg9 arg10 arg11 arg0 v25 v1400 v1402
    let ⟨v1460, v1479⟩ : Σ' (v1460 : IVec S16x1 32), FVec F S16x128 .f32 ← k0_part47 i arg1 harg1 arg2 harg2 arg3 harg3 arg4 harg4 arg5 harg5 arg6 harg6 arg7 harg7 arg8 harg8 arg9 harg9 arg10 arg11 arg0 v18 v25 v1436
    let ⟨v1515, v1522⟩ : Σ' (v1515 : FVec F S16x128 .f32), IVec S16x128 32 ← k0_part48 i arg1 harg1 arg2 harg2 arg3 harg3 arg4 harg4 arg5 harg5 arg6 harg6 arg7 harg7 arg8 harg8 arg9 harg9 arg10 arg11 v18 v1460 v1479
    let ⟨v1551, v1561, v1563⟩ : Σ' (v1551 : FVec F S16x128 .f32) (v1561 : FVec F S16x128 .f32), FVec F S16x128 .f32 ← k0_part49 i arg1 harg1 arg2 harg2 arg3 harg3 arg4 harg4 arg5 harg5 arg6 harg6 arg7 harg7 arg8 harg8 arg9 harg9 arg10 arg11 v18 v1460 v1515 v1522
    let ⟨v1587, v1604⟩ : Σ' (v1587 : FVec F S16x128 .f32), FVec F S16x128 .f32 ← k0_part50 i arg1 harg1 arg2 harg2 arg3 harg3 arg4 harg4 arg5 harg5 arg6 harg6 arg7 harg7 arg8 harg8 arg9 harg9 arg10 arg11 v18 v1460 v1551 v1561 v1563
    let ⟨v1641, v1645, v1646⟩ : Σ' (v1641 : FVec F S16x128 .f32) (v1645 : IVec S16x128 32), IVec S16x1 32 ← k0_part51 i arg1 harg1 arg2 harg2 arg3 harg3 arg4 harg4 arg5 harg5 arg6 harg6 arg7 harg7 arg8 harg8 arg9 harg9 arg10 arg11 v18 v1460 v1587 v1604
    let ⟨v1677, v1687⟩ : Σ' (v1677 : FVec F S16x128 .f32), FVec F S16x128 .f32 ← k0_part52 i arg1 harg1 arg2 harg2 arg3 harg3 arg4 harg4 arg5 harg5 arg6 harg6 arg7 harg7 arg8 harg8 arg9 harg9 arg10 arg11 v18 v1460 v1641 v1645 v1646
    let ⟨v1720, v1725, v1729⟩ : Σ' (v1720 : FVec F S16x1 .f32) (v1725 : FVec F S16x128 .f32), FVec F S16x128 .f32 ← k0_part53 i arg1 harg1 arg2 harg2 arg3 harg3 arg4 harg4 arg5 harg5 arg6 harg6 arg7 harg7 arg8 harg8 arg9 harg9 arg10 arg11 v18 v1460 v1677 v1687
    let v1767 : FVec F S16x128 .bf16 ← k0_part54 i arg1 harg1 arg2 harg2 arg3 harg3 arg4 harg4 arg5 harg5 arg6 harg6 arg7 harg7 arg8 harg8 arg9 harg9 arg10 arg11 v1720 v1725 v1729
    k0_part55 i arg1 harg1 arg2 harg2 arg3 harg3 arg4 harg4 arg5 harg5 arg6 harg6 arg7 harg7 arg8 harg8 arg9 harg9 arg10 arg11 v1720 v1767
    let v1841 : Vec F S16x128 .bf16 ← k0_part56 i arg1 harg1 arg2 harg2 arg3 harg3 arg4 harg4 arg5 harg5 arg6 harg6 arg7 harg7 arg8 harg8 arg9 harg9 arg10 arg11 v1720
    let ⟨v1879, v1880⟩ : Σ' (v1879 : FVec F S16x128 .f32), FVec F S16x128 .f32 ← k0_part57 i arg1 harg1 arg2 harg2 arg3 harg3 arg4 harg4 arg5 harg5 arg6 harg6 arg7 harg7 arg8 harg8 arg9 harg9 arg10 arg11 v1720 v1841
    let v1913 : IVec S16x1 32 ← k0_part58 i arg1 harg1 arg2 harg2 arg3 harg3 arg4 harg4 arg5 harg5 arg6 harg6 arg7 harg7 arg8 harg8 arg9 harg9 arg10 arg11 arg0 v25 v1879 v1880
    let ⟨v1949, v1955⟩ : Σ' (v1949 : IVec S16x1 32), BitVec 32 ← k0_part59 i arg1 harg1 arg2 harg2 arg3 harg3 arg4 harg4 arg5 harg5 arg6 harg6 arg7 harg7 arg8 harg8 arg9 harg9 arg10 arg11 arg0 v25 v1913
    let ⟨v1985, v1992, c8_i32_926⟩ : Σ' (v1985 : IVec S16x1 32) (v1992 : BitVec 32), BitVec 32 ← k0_part60 i arg1 harg1 arg2 harg2 arg3 harg3 arg4 harg4 arg5 harg5 arg6 harg6 arg7 harg7 arg8 harg8 arg9 harg9 arg10 arg11 arg0 v25 v1949 v1955
    let ⟨v2021, v2029, v2030⟩ : Σ' (v2021 : IVec S16x1 32) (v2029 : BitVec 32), IVec S16x1 32 ← k0_part61 i arg1 harg1 arg2 harg2 arg3 harg3 arg4 harg4 arg5 harg5 arg6 harg6 arg7 harg7 arg8 harg8 arg9 harg9 arg10 arg11 arg0 v25 v1985 v1992 c8_i32_926
    let v2069 : IVec S16x1 32 ← k0_part62 i arg1 harg1 arg2 harg2 arg3 harg3 arg4 harg4 arg5 harg5 arg6 harg6 arg7 harg7 arg8 harg8 arg9 harg9 arg10 arg11 arg0 v25 v2021 v2029 v2030
    let ⟨v2081, v2100, v2110⟩ : Σ' (v2081 : IVec S16x1 32) (v2100 : FVec F S16x128 .f32), FVec F S16x128 .f32 ← k0_part63 i arg1 harg1 arg2 harg2 arg3 harg3 arg4 harg4 arg5 harg5 arg6 harg6 arg7 harg7 arg8 harg8 arg9 harg9 arg10 arg11 arg0 v18 v25 v2069
    let ⟨v2136, v2150⟩ : Σ' (v2136 : FVec F S16x128 .f32), FVec F S16x128 .bf16 ← k0_part64 i arg1 harg1 arg2 harg2 arg3 harg3 arg4 harg4 arg5 harg5 arg6 harg6 arg7 harg7 arg8 harg8 arg9 harg9 arg10 arg11 v18 v2081 v2100 v2110
    let v2190 : FVec F S16x128 .f32 ← k0_part65 i arg1 harg1 arg2 harg2 arg3 harg3 arg4 harg4 arg5 harg5 arg6 harg6 arg7 harg7 arg8 harg8 arg9 harg9 arg10 arg11 v18 v2081 v2136 v2150
    let ⟨v2226, v2233, v2234⟩ : Σ' (v2226 : FVec F S16x128 .f32) (v2233 : IVec S16x128 32), IVec S16x128 32 ← k0_part66 i arg1 harg1 arg2 harg2 arg3 harg3 arg4 harg4 arg5 harg5 arg6 harg6 arg7 harg7 arg8 harg8 arg9 harg9 arg10 arg11 v18 v2081 v2190
    let ⟨v2262, v2276⟩ : Σ' (v2262 : FVec F S16x128 .f32), FVec F S16x128 .bf16 ← k0_part67 i arg1 harg1 arg2 harg2 arg3 harg3 arg4 harg4 arg5 harg5 arg6 harg6 arg7 harg7 arg8 harg8 arg9 harg9 arg10 arg11 v18 v2081 v2226 v2233 v2234
    let v2316 : FVec F S16x128 .f32 ← k0_part68 i arg1 harg1 arg2 harg2 arg3 harg3 arg4 harg4 arg5 harg5 arg6 harg6 arg7 harg7 arg8 harg8 arg9 harg9 arg10 arg11 v18 v2081 v2262 v2276
    let ⟨v2341, v2356, v2357⟩ : Σ' (v2341 : FVec F S16x1 .f32) (v2356 : FVec F S16x128 .f32), FVec F S16x128 .f32 ← k0_part69 i arg1 harg1 arg2 harg2 arg3 harg3 arg4 harg4 arg5 harg5 arg6 harg6 arg7 harg7 arg8 harg8 arg9 harg9 arg10 arg11 v18 v2081 v2316
    pure ⟨arg0, v18, v25, v2341, v2356, v2357⟩
def restB (y : Σ' (arg0 : BitVec 32) (v18 : BitVec 32) (v25 : IVec S16x1 32) (v2341 : FVec F S16x1 .f32) (v2356 : FVec F S16x128 .f32), FVec F S16x128 .f32) :
    Prog (TpuEff nD τ sig (Elt F) Λ₀ .tc) PUnit :=
  match y with
  | ⟨arg0, v18, v25, v2341, v2356, v2357⟩ => do
    let ⟨v4565, v4692, v4709⟩ : Σ' (v4565 : IVec S16x1 32) (v4692 : FVec F S16x128 .f32), FVec F S16x128 .f32 ← k0_part138 i arg1 harg1 arg2 harg2 arg3 harg3 arg4 harg4 arg5 harg5 arg6 harg6 arg7 harg7 arg8 harg8 arg9 harg9 arg10 arg11 arg0 v18 v25 v2341 v2356 v2357
    let ⟨v4746, v4750, v4751⟩ : Σ' (v4746 : FVec F S16x128 .f32) (v4750 : IVec S16x128 32), IVec S16x1 32 ← k0_part130 i arg1 harg1 arg2 harg2 arg3 harg3 arg4 harg4 arg5 harg5 arg6 harg6 arg7 harg7 arg8 harg8 arg9 harg9 arg10 arg11 v18 v4565 v4692 v4709
    let ⟨v4782, v4792⟩ : Σ' (v4782 : FVec F S16x128 .f32), FVec F S16x128 .f32 ← k0_part131 i arg1 harg1 arg2 harg2 arg3 harg3 arg4 harg4 arg5 harg5 arg6 harg6 arg7 harg7 arg8 harg8 arg9 harg9 arg10 arg11 v18 v4565 v4746 v4750 v4751
    let ⟨v4825, v4830, v4834⟩ : Σ' (v4825 : FVec F S16x1 .f32) (v4830 : FVec F S16x128 .f32), FVec F S16x128 .f32 ← k0_part132 i arg1 harg1 arg2 harg2 arg3 harg3 arg4 harg4 arg5 harg5 arg6 harg6 arg7 harg7 arg8 harg8 arg9 harg9 arg10 arg11 v18 v4565 v4782 v4792
    let v4872 : FVec F S16x128 .bf16 ← k0_part133 i arg1 harg1 arg2 harg2 arg3 harg3 arg4 harg4 arg5 harg5 arg6 harg6 arg7 harg7 arg8 harg8 arg9 harg9 arg10 arg11 v4825 v4830 v4834
    k0_part134 i arg1 harg1 arg2 harg2 arg3 harg3 arg4 harg4 arg5 harg5 arg6 harg6 arg7 harg7 arg8 harg8 arg9 harg9 arg10 arg11 v4825 v4872
    let v4946 : Vec F S16x128 .bf16 ← k0_part135 i arg1 harg1 arg2 harg2 arg3 harg3 arg4 harg4 arg5 harg5 arg6 harg6 arg7 harg7 arg8 harg8 arg9 harg9 arg10 arg11 v4825
    let ⟨v4984, v4985⟩ : Σ' (v4984 : FVec F S16x128 .f32), FVec F S16x128 .f32 ← k0_part136 i arg1 harg1 arg2 harg2 arg3 harg3 arg4 harg4 arg5 harg5 arg6 harg6 arg7 harg7 arg8 harg8 arg9 harg9 arg10 arg11 v4825 v4946
    have v4986 : FVec F S16x128 .f32 := mulf v4984 v4985
    let c0_2346 : Index := 0#32
    let c1664_2347 : Index := 1664#32
    let v4987 : Vec F S1x128 .bf16 ← Prog.lift (.load arg4 (Rect.unit (s := S1x1792) ![0, 1664] S1x128.size inb_S1x1792_S1x128_0_1664).toLoadRect (View.loadsAt_vmem h_S1x128))
    have v4988 : FVec F S1x128 .bf16 := shapeCast S1x128 v4987 shapeCasts_S1x128_S1x128
    have v4989 : FVec F S1x128 .f32 := extf .f32 v4988 bitsLt_bf16_f32
    have v4990 : FVec F S16x128 .f32 := broadcastTo S16x128 v4989 broadcasts_S1x128_S16x128
    have v4991 : FVec F S16x128 .f32 := mulf v4986 v4990
    have v4992 : FVec F S16x128 .bf16 := truncf .bf16 v4991 bitsLt_bf16_f32
    let c112_2348 : Index := 112#32
    let c1664_2349 : Index := 1664#32
    let v4993 : Vec F S16x128 .bf16 ← Prog.lift (.load arg5 (Rect.unit (s := S128x1792) ![112, 1664] S16x128.size inb_S128x1792_S16x128_112_1664).toLoadRect (View.loadsAt_vmem h_S16x128))
    Prog.lift (.store arg5 (Rect.unit (s := S128x1792) ![112, 1664] S16x128.size inb_S128x1792_S16x128_112_1664) v4992 Finset.univ (View.stores_vmem h_S16x128 (harg5.storeExact_slice rfl _ packedbf16_S128x1792_S16x128_112_1664) (fun _ => rfl)) (.inl rfl))
    pure ⟨⟩

theorem cc0_eq : cc0_embed_rmsnorm (F := F) i arg1 harg1 arg2 harg2 arg3 harg3 arg4 harg4 arg5 harg5 arg6 harg6 arg7 harg7 arg8 harg8 arg9 harg9 arg10 arg11 = k0_part10 (F := F) i arg1 harg1 arg2 harg2 arg3 harg3 arg4 harg4 arg5 harg5 arg6 harg6 arg7 harg7 arg8 harg8 arg9 harg9 arg10 arg11 >>= fun x => restA (F := F) i arg1 harg1 arg2 harg2 arg3 harg3 arg4 harg4 arg5 harg5 arg6 harg6 arg7 harg7 arg8 harg8 arg9 harg9 arg10 arg11 x >>= restB (F := F) i arg1 harg1 arg2 harg2 arg3 harg3 arg4 harg4 arg5 harg5 arg6 harg6 arg7 harg7 arg8 harg8 arg9 harg9 arg10 arg11 := by
  unfold cc0_embed_rmsnorm k0_part137
  exact bind_assoc _ _ _

/-- A tile cut at its first row's shift, -/
def tile0 (v31 : Elt F .i32) : Prog (TpuEff nD τ sig (Elt F) Λ₀ .tc) PUnit := do
  let up ← fold (upStep (F := F) i arg1 (iota .tc S16x1 32 [0] iota_S16x1_d0_w32) 0) L16.tail (select (cmpi .eq (iota .tc S16x1 32 [0] iota_S16x1_d0_w32) (broadcast S16x1 (BitVec.ofNat 32 0))) (broadcast S16x1 (Scalar.muli (Scalar.subi 3#32 (Scalar.andi v31 3#32)) 8#32)) (broadcast S16x1 0#32))
  let acc ← fold (grpStep i arg6 harg6 arg7 harg7 arg9 0 up) L14 (broadcast S16x128 (Scalar.ofBits .f32 0x00000000#32))
  each (outStep arg4 arg5 harg5 arg6 0 (rmsRec acc)) L14
theorem tile0_eq : tile (F := F) i arg1 arg4 arg5 harg5 arg6 harg6 arg7 harg7 arg9 (iota .tc S16x1 32 [0] iota_S16x1_d0_w32) 0 = (do
    let v31 : Elt F .i32 ← smemLoad arg1 (Rect.unit (s := S4096) (k0_off115 i 0#32 0#32) S1.size (k0_off115_inb i 0 0)) numel1_S1 rfl
    tile0 (F := F) i arg1 arg4 arg5 harg5 arg6 harg6 arg7 harg7 arg9 v31) := by
  chain_rfl
/-- and one cut inside its second pass's second group. -/
def tile3a : Prog (TpuEff nD τ sig (Elt F) Λ₀ .tc) (Σ' (arg0 : BitVec 32) (v18 : BitVec 32) (v25 : IVec S16x1 32) (v2341 : FVec F S16x1 .f32) (v2356 : FVec F S16x128 .f32), FVec F S16x128 .f32) := do
  let up ← fold (upStep (F := F) i arg1 (iota .tc S16x1 32 [0] iota_S16x1_d0_w32) 3) L16 (broadcast S16x1 0#32)
  let acc ← fold (grpStep i arg6 harg6 arg7 harg7 arg9 3 up) L14 (broadcast S16x128 (Scalar.ofBits .f32 0x00000000#32))
  outStep arg4 arg5 harg5 arg6 3 (rmsRec acc) 0
  let e : Vec F S16x128 .bf16 ← Prog.lift (.load arg6 (Rect.unit (s := S128x1792) ![48, 128] S16x128.size (tile_inb 3 1)).toLoadRect (View.loadsAt_vmem h_S16x128))
  pure ⟨BitVec.ofNat 32 (i 0).val, slotOf i, (iota .tc S16x1 32 [0] iota_S16x1_d0_w32), rmsRec acc, extf .f32 (shapeCast S16x128 e shapeCasts_S16x128_S16x128) bitsLt_bf16_f32, broadcastTo S16x128 (rmsRec acc) broadcasts_S16x1_S16x128⟩
def tile3b (y : Σ' (arg0 : BitVec 32) (v18 : BitVec 32) (v25 : IVec S16x1 32) (v2341 : FVec F S16x1 .f32) (v2356 : FVec F S16x128 .f32), FVec F S16x128 .f32) : Prog (TpuEff nD τ sig (Elt F) Λ₀ .tc) PUnit := do
  let w : Vec F S1x128 .bf16 ← Prog.lift (.load arg4 (Rect.unit (s := S1x1792) ![0, 128] S1x128.size (weight_inb 1)).toLoadRect (View.loadsAt_vmem h_S1x128))
  let _ : Vec F S16x128 .bf16 ← Prog.lift (.load arg5 (Rect.unit (s := S128x1792) ![48, 128] S16x128.size (tile_inb 3 1)).toLoadRect (View.loadsAt_vmem h_S16x128))
  Prog.lift (.store arg5 (Rect.unit (s := S128x1792) ![48, 128] S16x128.size (tile_inb 3 1))
    (truncf .bf16 (mulf (mulf y.2.2.2.2.1 y.2.2.2.2.2) (broadcastTo S16x128 (extf .f32 (shapeCast S1x128 w shapeCasts_S1x128_S1x128) bitsLt_bf16_f32) broadcasts_S1x128_S16x128)) bitsLt_bf16_f32)
    Finset.univ (View.stores_vmem h_S16x128 (harg5.storeExact_slice rfl _ (tile_packed 3 1)) (fun _ => rfl)) (.inl rfl))
  each (outStep arg4 arg5 harg5 arg6 3 y.2.2.2.1) L14.tail.tail
theorem tile3_eq : tile (F := F) i arg1 arg4 arg5 harg5 arg6 harg6 arg7 harg7 arg9 (iota .tc S16x1 32 [0] iota_S16x1_d0_w32) 3 = tile3a (F := F) i arg1 arg4 arg5 harg5 arg6 harg6 arg7 harg7 arg9 >>= tile3b (F := F) arg4 arg5 harg5 arg6 := by
  chain_rfl

theorem restA_eq (v31 : Elt F .i32) :
    restA (F := F) i arg1 harg1 arg2 harg2 arg3 harg3 arg4 harg4 arg5 harg5 arg6 harg6 arg7 harg7 arg8 harg8 arg9 harg9 arg10 arg11 ⟨BitVec.ofNat 32 (i 0).val, slotOf i, (iota .tc S16x1 32 [0] iota_S16x1_d0_w32), broadcast S16x1 0#32, v31, 3#32⟩
      = (do
        tile0 (F := F) i arg1 arg4 arg5 harg5 arg6 harg6 arg7 harg7 arg9 v31
        tile (F := F) i arg1 arg4 arg5 harg5 arg6 harg6 arg7 harg7 arg9 (iota .tc S16x1 32 [0] iota_S16x1_d0_w32) 1
        tile (F := F) i arg1 arg4 arg5 harg5 arg6 harg6 arg7 harg7 arg9 (iota .tc S16x1 32 [0] iota_S16x1_d0_w32) 2
        tile3a (F := F) i arg1 arg4 arg5 harg5 arg6 harg6 arg7 harg7 arg9) := by
  chain_rfl
theorem restB_eq (r : FVec F S16x1 .f32) (a b : FVec F S16x128 .f32) :
    restB (F := F) i arg1 harg1 arg2 harg2 arg3 harg3 arg4 harg4 arg5 harg5 arg6 harg6 arg7 harg7 arg8 harg8 arg9 harg9 arg10 arg11 ⟨BitVec.ofNat 32 (i 0).val, slotOf i, (iota .tc S16x1 32 [0] iota_S16x1_d0_w32), r, a, b⟩
      = (do
        tile3b (F := F) arg4 arg5 harg5 arg6 ⟨BitVec.ofNat 32 (i 0).val, slotOf i, (iota .tc S16x1 32 [0] iota_S16x1_d0_w32), r, a, b⟩
        tile (F := F) i arg1 arg4 arg5 harg5 arg6 harg6 arg7 harg7 arg9 (iota .tc S16x1 32 [0] iota_S16x1_d0_w32) 4
        tile (F := F) i arg1 arg4 arg5 harg5 arg6 harg6 arg7 harg7 arg9 (iota .tc S16x1 32 [0] iota_S16x1_d0_w32) 5
        tile (F := F) i arg1 arg4 arg5 harg5 arg6 harg6 arg7 harg7 arg9 (iota .tc S16x1 32 [0] iota_S16x1_d0_w32) 6
        tile (F := F) i arg1 arg4 arg5 harg5 arg6 harg6 arg7 harg7 arg9 (iota .tc S16x1 32 [0] iota_S16x1_d0_w32) 7) := by
  chain_rfl
theorem tile3a_restB : (tile3a (F := F) i arg1 arg4 arg5 harg5 arg6 harg6 arg7 harg7 arg9 >>= restB (F := F) i arg1 harg1 arg2 harg2 arg3 harg3 arg4 harg4 arg5 harg5 arg6 harg6 arg7 harg7 arg8 harg8 arg9 harg9 arg10 arg11)
      = (do
        tile (F := F) i arg1 arg4 arg5 harg5 arg6 harg6 arg7 harg7 arg9 (iota .tc S16x1 32 [0] iota_S16x1_d0_w32) 3
        tile (F := F) i arg1 arg4 arg5 harg5 arg6 harg6 arg7 harg7 arg9 (iota .tc S16x1 32 [0] iota_S16x1_d0_w32) 4
        tile (F := F) i arg1 arg4 arg5 harg5 arg6 harg6 arg7 harg7 arg9 (iota .tc S16x1 32 [0] iota_S16x1_d0_w32) 5
        tile (F := F) i arg1 arg4 arg5 harg5 arg6 harg6 arg7 harg7 arg9 (iota .tc S16x1 32 [0] iota_S16x1_d0_w32) 6
        tile (F := F) i arg1 arg4 arg5 harg5 arg6 harg6 arg7 harg7 arg9 (iota .tc S16x1 32 [0] iota_S16x1_d0_w32) 7) := by
  refine Eq.trans ?_ (congrArg (· >>= _) (tile3_eq (F := F) i arg1 arg4 arg5 harg5 arg6 harg6 arg7 harg7 arg9)).symm
  unfold tile3a
  simp only [bind_assoc, pure_bind]
  exact bind_congr fun up => bind_congr fun acc => bind_congr fun _ => bind_congr fun e => restB_eq (F := F) i arg1 harg1 arg2 harg2 arg3 harg3 arg4 harg4 arg5 harg5 arg6 harg6 arg7 harg7 arg8 harg8 arg9 harg9 arg10 arg11 _ _ _

/-- The printed body is the composition of the pieces. -/
theorem body_eq : cc0_embed_rmsnorm (F := F) i arg1 harg1 arg2 harg2 arg3 harg3 arg4 harg4 arg5 harg5 arg6 harg6 arg7 harg7 arg8 harg8 arg9 harg9 arg10 arg11
      = body (F := F) i arg1 arg2 arg4 arg5 harg5 arg6 harg6 arg7 harg7 arg8 arg9 arg10 arg3 harg3 harg8 arg11 := by
  have hret : ∀ p : Prog (TpuEff nD τ sig (Elt F) Λ₀ .tc) PUnit, (p >>= fun _ => Prog.ret PUnit.unit) = p := fun p => bind_pure p
  rw [cc0_eq, part10_eq']
  simp only [body, bind_assoc, pure_bind]
  refine bind_congr fun _ => bind_congr fun _ => bind_congr fun acc => bind_congr fun _ => bind_congr fun _ => ?_
  refine Eq.trans ?_ (congrArg (· >>= _) (tile0_eq (F := F) i arg1 arg4 arg5 harg5 arg6 harg6 arg7 harg7 arg9)).symm
  rw [bind_assoc]
  refine bind_congr fun v31 => ?_
  refine (congrArg (· >>= _) (restA_eq (F := F) i arg1 harg1 arg2 harg2 arg3 harg3 arg4 harg4 arg5 harg5 arg6 harg6 arg7 harg7 arg8 harg8 arg9 harg9 arg10 arg11 v31)).trans ?_
  simp only [bind_assoc]
  refine bind_congr fun _ => bind_congr fun _ => bind_congr fun _ => ?_
  refine (tile3a_restB (F := F) i arg1 harg1 arg2 harg2 arg3 harg3 arg4 harg4 arg5 harg5 arg6 harg6 arg7 harg7 arg8 harg8 arg9 harg9 arg10 arg11).trans ?_
  refine bind_congr fun _ => bind_congr fun _ => bind_congr fun _ => bind_congr fun _ => (hret _).symm

end Eq

end Cert.Proof.KernelIdeal
-- ==== Proof.Ideal.Ring.lean ====
/-
  The ring of row copies: what a slot of the ring holds, free or in flight, and the step that starts one row's copy.
-/
module

public import proofs.«01_k».proof.Proof.Ideal.Body
public import Idealize.ShloMosaic.Lib.Batch
public import Idealize.ShloMosaic.Lib.Scf
public import Idealize.ShloMosaic.Lib.ValueIdxCore
public import Idealize.ShloMosaic.Lib.ValueLayout
public import Idealize.ShloMosaic.Lib.Pipeline.FrameSuffixV

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's buffers: the id table, the table's words, the scale table and its copy, the ring, the kept scales. -/
abbrev mIds : Memref sig .tc .smem S4096 .i32 := Memref.whole main_v0
abbrev mWords : Memref sig .tc .hbm S16032x1792 .i32 := Memref.whole main_v3
abbrev mScales : Memref sig .tc .hbm S14x64128 .f32 := Memref.whole main_v4
abbrev mRing : Memref sig .tc .vmem S3x16x8x1792 .i32 := Memref.whole cc0_scratch0
abbrev mTab : Memref sig .tc .vmem S14x64128 .f32 := Memref.whole cc0_scratch1
abbrev mMeta : Memref sig .tc .vmem S128x128 .f32 := Memref.whole cc0_scratch2

abbrev 𝒱₀ : Variants := Variants.none

/-- The id table, at the share of it the body is handed. -/
abbrev idsAt (c : Dev nD) (ids : S4096.Idx → BitVec 32) : sProp 𝕄 := mIds.view.loc (c : Thread nD τ) ↦{fullShare.right} (ids : Bf (F := F) c mIds)

/-- What the body runs under, on core `c`. -/
abbrev wpb (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The token of row `n`. -/
abbrev tok (ids : S4096.Idx → BitVec 32) (n : Nat) : BitVec 32 := ids (ix1 (Fin.ofNat 4096 n))

/-- The ring's contents once block `b`'s rows have arrived: at a slot's row `(a, u)`, the word row of token `b * 128 + a * 8 + u`. -/
def ringVal (ids : S4096.Idx → BitVec 32) (ws : S16032x1792.Idx → BitVec 32) (b : Nat) : S3x16x8x1792.Idx → BitVec 32 := fun x =>
  ws (ix2 (Fin.ofNat 16032 (tok ids (b * 128 + (x 1).val * 8 + (x 2).val) >>> 2).toNat) (x 3))

/-- The `j`-th row of slot `sl` of the ring, and the slot. -/
def rowSet (sl : Fin 3) (j : Fin 128) : Finset S3x16x8x1792.Idx :=
  Finset.univ.filter fun x => (x 0).val = sl.val ∧ (x 1).val * 8 + (x 2).val = j.val
def slotSet (sl : Fin 3) : Finset S3x16x8x1792.Idx := Finset.univ.filter fun x => (x 0).val = sl.val

/-- A word row of the table. -/
def wordSet (n : Nat) : Finset S16032x1792.Idx := Finset.univ.filter fun x => (x 0).val = n

/-- A slot's semaphore. -/
abbrev rsem (sl : Fin 3) : DmaSem sig :=
  ((cc0_scratch3.slice (Rect.unit (s := S3) ![sl.val] S1.size (by intro a; fin_cases a; show sl.val + 1 ≤ 3; omega))).squeeze S_ squeezes_S1_S_).sem

abbrev qTok (sl : Fin 3) (j : Fin 128) : PosShare TreeShare := shareTokN fullShare (sl.val * 128 + j.val)

section
variable (c : Dev nD) (ids : S4096.Idx → BitVec 32) (ws : S16032x1792.Idx → BitVec 32)

/-- What a row's copy delivers: the ring's row holding the token's word row, and the share of that word row. -/
def deliv (sl : Fin 3) (b : Nat) (j : Fin 128) : sProp 𝕄 :=
  iprop((mRing.view.loc (c : Thread nD τ) ↦[rowSet sl j]{fullShare} (ringVal ids ws b : Bf (F := F) c mRing))
    ∗ (mWords.view.loc (c : Thread nD τ) ↦[wordSet (tok ids (b * 128 + j.val) >>> 2).toNat]{qTok sl j} (ws : Bf (F := F) c mWords)))

instance (sl : Fin 3) (b : Nat) (j : Fin 128) : Storable (upEmb : UEmb _ 𝕄) (deliv (F := F) c ids ws sl b j) := by
  unfold deliv; infer_instance

/-- Slot `sl`'s row `j` free: the row at anything, and its share of the words. -/
def rowFree (sl : Fin 3) (j : Fin 128) : sProp 𝕄 :=
  iprop((∃ f : Bf (F := F) c mRing, mRing.view.loc (c : Thread nD τ) ↦[rowSet sl j]{fullShare} f)
    ∗ (mWords.view.loc (c : Thread nD τ) ↦{qTok sl j} (ws : Bf (F := F) c mWords)))
/-- what is left of that share while the row's copy is in flight. -/
def rowRest (sl : Fin 3) (b : Nat) (j : Fin 128) : sProp 𝕄 :=
  iprop((mWords.view.loc (c : Thread nD τ) ↦[Finset.univ \ wordSet (tok ids (b * 128 + j.val) >>> 2).toNat]{qTok sl j} (ws : Bf (F := F) c mWords)))

/-- Block `b`'s first `n` rows started in slot `sl`, the others free. -/
def part (sl : Fin 3) (b n : Nat) : sProp 𝕄 :=
  iprop(Batch countersEmb (c : Thread nD τ) (.dma (rsem sl)) () 224 (deliv (F := F) c ids ws sl b) n 0
    ∗ bigSep (pending (n := 128) n) (rowFree (F := F) c ws sl) ∗ bigSep (issued (m := 128) n) (rowRest (F := F) c ids ws sl b))

end

section
variable (c : Dev nD) (ids : S4096.Idx → BitVec 32) (ws : S16032x1792.Idx → BitVec 32)

theorem rectRow_set (sl : Fin 3) (a : Fin 16) (u : Fin 8) (h3 : ∀ x, (![sl.val, a.val, u.val, 0] : Fin 4 → Nat) x + S1x1x1x1792.size x ≤ S3x16x8x1792.size x) (j : Fin 128) (hj : j.val = a.val * 8 + u.val) :
    (Rect.unit (s := S3x16x8x1792) ![sl.val, a.val, u.val, 0] S1x1x1x1792.size h3).set = rowSet sl j := by
  ext x
  rw [Rect.mem_set_unit]
  simp only [rowSet, Finset.mem_filter, Finset.mem_univ, true_and]
  have h2 : (x 2).val < 8 := (x 2).isLt
  have h3' : (x 3).val < 1792 := (x 3).isLt
  have hu := u.isLt
  constructor
  · intro h
    have e0 : sl.val ≤ (x 0).val ∧ (x 0).val < sl.val + 1 := h 0
    have e1 : a.val ≤ (x 1).val ∧ (x 1).val < a.val + 1 := h 1
    have e2 : u.val ≤ (x 2).val ∧ (x 2).val < u.val + 1 := h 2
    omega
  · rintro ⟨h0, h1⟩ d
    fin_cases d
    · show sl.val ≤ (x 0).val ∧ (x 0).val < sl.val + 1; omega
    · show a.val ≤ (x 1).val ∧ (x 1).val < a.val + 1; omega
    · show u.val ≤ (x 2).val ∧ (x 2).val < u.val + 1; omega
    · show 0 ≤ (x 3).val ∧ (x 3).val < 0 + 1792; omega

theorem rectWord_set (v : BitVec 32) (h : ∀ a, rowOff v a + S1x1792.size a ≤ S16032x1792.size a) :
    (Rect.unit (s := S16032x1792) (rowOff v) S1x1792.size h).set = wordSet (v >>> 2).toNat := by
  ext x
  rw [Rect.mem_set_unit]
  simp only [wordSet, Finset.mem_filter, Finset.mem_univ, true_and]
  have h3' : (x 1).val < 1792 := (x 1).isLt
  constructor
  · intro h
    have e0 : (v >>> 2).toNat ≤ (x 0).val ∧ (x 0).val < (v >>> 2).toNat + 1 := h 0
    omega
  · intro h0 d
    fin_cases d
    · show (v >>> 2).toNat ≤ (x 0).val ∧ (x 0).val < (v >>> 2).toNat + 1; omega
    · show 0 ≤ (x 1).val ∧ (x 1).val < 0 + 1792; omega

theorem rowOk_of (b : BitVec 1) (v : BitVec 32) (hv : v.toNat < 64128) : rowOk b v := by
  intro _ a
  fin_cases a
  · show (v >>> 2).toNat + 1 ≤ 16032
    rw [BitVec.toNat_ushiftRight, Nat.shiftRight_eq_div_pow]; omega
  · show 0 + 1792 ≤ 1792; omega

/-- The word an id load reads. -/
theorem ids_load (n : Nat) (hn : n < 4096) (h1 : ∀ a, (![n] : Fin 1 → Nat) a + S1.size a ≤ S4096.size a) (x : S1.Idx) :
    (mIds.access (Rect.unit (s := S4096) ![n] S1.size h1)).read (Elt F) ids x = tok ids n := by
  show ids _ = ids _
  congr 1
  funext d
  fin_cases d
  apply Fin.ext
  have hx : (x 0).val < 1 := (x 0).isLt
  show n + 1 * (x 0).val = n % 4096
  rw [Nat.mod_eq_of_lt hn]; omega

theorem rowStart_op (arg1 : Memref sig .tc .smem S4096 .i32) (arg2 : Memref sig .tc .hbm S16032x1792 .i32) (arg7 : Memref sig .tc .vmem S3x16x8x1792 .i32)
    (arg10 : DmaSems sig S3) (b : BitVec 1) (hb : b = 1#1) (o1 : Fin 1 → Nat) (h1 : ∀ a, o1 a + S1.size a ≤ S4096.size a)
    (o2 : Fin 1 → Nat) (h2 : ∀ a, o2 a + S1.size a ≤ S3.size a)
    (o3 : Fin 4 → Nat) (h3 : ∀ a, o3 a + S1x1x1x1792.size a ≤ S3x16x8x1792.size a) :
    rowStart (F := F) arg1 arg2 arg7 arg10 b hb o1 h1 o2 h2 o3 h3 =
      smemLoadElt arg1 (Rect.unit (s := S4096) o1 S1.size h1) (View.loads_smem_one (e := .i32) rfl numel1_S1) (Shape.Idx.first (s := S1) (numel1_S1.symm ▸ Nat.one_pos)) fun (v : Elt F .i32) =>
      .op (.assume (rowOk b v) (rowOk.dec b v)) fun hw =>
      .op (TpuEff.enqueueDma
        (arg2.slice (Rect.unit (s := S16032x1792) (rowOff v) S1x1792.size (hw.down hb)) (fun _ => rfl))
        (.here ((arg7.slice (Rect.unit (s := S3x16x8x1792) o3 S1x1x1x1792.size h3) (fun _ => rfl)).squeeze S1x1792 squeezes_S1x1x1x1792_S1x1792))
        (.dma ((arg10.slice (Rect.unit (s := S3) o2 S1.size h2)).squeeze S_ squeezes_S1_S_).sem)
        (by exact View.wordExact_bits rfl) (by exact (View.wordExact_bits rfl).reshape _ _) (by exact ⟨Or.inl rfl, trivial⟩)) Prog.ret := rfl

/-- The shares of a row of words: the token's word row, and the rest. -/
theorem rowFree_split (sl : Fin 3) (j : Fin 128) (n : Nat) :
    (mWords.view.loc (c : Thread nD τ) ↦{qTok sl j} (ws : Bf (F := F) c mWords) : sProp 𝕄)
      ⊣⊢ iprop((mWords.view.loc (c : Thread nD τ) ↦[wordSet n]{qTok sl j} (ws : Bf (F := F) c mWords))
        ∗ (mWords.view.loc (c : Thread nD τ) ↦[Finset.univ \ wordSet n]{qTok sl j} (ws : Bf (F := F) c mWords))) :=
  pointsTo_split_subset (Finset.subset_univ _)

/-- The elements a row's copy writes. -/
theorem dst_set (sl : Fin 3) (a : Fin 16) (u : Fin 8) (h3 : ∀ x, (![sl.val, a.val, u.val, 0] : Fin 4 → Nat) x + S1x1x1x1792.size x ≤ S3x16x8x1792.size x) (j : Fin 128) (hj : j.val = a.val * 8 + u.val) :
    ((mRing.slice (Rect.unit (s := S3x16x8x1792) ![sl.val, a.val, u.val, 0] S1x1x1x1792.size h3) (fun _ => rfl)).squeeze S1x1792 squeezes_S1x1x1x1792_S1x1792).view.set = rowSet sl j :=
  (View.set_reshape _ _).trans ((View.set_slice_whole _ _).trans (rectRow_set sl a u h3 j hj))

/-- What the copy of a word row leaves in the ring's row is the ring's value there. -/
theorem deliv_of (sl : Fin 3) (s : Nat) (a : Fin 16) (u : Fin 8) (hj : a.val * 8 + u.val < 128)
    (hlt : (tok ids (s * 128 + (a.val * 8 + u.val))).toNat < 64128)
    (hw : ∀ x, rowOff (tok ids (s * 128 + (a.val * 8 + u.val))) x + S1x1792.size x ≤ S16032x1792.size x)
    (h3 : ∀ x, (![sl.val, a.val, u.val, 0] : Fin 4 → Nat) x + S1x1x1x1792.size x ≤ S3x16x8x1792.size x)
    (fd : Bf (F := F) c mRing) :
    iprop((mRing.view.loc (c : Thread nD τ) ↦[rowSet sl ⟨a.val * 8 + u.val, hj⟩]{fullShare}
        (((mRing.slice (Rect.unit (s := S3x16x8x1792) ![sl.val, a.val, u.val, 0] S1x1x1x1792.size h3) (fun _ => rfl)).squeeze S1x1792 squeezes_S1x1x1x1792_S1x1792).view.write (Elt F) fd
          ((mWords.slice (Rect.unit (s := S16032x1792) (rowOff (tok ids (s * 128 + (a.val * 8 + u.val)))) S1x1792.size hw) (fun _ => rfl)).view.read (Elt F) ws) Finset.univ : Bf (F := F) c mRing))
      ∗ (mWords.view.loc (c : Thread nD τ) ↦[wordSet (tok ids (s * 128 + (a.val * 8 + u.val)) >>> 2).toNat]{qTok sl ⟨a.val * 8 + u.val, hj⟩} (ws : Bf (F := F) c mWords)))
    ⊢ deliv (F := F) c ids ws sl s ⟨a.val * 8 + u.val, hj⟩ := by
  unfold deliv
  refine sep_mono (Entails.of_eq (pointsTo_congr fun i hi => ?_)) .rfl
  have hi' : i ∈ ((mRing.slice (Rect.unit (s := S3x16x8x1792) ![sl.val, a.val, u.val, 0] S1x1x1x1792.size h3) (fun _ => rfl)).squeeze S1x1792 squeezes_S1x1x1x1792_S1x1792).view.set := by
    rw [dst_set sl a u h3 ⟨a.val * 8 + u.val, hj⟩ rfl]; exact hi
  obtain ⟨x, -, rfl⟩ := Finset.mem_map.mp hi'
  rw [View.write_emb_of_mem _ _ (Finset.mem_univ _)]
  have he : ((mRing.slice (Rect.unit (s := S3x16x8x1792) ![sl.val, a.val, u.val, 0] S1x1x1x1792.size h3) (fun _ => rfl)).squeeze S1x1792 squeezes_S1x1x1x1792_S1x1792).view.emb x
      = (Rect.unit (s := S3x16x8x1792) ![sl.val, a.val, u.val, 0] S1x1x1x1792.size h3).emb (ix4 (⟨0, Nat.one_pos⟩ : Fin 1) (⟨0, Nat.one_pos⟩ : Fin 1) (x 0) (x 1)) :=
    congrArg (Rect.unit (s := S3x16x8x1792) ![sl.val, a.val, u.val, 0] S1x1x1x1792.size h3).emb
      ((congrArg (Shape.reshapeEquiv _) (eq_ix2 (n0 := 1) (n1 := 1792) x)).trans (reshapeEquiv_ix2_11ab (a := 1) (b := 1792) _ (x 0) (x 1)))
  refine Eq.trans ?_ (congrArg (ringVal ids ws s) he.symm)
  show ws _ = ws _
  have h0 : (x 0).val < 1 := (x 0).isLt
  have hx1 : (x 1).val < 1792 := (x 1).isLt
  congr 1
  funext d
  fin_cases d
  · apply Fin.ext
    show (tok ids (s * 128 + (a.val * 8 + u.val)) >>> 2).toNat + 1 * (x 0).val
      = (tok ids (s * 128 + (a.val + 1 * 0) * 8 + (u.val + 1 * (x 0).val)) >>> 2).toNat % 16032
    have : s * 128 + (a.val + 1 * 0) * 8 + (u.val + 1 * (x 0).val) = s * 128 + (a.val * 8 + u.val) := by omega
    rw [this, Nat.mod_eq_of_lt]
    · omega
    · rw [BitVec.toNat_ushiftRight, Nat.shiftRight_eq_div_pow]; omega
  · apply Fin.ext
    show 0 + 1 * (x 1).val = 0 + 1 * (x 1).val
    rfl

/-- The rows not yet started are the next one and those after it; the rows started are the last one and those before. -/
theorem pend_eq (Φ : Fin 128 → sProp 𝕄) (k : Nat) (hk : k < 128) :
    bigSep (pending (n := 128) k) Φ = iprop(Φ ⟨k, hk⟩ ∗ bigSep (pending (n := 128) (k + 1)) Φ) := by
  rw [pending_succ hk, bigSep_insert (not_mem_pending_succ hk)]; rfl
theorem iss_eq (Φ : Fin 128 → sProp 𝕄) (k : Nat) (hk : k < 128) :
    bigSep (issued (m := 128) (k + 1)) Φ = iprop(Φ ⟨k, hk⟩ ∗ bigSep (issued (m := 128) k) Φ) := by
  rw [issued_succ hk, bigSep_insert (not_mem_issued hk)]; rfl

set_option backward.isDefEq.respectTransparency.types false in
/-- One row's copy started: from the id table, the row free and `n` rows started, one more is started. -/
theorem rowStart_wp (hids : ∀ x, (ids x).toNat < 64128) (b : BitVec 1) (hb : b = 1#1) (s : Nat) (hs : s < 32) (sl : Fin 3) (a : Fin 16) (u : Fin 8)
    (o1 : Fin 1 → Nat) (h1 : ∀ a, o1 a + S1.size a ≤ S4096.size a) (e1 : o1 = ![s * 128 + a.val * 8 + u.val])
    (o2 : Fin 1 → Nat) (h2 : ∀ a, o2 a + S1.size a ≤ S3.size a) (e2 : o2 = ![sl.val])
    (o3 : Fin 4 → Nat) (h3 : ∀ a, o3 a + S1x1x1x1792.size a ≤ S3x16x8x1792.size a) (e3 : o3 = ![sl.val, a.val, u.val, 0])
    (Q : PUnit → sProp 𝕄) :
    iprop(idsAt c ids ∗ part (F := F) c ids ws sl s (a.val * 8 + u.val))
      ⊢ iprop((iprop(idsAt c ids ∗ part (F := F) c ids ws sl s (a.val * 8 + u.val + 1)) -∗ Q ⟨⟩)
        -∗ wpb c (rowStart (F := F) mIds mWords mRing cc0_scratch3 b hb o1 h1 o2 h2 o3 h3) Q) := by
  subst e1 e2 e3
  have hj : a.val * 8 + u.val < 128 := by have := a.isLt; have := u.isLt; omega
  have ht : ∀ x, (mIds.access (Rect.unit (s := S4096) ![s * 128 + a.val * 8 + u.val] S1.size h1)).read (Elt F) ids x
      = tok ids (s * 128 + (a.val * 8 + u.val)) := fun x => by
    rw [ids_load ids _ (by omega), Nat.add_assoc]
  have hlt : (tok ids (s * 128 + (a.val * 8 + u.val))).toNat < 64128 := hids _
  have hws : (mWords.slice (Rect.unit (s := S16032x1792) (rowOff (tok ids (s * 128 + (a.val * 8 + u.val)))) S1x1792.size (rowOk_of b _ hlt hb)) (fun _ => rfl)).view.set
      = wordSet (tok ids (s * 128 + (a.val * 8 + u.val)) >>> 2).toNat := (View.set_slice_whole _ _).trans (rectWord_set _ _)
  have hstep := fun (fd : Bf (F := F) c mRing) hN hSd hD => wp_dmaBatch (n := 128) (Q := Q) (k := Prog.ret) (defs := defs₀ (F := F)) countersEmb 𝒱₀ (c : Thread nD τ) none
    (src := mWords.slice (Rect.unit (s := S16032x1792) (rowOff (tok ids (s * 128 + (a.val * 8 + u.val)))) S1x1792.size (rowOk_of b _ hlt hb)) (fun _ => rfl))
    (via := .same)
    (dst := (mRing.slice (Rect.unit (s := S3x16x8x1792) ![sl.val, a.val, u.val, 0] S1x1x1x1792.size h3) (fun _ => rfl)).squeeze S1x1792 squeezes_S1x1x1x1792_S1x1792)
    (sm := .dma (rsem sl)) (hsrc := View.wordExact_bits rfl) (hdst := (View.wordExact_bits rfl).reshape _ _) (hsem := ⟨Or.inl rfl, trivial⟩)
    () 224 (q := qTok sl ⟨_, hj⟩) (fs := ws) (fd := fd) (Sd := rowSet sl ⟨_, hj⟩) (D := deliv (F := F) c ids ws sl s) (j := a.val * 8 + u.val) (u := 0)
    hN hSd hj (Nat.zero_le _) hD
  unfold part
  rw [rowStart_op, pend_eq _ _ hj, iss_eq _ _ hj]
  unfold rowFree
  iintro ⟨Hi, HB, ⟨⟨⟨%fd, Hd⟩, Hw⟩, Hf⟩, Hr⟩ Hk
  iapply (wp_smemLoadElt 𝒱₀ (c : Thread nD τ) none Set.univ (m := mIds) (r := Rect.unit (s := S4096) ![s * 128 + a.val * 8 + u.val] S1.size h1) (S := Finset.univ) (Finset.subset_univ _)) $$ Hi
  iintro Hi
  rw [ht]
  iapply (wp_assume 𝒱₀ (c : Thread nD τ) none Set.univ (rowOk_of b _ hlt))
  ihave Hw := (rowFree_split c ws sl ⟨_, hj⟩ (tok ids (s * 128 + (a.val * 8 + u.val)) >>> 2).toNat).1 $$ Hw
  icases Hw with ⟨Hw, Hw'⟩
  iapply (hstep fd ?hN ?hSd ?hD) $$ [Hw Hd HB]
  case hN => show tileCredit S1x1792 .i32 = 224; decide +kernel
  case hSd => exact (dst_set sl a u h3 ⟨_, hj⟩ rfl).subset
  case hD =>
    refine .trans (sep_mono .rfl (Entails.of_eq ?_)) (deliv_of c ids ws sl s a u hj hlt (rowOk_of b _ hlt hb) h3 fd)
    rw [hws]
  · isplitl [Hw]; · rw [hws]; iexact Hw
    isplitl [Hd]; · iexact Hd
    iexact HB
  iintro HB
  rw [wp_ret]
  imodintro
  iapply Hk
  isplitl [Hi]; · iexact Hi
  isplitl [HB]; · iexact HB
  isplitl [Hf]; · iexact Hf
  isplitl [Hw']; · unfold rowRest; iexact Hw'
  iexact Hr

end

end Cert.Proof.KernelIdeal
-- ==== Proof.Ideal.Start.lean ====
/-
  A block's start: its 128 row copies, from a free slot to a slot in flight.
-/
module

public import proofs.«01_k».proof.Proof.Ideal.Ring

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

/-- One program per number below `n`, by an invariant counted by the number. -/
theorem each_wp (c : Dev nD) {n : Nat} (f : Fin n → Prog (TpuEff nD τ sig (Elt F) Λ₀ .tc) PUnit) (I : Nat → sProp 𝕄)
    (h : ∀ (u : Fin n) (Q : PUnit → sProp 𝕄), I u.val ⊢ iprop((I (u.val + 1) -∗ Q ⟨⟩) -∗ wpb c (f u) Q)) (Q : PUnit → sProp 𝕄) :
    I 0 ⊢ iprop((I n -∗ Q ⟨⟩) -∗ wpb c (each f (List.finRange n)) Q) := by
  suffices H : ∀ (d k : Nat), k + d = n → I k ⊢ iprop((I n -∗ Q ⟨⟩) -∗ wpb c (each f ((List.finRange n).drop k)) Q) by
    simpa using H n 0 (by omega)
  intro d
  induction d with
  | zero =>
    intro k hk
    obtain rfl : k = n := by omega
    rw [List.drop_eq_nil_of_le (by simp)]
    unfold each wpb
    rw [wp_ret]
    iintro H Hk
    imodintro
    iapply Hk; iexact H
  | succ d ih =>
    intro k hk
    have hlt : k < n := by omega
    rw [List.drop_eq_getElem_cons (by simpa using hlt), List.getElem_finRange, Fin.cast_mk]
    unfold wpb each
    rw [wp_bind]
    iintro H Hk
    iapply (h ⟨k, hlt⟩) $$ H
    iintro H
    iapply (ih (k + 1) (by omega)) $$ H
    iexact Hk

/-- A fold over the numbers below `n` whose steps return `g`: by an invariant counted by the number, to the same fold of `g`. -/
theorem fold_wp (c : Dev nD) {n : Nat} {σ : Type} (f : Fin n → σ → Prog (TpuEff nD τ sig (Elt F) Λ₀ .tc) σ) (g : Fin n → σ → σ) (I : Nat → sProp 𝕄)
    (h : ∀ (u : Fin n) (s : σ) (Q : σ → sProp 𝕄), I u.val ⊢ iprop((I (u.val + 1) -∗ Q (g u s)) -∗ wpb c (f u s) Q)) (s : σ) (Q : σ → sProp 𝕄) :
    I 0 ⊢ iprop((I n -∗ Q ((List.finRange n).foldl (fun s u => g u s) s)) -∗ wpb c (fold f (List.finRange n) s) Q) := by
  suffices H : ∀ (d k : Nat) (s : σ), k + d = n →
      I k ⊢ iprop((I n -∗ Q (((List.finRange n).drop k).foldl (fun s u => g u s) s)) -∗ wpb c (fold f ((List.finRange n).drop k) s) Q) by
    simpa using H n 0 s (by omega)
  intro d
  induction d with
  | zero =>
    intro k s hk
    obtain rfl : k = n := by omega
    rw [List.drop_eq_nil_of_le (by simp)]
    unfold fold wpb
    rw [wp_ret]
    iintro H Hk
    imodintro
    rw [List.foldl_nil]
    iapply Hk; iexact H
  | succ d ih =>
    intro k s hk
    have hlt : k < n := by omega
    rw [List.drop_eq_getElem_cons (by simpa using hlt), List.getElem_finRange, Fin.cast_mk]
    unfold wpb fold
    rw [wp_bind, List.foldl_cons]
    iintro H Hk
    iapply (h ⟨k, hlt⟩ s) $$ H
    iintro H
    iapply (ih (k + 1) _ (by omega)) $$ H
    iexact Hk

theorem L8_eq : L8 = List.finRange 8 := by decide
theorem L14_eq : L14 = List.finRange 14 := by decide
theorem L16_eq : L16 = List.finRange 16 := by decide

variable (c : Dev nD) (ids : S4096.Idx → BitVec 32) (ws : S16032x1792.Idx → BitVec 32)

/-- A slot with no copy in flight: its semaphore at zero, its rows free. -/
def Free (sl : Fin 3) : sProp 𝕄 :=
  iprop(semVal ((c : Thread nD τ), SemLoc.dma (rsem sl)) 0 ∗ bigSep Finset.univ (rowFree (F := F) c ws sl))

/-- The slot of block `b`. -/
abbrev slot (b : Nat) : Fin 3 := Fin.ofNat 3 b

/-- A free slot is one where no row has been started. -/
theorem free_part (sl : Fin 3) (b : Nat) :
    Free (F := F) c ws sl ⊢ |={Set.univ}=> part (F := F) c ids ws sl b 0 := by
  unfold Free part
  iintro ⟨Hv, Hr⟩
  imod (batch_alloc' countersEmb (c := (c : Thread nD τ)) () 224 (deliv (F := F) c ids ws sl b) (E := Set.univ)) $$ Hv with HB
  imodintro
  isplitl [HB]; · iexact HB
  rw [pending_zero, issued_zero, BI.bigSep_empty]
  isplitl [Hr]; · iexact Hr
  iempintro

set_option backward.isDefEq.respectTransparency.types false in
/-- A trip of a block's start: eight more rows started. -/
theorem startTrip_wp (hids : ∀ x, (ids x).toNat < 64128) (b : BitVec 1) (hb : b = 1#1) (s : BitVec 32) (hs : s.toNat < 32) (k : Nat) (hk : k < 16)
    (Q : PUnit → sProp 𝕄) :
    iprop(idsAt c ids ∗ part (F := F) c ids ws (slot s.toNat) s.toNat (k * 8))
      ⊢ iprop((iprop(idsAt c ids ∗ part (F := F) c ids ws (slot s.toNat) s.toNat (k * 8 + 8)) -∗ Q ⟨⟩)
        -∗ wpb c (startTrip (F := F) mIds mWords mRing cc0_scratch3 b hb s hs k hk) Q) := by
  have hslot : (slotB s).toNat = s.toNat % 3 := by
    have h := slotB_toNat ⟨s.toNat, by omega⟩
    simpa only [BitVec.ofNat_toNat, BitVec.setWidth_eq] using h
  unfold startTrip
  rw [L8_eq]
  refine each_wp c _ (fun u => iprop(idsAt c ids ∗ part (F := F) c ids ws (slot s.toNat) s.toNat (k * 8 + u))) (fun u Q => ?_) Q
  exact rowStart_wp c ids ws hids b hb s.toNat hs (slot s.toNat) ⟨k, hk⟩ u _ _ (idOff_eq s hs k hk u) _ _ (by rw [hslot]; rfl) _ _
    (by unfold ringOff; rw [hslot, iv_toNat' k hk]; rfl) Q

set_option backward.isDefEq.respectTransparency.types false in
/-- A block's start: from its slot free, all 128 rows started. -/
theorem startAll_wp (hids : ∀ x, (ids x).toNat < 64128) (b : BitVec 1) (hb : b = 1#1) (s : BitVec 32) (hs : s.toNat < 32)
    (lp : Scf.Loop 32) (ok : lp.OK) (tr : lp.trips = 16) (Q : PUnit → sProp 𝕄) :
    iprop(idsAt c ids ∗ Free (F := F) c ws (slot s.toNat))
      ⊢ iprop((iprop(idsAt c ids ∗ part (F := F) c ids ws (slot s.toNat) s.toNat 128) -∗ Q ⟨⟩)
        -∗ wpb c (Scf.Loop.for lp ok ⟨⟩ fun k _ => startTrip (F := F) mIds mWords mRing cc0_scratch3 b hb s hs k.val (tr ▸ k.isLt)) Q) := by
  iintro ⟨Hi, HF⟩ Hk
  imod (free_part c ids ws (slot s.toNat) s.toNat) $$ HF with HP
  iapply (Scf.wp_for _ _ _ lp.lb lp.ub lp.st ok ⟨⟩ _ (fun k _ => iprop(idsAt c ids ∗ part (F := F) c ids ws (slot s.toNat) s.toNat (k * 8))) (fun k _ => ?_))
  · iintro H
    iapply (startTrip_wp c ids ws hids b hb s hs k.val (tr ▸ k.isLt)) $$ H
    iintro H
    rw [Nat.succ_mul]
    iexact H
  · isplitl [Hi HP]
    · rw [Nat.zero_mul]
      isplitl [Hi] <;> iassumption
    · iintro %acc H
      rw [show Scf.trips lp.lb lp.ub lp.st = 16 from tr]
      iapply Hk
      iexact H

/-! ### A block's rows arrived -/

/-- Slot `sl` of the ring, held at `f`. -/
abbrev ringAt (sl : Fin 3) (f : S3x16x8x1792.Idx → BitVec 32) : sProp 𝕄 :=
  mRing.view.loc (c : Thread nD τ) ↦[slotSet sl]{fullShare} (f : Bf (F := F) c mRing)
/-- A slot's shares of the words. -/
abbrev slotToks (sl : Fin 3) : sProp 𝕄 :=
  bigSep Finset.univ fun j : Fin 128 => (mWords.view.loc (c : Thread nD τ) ↦{qTok sl j} (ws : Bf (F := F) c mWords) : sProp 𝕄)

theorem slotSet_rows (sl : Fin 3) : slotSet sl = Finset.univ.biUnion (rowSet sl) := by
  ext x
  simp only [slotSet, rowSet, Finset.mem_filter, Finset.mem_univ, true_and, Finset.mem_biUnion]
  have h1 : (x 1).val < 16 := (x 1).isLt
  have h2 : (x 2).val < 8 := (x 2).isLt
  constructor
  · intro h; exact ⟨⟨(x 1).val * 8 + (x 2).val, by omega⟩, h, rfl⟩
  · rintro ⟨j, h, -⟩; exact h
theorem rows_disjoint (sl : Fin 3) : ∀ j ∈ (Finset.univ : Finset (Fin 128)), ∀ j' ∈ (Finset.univ : Finset (Fin 128)), j ≠ j' → Disjoint (rowSet sl j) (rowSet sl j') := by
  intro j _ j' _ hne
  rw [Finset.disjoint_left]
  intro x hx hx'
  simp only [rowSet, Finset.mem_filter, Finset.mem_univ, true_and] at hx hx'
  exact hne (Fin.ext (hx.2.symm.trans hx'.2))

/-- A slot is its rows. -/
theorem ringAt_rows (sl : Fin 3) (f : S3x16x8x1792.Idx → BitVec 32) :
    ringAt (F := F) c sl f = bigSep Finset.univ fun j => (mRing.view.loc (c : Thread nD τ) ↦[rowSet sl j]{fullShare} (f : Bf (F := F) c mRing) : sProp 𝕄) := by
  unfold ringAt
  rw [slotSet_rows]
  exact pointsTo_biUnion _ _ (rows_disjoint sl)

/-- All of a block's rows delivered, with what was left of the words' shares: the slot at the block's rows, and its shares whole again. -/
theorem delivered (sl : Fin 3) (b : Nat) :
    iprop(bigSep Finset.univ (deliv (F := F) c ids ws sl b) ∗ bigSep Finset.univ (rowRest (F := F) c ids ws sl b))
      ⊢ iprop(ringAt (F := F) c sl (ringVal ids ws b) ∗ slotToks (F := F) c ws sl) := by
  rw [ringAt_rows]
  unfold slotToks
  rw [← bigSep_sep']
  rw [← bigSep_sep']
  refine bigSep_mono fun j _ => ?_
  unfold deliv rowRest
  show BIBase.Entails (PROP := sProp 𝕄) _ _
  iintro ⟨⟨Hr, Hw⟩, Hw'⟩
  isplitl [Hr]; · iexact Hr
  iapply (rowFree_split c ws sl j (tok ids (b * 128 + j.val) >>> 2).toNat).2
  isplitl [Hw] <;> iassumption

/-- A slot held at anything, its shares and its semaphore at zero: a free slot. -/
theorem free_of (sl : Fin 3) (f : S3x16x8x1792.Idx → BitVec 32) :
    iprop(semVal ((c : Thread nD τ), SemLoc.dma (rsem sl)) 0 ∗ ringAt (F := F) c sl f ∗ slotToks (F := F) c ws sl) ⊢ Free (F := F) c ws sl := by
  rw [ringAt_rows]
  unfold Free slotToks
  rw [← bigSep_sep']
  iintro ⟨Hv, H⟩
  isplitl [Hv]; · iexact Hv
  have hm : bigSep Finset.univ (fun j : Fin 128 => iprop((mRing.view.loc (c : Thread nD τ) ↦[rowSet sl j]{fullShare} (f : Bf (F := F) c mRing))
      ∗ (mWords.view.loc (c : Thread nD τ) ↦{qTok sl j} (ws : Bf (F := F) c mWords)))) ⊢ bigSep Finset.univ (rowFree (F := F) c ws sl) := bigSep_mono fun j _ => by
    unfold rowFree
    show BIBase.Entails (PROP := sProp 𝕄) _ _
    iintro ⟨Hr, Hw⟩
    isplitl [Hr]; · iexists _; iexact Hr
    iexact Hw
  iapply hm $$ H

set_option backward.isDefEq.respectTransparency.types false in
/-- The wait for a block's rows. -/
theorem drain_wp (i : grid0.Coords) (e : k0_off113 i = ![(slot (i 0).val).val]) (W : Waits sig Unit) (Q : PUnit → sProp 𝕄) :
    iprop(part (F := F) c ids ws (slot (i 0).val) (i 0).val 128 ∗ owes (c : Thread nD τ) (0 : CellTallies nD τ sig Unit) W)
      ⊢ iprop((iprop(semVal ((c : Thread nD τ), SemLoc.dma (rsem (slot (i 0).val))) 0 ∗ ringAt (F := F) c (slot (i 0).val) (ringVal ids ws (i 0).val)
            ∗ slotToks (F := F) c ws (slot (i 0).val) ∗ owes (c : Thread nD τ) (0 : CellTallies nD τ sig Unit) (insert (SemLoc.dma (rsem (slot (i 0).val)), ()) W)) -∗ Q ⟨⟩)
        -∗ wpb c (drain (F := F) i mWords mRing (Memref.isWhole_whole _) cc0_scratch3) Q) := by
  have hsem : ((cc0_scratch3.slice (Rect.unit (s := S3) (k0_off113 i) S1.size (k0_off113_inb i))).squeeze S_ squeezes_S1_S_).sem = rsem (slot (i 0).val) := by
    have : ∀ (o : Fin 1 → Nat) (h : ∀ a, o a + S1.size a ≤ S3.size a), o = ![(slot (i 0).val).val] →
        ((cc0_scratch3.slice (Rect.unit (s := S3) o S1.size h)).squeeze S_ squeezes_S1_S_).sem = rsem (slot (i 0).val) := by
      intro o h e; subst e; rfl
    exact this _ _ e
  have hstep := fun (hJ) => wp_waitBatchAll (n := 128) (Q := Q) (k := Prog.ret) (defs := defs₀ (F := F)) countersEmb 𝒱₀ (c : Thread nD τ) none
    (sem := rsem (slot (i 0).val))
    (srcw := mWords.slice (Rect.unit (s := S16032x1792) ![0, 0] S128x1792.size inb_S16032x1792_S128x1792_0_0) (fun _ => rfl))
    (dstw := (((mRing.reshape S3x128x1792 reshapes_S3x16x8x1792_S3x128x1792.1 reshapes_S3x16x8x1792_S3x128x1792.2 (Memref.isWhole_whole _).contiguous).slice (Rect.unit (s := S3x128x1792) (k0_off114 i) S1x128x1792.size (k0_off114_inb i)) (fun _ => rfl)).squeeze S128x1792 squeezes_S1x128x1792_S128x1792))
    (hsrc := View.wordExact_bits rfl) (hdst := (View.wordExact_bits rfl).reshape _ _) () (N := 224) (J := 28672) hJ (by decide) (D := deliv (F := F) c ids ws (slot (i 0).val) (i 0).val) (u := 0) (by decide) (W := W)
  unfold part
  rw [issued_all rfl]
  unfold drain wpb
  simp only [Prog.lift]
  rw [hsem]
  iintro ⟨⟨HB, -, Hr⟩, HO⟩ Hk
  iapply (hstep ?hJ) $$ [HB HO]
  case hJ => show tileCredit S128x1792 .i32 = 28672; decide +kernel
  · isplitl [HB] <;> iassumption
  iintro ⟨HD, Hv, HO⟩
  rw [wp_ret]
  imodintro
  iapply Hk
  isplitl [Hv]; · iexact Hv
  ihave H := (delivered c ids ws (slot (i 0).val) (i 0).val) $$ [HD Hr]
  · isplitl [HD] <;> iassumption
  icases H with ⟨H, Hw⟩
  isplitl [H]; · iexact H
  isplitl [Hw]; · iexact Hw
  iexact HO

end Cert.Proof.KernelIdeal
-- ==== Proof.Ideal.Pick.lean ====
/-
  The scale loop: a block's tokens' scales, gathered a lane at a time.
-/
module

public import proofs.«01_k».proof.Proof.Ideal.Start

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

/-- A fold over the numbers below `n`, by an invariant of the number and the carried value. -/
theorem fold_wpI (c : Dev nD) {n : Nat} {σ : Type} (f : Fin n → σ → Prog (TpuEff nD τ sig (Elt F) Λ₀ .tc) σ) (I : Nat → σ → sProp 𝕄)
    (h : ∀ (u : Fin n) (s : σ) (Q : σ → sProp 𝕄), I u.val s ⊢ iprop((∀ s', I (u.val + 1) s' -∗ Q s') -∗ wpb c (f u s) Q)) (s : σ) (Q : σ → sProp 𝕄) :
    I 0 s ⊢ iprop((∀ s', I n s' -∗ Q s') -∗ wpb c (fold f (List.finRange n) s) Q) := by
  suffices H : ∀ (d k : Nat) (s : σ), k + d = n →
      I k s ⊢ iprop((∀ s', I n s' -∗ Q s') -∗ wpb c (fold f ((List.finRange n).drop k) s) Q) by
    simpa using H n 0 s (by omega)
  intro d
  induction d with
  | zero =>
    intro k s hk
    obtain rfl : k = n := by omega
    rw [List.drop_eq_nil_of_le (by simp)]
    unfold fold wpb
    rw [wp_ret]
    iintro H Hk
    imodintro
    iapply Hk; iexact H
  | succ d ih =>
    intro k s hk
    have hlt : k < n := by omega
    rw [List.drop_eq_getElem_cons (by simpa using hlt), List.getElem_finRange, Fin.cast_mk]
    unfold wpb fold
    rw [wp_bind]
    iintro H Hk
    iapply (h ⟨k, hlt⟩ s) $$ H
    iintro %s' H
    iapply (ih (k + 1) s' (by omega)) $$ H
    iexact Hk

variable (c : Dev nD) (ids : S4096.Idx → BitVec 32) (sc : S14x64128.Idx → F .f32)

/-- Group `g`'s scale of the token of row `n`. -/
abbrev scaleAt (n : Nat) (g : Fin 14) : F .f32 := sc (ix2 g (Fin.ofNat 64128 (tok ids n).toNat))

theorem cols_toNat (v : BitVec 32) (hv : v.toNat < 64128) : (Scalar.muli (Scalar.shrui v 7#32) 128#32).toNat = v.toNat / 128 * 128 := by
  show ((v >>> 7) * 128#32).toNat = _
  rw [BitVec.toNat_mul, BitVec.toNat_ushiftRight, Nat.shiftRight_eq_div_pow, BitVec.toNat_ofNat]
  omega

include c in
/-- The 128 columns of the scale table a token's column lies among, as the scale loop loads them. -/
theorem cols_read (v : BitVec 32) (hv : v.toNat < 64128) (hw : scaleOk v) (x : S14x128.Idx) :
    mTab.view.readAt (Elt F) (Rect.unit (s := S14x64128) (scaleOff v) S14x128.size hw.2).toLoadRect (sc : Bf (F := F) c mTab) x
      = sc (ix2 (x 0) (Fin.ofNat 64128 (v.toNat / 128 * 128 + (x 1).val))) := by
  show sc _ = sc _
  have h1 : (x 1).val < 128 := (x 1).isLt
  congr 1
  funext d
  fin_cases d
  · apply Fin.ext
    show 0 + 1 * (x 0).val = (x 0).val
    omega
  · apply Fin.ext
    show (Scalar.indexCast (Scalar.muli (Scalar.shrui v 7#32) 128#32)).toNat + 1 * (x 1).val = (v.toNat / 128 * 128 + (x 1).val) % 64128
    rw [show Scalar.indexCast (Scalar.muli (Scalar.shrui v 7#32) 128#32) = Scalar.muli (Scalar.shrui v 7#32) 128#32 from rfl, cols_toNat v hv]
    omega

theorem scaleOk_of (v : BitVec 32) (hv : v.toNat < 64128) : scaleOk v := by
  refine ⟨by rw [cols_toNat v hv]; exact Nat.dvd_mul_left _ _, fun a => ?_⟩
  fin_cases a
  · show 0 + 14 ≤ 14; omega
  · show (Scalar.indexCast (Scalar.muli (Scalar.shrui v 7#32) 128#32)).toNat + 128 ≤ 64128
    rw [show Scalar.indexCast (Scalar.muli (Scalar.shrui v 7#32) 128#32) = Scalar.muli (Scalar.shrui v 7#32) 128#32 from rfl, cols_toNat v hv]
    omega

/-- The rotation that brings lane `v % 128` to lane `n`. -/
theorem rot_toNat (n : Nat) (hn : n < 128) (lane v : BitVec 32) (hl : lane.toNat = n) (hlt : v.toNat < 64128) :
    (n + 128 - (Scalar.andi (Scalar.subi lane v) 127#32).toNat % 128) % 128 = v.toNat % 128 := by
  show (n + 128 - ((lane - v) &&& 127#32).toNat % 128) % 128 = _
  rw [BitVec.toNat_and, BitVec.toNat_ofNat, show 127 % 2 ^ 32 = 2 ^ 7 - 1 from rfl, Nat.and_two_pow_sub_one_eq_mod, BitVec.toNat_sub, hl]
  omega

/-- What the scale loop has gathered after `n` lanes: their tokens' scales. -/
def Picked (b n : Nat) (acc : FVec F S14x128 .f32) : Prop :=
  ∀ j : S14x128.Idx, (j 1).val < n → acc j = scaleAt ids sc (b * 128 + (j 1).val) (j 0)

include c in
/-- One step of the scale loop keeps the earlier lanes and takes its token's scale in its own. -/
theorem picked_step (b n : Nat) (hn : n < 128) (lane v : BitVec 32) (hl : lane.toNat = n) (hv : v = tok ids (b * 128 + n)) (hlt : v.toNat < 64128)
    (hw : scaleOk v) (acc : FVec F S14x128 .f32) (h : Picked ids sc b n acc) :
    Picked ids sc b (n + 1) (select (cmpi .eq (iota .tc S14x128 32 [1] iota_S14x128_d1_w32) (broadcast S14x128 lane))
      (dynamicRotate 1 (Scalar.andi (Scalar.subi lane v) 127#32) none
        (mTab.view.readAt (Elt F) (Rect.unit (s := S14x64128) (scaleOff v) S14x128.size hw.2).toLoadRect (sc : Bf (F := F) c mTab)) rotates_S14x128_d1) acc) := by
  intro j hj
  have h1 : (j 1).val < 128 := (j 1).isLt
  show (if (IntOp.cmpi .eq (BitVec.ofNat 32 (0 * 128 + (j 1).val)) lane) = 1#1 then _ else acc j) = _
  by_cases hje : (j 1).val = n
  · have hc : IntOp.cmpi .eq (BitVec.ofNat 32 (0 * 128 + (j 1).val)) lane = 1#1 := by
      have : BitVec.ofNat 32 (0 * 128 + (j 1).val) = lane := by
        apply BitVec.eq_of_toNat_eq
        rw [BitVec.toNat_ofNat, hl]; omega
      unfold IntOp.cmpi
      rw [this]; simp
    refine (if_pos hc).trans ?_
    show mTab.view.readAt (Elt F) _ (sc : Bf (F := F) c mTab) _ = _
    rw [cols_read c sc v hlt hw]
    have hv' : v = tok ids (b * 128 + (j 1).val) := by rw [hje]; exact hv
    unfold scaleAt
    rw [← hv']
    refine congrArg sc (funext fun d => ?_)
    fin_cases d
    · rfl
    apply Fin.ext
    show (v.toNat / 128 * 128 + ((j 1).val + 128 - (Scalar.andi (Scalar.subi lane v) 127#32).toNat % 128) % 128) % 64128 = v.toNat % 64128
    rw [hje, rot_toNat n hn lane v hl hlt]
    omega
  · have hc : ¬ IntOp.cmpi .eq (BitVec.ofNat 32 (0 * 128 + (j 1).val)) lane = 1#1 := by
      have hne : BitVec.ofNat 32 (0 * 128 + (j 1).val) ≠ lane := fun e => hje (by
        have := congrArg BitVec.toNat e
        rw [BitVec.toNat_ofNat, hl] at this; omega)
      unfold IntOp.cmpi
      show ¬ BitVec.ofBool (BitVec.ofNat 32 (0 * 128 + (j 1).val) == lane) = 1#1
      rw [beq_false_of_ne hne]; decide
    refine (if_neg hc).trans ?_
    exact h j (by omega)

set_option backward.isDefEq.respectTransparency.types false in
/-- One step of the scale loop. -/
theorem pickStep_wp (hids : ∀ x, (ids x).toNat < 64128) (b : Nat) (hb : b < 32) (n : Nat) (hn : n < 128) (lane : BitVec 32) (hl : lane.toNat = n)
    (o1 : Fin 1 → Nat) (h1 : ∀ a, o1 a + S1.size a ≤ S4096.size a) (e1 : o1 = ![b * 128 + n]) (acc : FVec F S14x128 .f32) (Q : FVec F S14x128 .f32 → sProp 𝕄) :
    iprop(idsAt c ids ∗ pt c mTab (sc : Bf (F := F) c mTab) ∗ ⌜Picked ids sc b n acc⌝)
      ⊢ iprop((∀ acc', iprop(idsAt c ids ∗ pt c mTab (sc : Bf (F := F) c mTab) ∗ ⌜Picked ids sc b (n + 1) acc'⌝) -∗ Q acc')
        -∗ wpb c (pickStep (F := F) mIds mTab (iota .tc S14x128 32 [1] iota_S14x128_d1_w32) lane o1 h1 acc) Q) := by
  subst e1
  have ht : ∀ x, (mIds.access (Rect.unit (s := S4096) ![b * 128 + n] S1.size h1)).read (Elt F) ids x = tok ids (b * 128 + n) := fun x =>
    ids_load ids _ (by omega) h1 x
  have hlt : (tok ids (b * 128 + n)).toNat < 64128 := hids _
  have e : pickStep (F := F) mIds mTab (iota .tc S14x128 32 [1] iota_S14x128_d1_w32) lane ![b * 128 + n] h1 acc =
      smemLoadElt mIds (Rect.unit (s := S4096) ![b * 128 + n] S1.size h1) (View.loads_smem_one (e := .i32) rfl numel1_S1) (Shape.Idx.first (s := S1) (numel1_S1.symm ▸ Nat.one_pos)) fun (v : Elt F .i32) =>
      .op (TpuEff.assume (scaleOk v) (scaleOk.dec v)) fun (hw : PLift (scaleOk v)) =>
      .op (TpuEff.load mTab (Rect.unit (s := S14x64128) (scaleOff v) S14x128.size hw.down.2).toLoadRect (View.loadsAt_vmem h_S14x128)) fun (x : Vec F S14x128 .f32) =>
      Prog.ret (select (cmpi .eq (iota .tc S14x128 32 [1] iota_S14x128_d1_w32) (broadcast S14x128 lane)) (dynamicRotate 1 (Scalar.andi (Scalar.subi lane v) 127#32) none x rotates_S14x128_d1) acc) := rfl
  rw [e]
  iintro ⟨Hi, Ht, %hp⟩ Hk
  iapply (wp_smemLoadElt 𝒱₀ (c : Thread nD τ) none Set.univ (m := mIds) (r := Rect.unit (s := S4096) ![b * 128 + n] S1.size h1) (S := Finset.univ) (Finset.subset_univ _)) $$ Hi
  iintro Hi
  rw [ht]
  iapply (wp_assume 𝒱₀ (c : Thread nD τ) none Set.univ (scaleOk_of _ hlt))
  iapply (wp_load 𝒱₀ (c : Thread nD τ) none Set.univ (m := mTab) (S := Finset.univ) (Finset.subset_univ _)) $$ Ht
  iintro Ht
  rw [wp_ret]
  imodintro
  iapply Hk
  isplitl [Hi]; · iexact Hi
  isplitl [Ht]; · iexact Ht
  ipureintro
  exact picked_step c ids sc b n hn lane _ hl rfl hlt (scaleOk_of _ hlt) acc hp

set_option backward.isDefEq.respectTransparency.types false in
/-- A trip of the scale loop. -/
theorem pickTrip_wp (hids : ∀ x, (ids x).toNat < 64128) (i : grid0.Coords) (k : Nat) (hk : k < 16) (acc : FVec F S14x128 .f32) (Q : FVec F S14x128 .f32 → sProp 𝕄) :
    iprop(idsAt c ids ∗ pt c mTab (sc : Bf (F := F) c mTab) ∗ ⌜Picked ids sc (i 0).val (8 * k) acc⌝)
      ⊢ iprop((∀ acc', iprop(idsAt c ids ∗ pt c mTab (sc : Bf (F := F) c mTab) ∗ ⌜Picked ids sc (i 0).val (8 * k + 8) acc'⌝) -∗ Q acc')
        -∗ wpb c (pickTrip (F := F) i mIds mTab (iota .tc S14x128 32 [1] iota_S14x128_d1_w32) k hk acc) Q) := by
  have hi : (i 0).val < 32 := (i 0).isLt
  unfold pickTrip
  rw [L8_eq]
  refine fold_wpI c _ (fun u acc => iprop(idsAt c ids ∗ pt c mTab (sc : Bf (F := F) c mTab) ∗ ⌜Picked ids sc (i 0).val (8 * k + u) acc⌝)) (fun u acc Q => ?_) acc Q
  have hu := u.isLt
  exact pickStep_wp c ids sc hids (i 0).val hi (8 * k + u.val) (by omega) _ (laneOf_toNat k hk u) _ _ (pickOff_eq i k hk u) acc Q

set_option backward.isDefEq.respectTransparency.types false in
/-- The scale loop: all 128 lanes gathered. -/
theorem pick_wp (hids : ∀ x, (ids x).toNat < 64128) (i : grid0.Coords) (Q : FVec F S14x128 .f32 → sProp 𝕄) :
    iprop(idsAt c ids ∗ pt c mTab (sc : Bf (F := F) c mTab))
      ⊢ iprop((∀ acc', iprop(idsAt c ids ∗ pt c mTab (sc : Bf (F := F) c mTab) ∗ ⌜Picked ids sc (i 0).val 128 acc'⌝) -∗ Q acc')
        -∗ wpb c (pick (F := F) i mIds mTab) Q) := by
  unfold pick
  iintro ⟨Hi, Ht⟩ Hk
  iapply (Scf.wp_for _ _ _ k0_t4_loop.lb k0_t4_loop.ub k0_t4_loop.st k0_t4_ok _ _
    (fun k acc => iprop(idsAt c ids ∗ pt c mTab (sc : Bf (F := F) c mTab) ∗ ⌜Picked ids sc (i 0).val (8 * k) acc⌝)) (fun k acc => ?_))
  · iintro H
    iapply (pickTrip_wp c ids sc hids i k.val (trips4 ▸ k.isLt) acc) $$ H
    iintro %acc' H
    rw [Nat.mul_succ]
    iexact H
  · isplitl [Hi Ht]
    · isplitl [Hi]; · iexact Hi
      isplitl [Ht]; · iexact Ht
      ipureintro
      intro j hj; omega
    · iintro %acc H
      rw [show Scf.trips k0_t4_loop.lb k0_t4_loop.ub k0_t4_loop.st = 16 from trips4]
      iapply Hk
      iexact H

end Cert.Proof.KernelIdeal
-- ==== Proof.Ideal.Fill.lean ====
/-
  The pipeline's filling at the first grid point, and the block started two ahead at the others.
-/
module

public import proofs.«01_k».proof.Proof.Ideal.Pick

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

variable (c : Dev nD) (ids : S4096.Idx → BitVec 32) (ws : S16032x1792.Idx → BitVec 32) (sc : S14x64128.Idx → F .f32)

theorem pure_wp (Q : PUnit → sProp 𝕄) : Q ⟨⟩ ⊢ wpb c (pure ⟨⟩ : Prog (TpuEff nD τ sig (Elt F) Λ₀ .tc) PUnit) Q := by
  show BIBase.Entails (PROP := sProp 𝕄) _ (wpb c (Prog.ret PUnit.unit) Q)
  unfold wpb
  rw [wp_ret]
  iintro H
  imodintro
  iexact H

/-- The scale table's semaphore. -/
abbrev ssem : DmaSem sig := cc0_scratch4.sem

/-- Block `b`'s slot once the block was to be started: its rows in flight, or free past the last block. -/
def started (b : Nat) : sProp 𝕄 :=
  if b < 32 then part (F := F) c ids ws (slot b) b 128 else Free (F := F) c ws (slot b)

/-- The ring before grid point `p`: nothing started before the first, two blocks started before the others; and once the
    filling is done. -/
def filled (p : Nat) : sProp 𝕄 :=
  iprop(started (F := F) c ids ws p ∗ started (F := F) c ids ws (p + 1) ∗ Free (F := F) c ws (slot (p + 2)))
def ringState (p : Nat) : sProp 𝕄 :=
  if p = 0 then iprop(Free (F := F) c ws (slot 0) ∗ Free (F := F) c ws (slot 1) ∗ Free (F := F) c ws (slot 2)) else filled (F := F) c ids ws p

/-- The scale table's copy before grid point `p`. -/
def tabState (p : Nat) : sProp 𝕄 :=
  if p = 0 then iprop(∃ f : Bf (F := F) c mTab, pt c mTab f) else pt c mTab (sc : Bf (F := F) c mTab)

/-- The core's waits, whichever. -/
abbrev owing : sProp 𝕄 := iprop(∃ W : Waits sig Unit, owes (c : Thread nD τ) (0 : CellTallies nD τ sig Unit) W)

set_option backward.isDefEq.respectTransparency.types false in
/-- The pipeline's filling. -/
theorem fill_wp (hids : ∀ x, (ids x).toNat < 64128) (i : grid0.Coords) (Q : PUnit → sProp 𝕄) :
    iprop(idsAt c ids ∗ ringState (F := F) c ids ws (i 0).val ∗ tabState (F := F) c sc (i 0).val
        ∗ pt c mScales (sc : Bf (F := F) c mScales) ∗ semVal ((c : Thread nD τ), SemLoc.dma ssem) 0 ∗ owing (F := F) c)
      ⊢ iprop((iprop(idsAt c ids ∗ filled (F := F) c ids ws (i 0).val ∗ pt c mTab (sc : Bf (F := F) c mTab)
            ∗ pt c mScales (sc : Bf (F := F) c mScales) ∗ semVal ((c : Thread nD τ), SemLoc.dma ssem) 0 ∗ owing (F := F) c) -∗ Q ⟨⟩)
        -∗ wpb c (fill (F := F) i mIds mWords mRing mTab cc0_scratch3 mScales (Memref.isWhole_whole _) (Memref.isWhole_whole _) cc0_scratch4) Q) := by
  unfold fill ringState tabState wpb
  by_cases h : k0_cond1 i = 1#1
  · have hi : (i 0).val = 0 := (cond1_iff i).mp h
    rw [dif_pos h, hi, if_pos rfl, if_pos rfl]
    rw [wp_bind]
    have hset : mScales.view.set = Finset.univ := View.set_whole _
    have hw : ∀ ft : Bf (F := F) c mTab, mTab.view.write (Elt F) ft (mScales.view.read (Elt F) (sc : Bf (F := F) c mScales)) Finset.univ = (sc : Bf (F := F) c mTab) := fun ft =>
      View.write_whole_univ cc0_scratch1 ft _
    have hE : ∀ ft : Bf (F := F) c mTab, (mTab.view.loc (c : Thread nD τ) ↦[Finset.univ]{fullShare} (mTab.view.write (Elt F) ft (ReadAs.apply (Val := Elt F) .same (mScales.view.read (Elt F) (sc : Bf (F := F) c mScales))) Finset.univ) : sProp 𝕄)
        ⊢ pt c mTab (sc : Bf (F := F) c mTab) := fun ft => Entails.of_eq (congrArg (fun f : Bf (F := F) c mTab => pt c mTab f) (hw ft))
    have hstep := fun (ft : Bf (F := F) c mTab) (Q : PUnit → sProp 𝕄) hN => wp_dmaLocal (Q := Q) (k := Prog.ret) (defs := defs₀ (F := F)) countersEmb 𝒱₀ (c : Thread nD τ) none
      (src := mScales) (via := .same) (dst := mTab) (sm := .dma ssem) (hsrc := (Memref.isWhole_whole _).wordExact) (hdst := (Memref.isWhole_whole _).wordExact)
      (hsem := ⟨Or.inl rfl, trivial⟩) (q := fullShare) (fs := (sc : Bf (F := F) c mScales)) (fd := ft) (Sd := Finset.univ)
      () 112224 hN (by decide) (Finset.subset_univ _)
    have hwait := fun (D : sProp 𝕄) (W : Waits sig Unit) (Q : PUnit → sProp 𝕄) hN => wp_waitLocal (Q := Q) (k := Prog.ret) (defs := defs₀ (F := F)) countersEmb 𝒱₀ (c : Thread nD τ) none
      (sem := ssem) (srcw := mScales) (dstw := mTab) (hsrc := (Memref.isWhole_whole _).wordExact) (hdst := (Memref.isWhole_whole _).wordExact) () (N := 112224) hN (D := D) (W := W)
    iintro ⟨Hi, ⟨HF0, HF1, HF2⟩, ⟨%ft, Ht⟩, Hs, Hv, ⟨%W, HO⟩⟩ Hk
    iapply (hstep ft _ ?hN) $$ [Hs Ht Hv]
    case hN => show tileCredit S14x64128 .f32 = 112224; decide +kernel
    · isplitl [Hs]; · rw [hset]; iexact Hs
      isplitl [Ht]; · iexact Ht
      iexact Hv
    iintro HFl
    rw [wp_ret]
    imodintro
    rw [wp_bind]
    iapply (startAll_wp c ids ws hids (k0_cond1 i) h 0#32 _ k0_t1_loop (k0_t1_ok i h) trips1) $$ [Hi HF0]
    · isplitl [Hi]; · iexact Hi
      iexact HF0
    iintro ⟨Hi, HP0⟩
    rw [wp_bind]
    iapply (startAll_wp c ids ws hids (k0_cond1 i) h 1#32 _ k0_t2_loop (k0_t2_ok i h) trips2) $$ [Hi HF1]
    · isplitl [Hi]; · iexact Hi
      iexact HF1
    iintro ⟨Hi, HP1⟩
    rw [wp_bind]
    iapply (hwait _ W _ ?hN') $$ [HFl HO]
    case hN' => show tileCredit S14x64128 .f32 = 112224; decide +kernel
    · isplitl [HFl] <;> iassumption
    iintro ⟨⟨Ht, Hs⟩, Hv, HO⟩
    rw [wp_ret]
    imodintro
    iapply (pure_wp c)
    iapply Hk
    isplitl [Hi]; · iexact Hi
    isplitl [HP0 HP1 HF2]
    · unfold filled started
      rw [if_pos (by decide), if_pos (by decide)]
      isplitl [HP0]; · iexact HP0
      isplitl [HP1]; · iexact HP1
      iexact HF2
    isplitl [Ht]
    · iapply (hE ft); iexact Ht
    isplitl [Hs]; · rw [hset]; iexact Hs
    isplitl [Hv]; · iexact Hv
    iexists _; iexact HO
  · have hi : ¬ (i 0).val = 0 := fun e => h ((cond1_iff i).mpr e)
    rw [dif_neg h, if_neg hi, if_neg hi]
    iintro H Hk
    iapply (pure_wp c)
    iapply Hk
    iexact H

set_option backward.isDefEq.respectTransparency.types false in
/-- The block two ahead started, or its slot left free past the last. -/
theorem next_wp (hids : ∀ x, (ids x).toNat < 64128) (i : grid0.Coords) (Q : PUnit → sProp 𝕄) :
    iprop(idsAt c ids ∗ Free (F := F) c ws (slot ((i 0).val + 2)))
      ⊢ iprop((iprop(idsAt c ids ∗ started (F := F) c ids ws ((i 0).val + 2)) -∗ Q ⟨⟩)
        -∗ wpb c (next (F := F) i mIds mWords mRing cc0_scratch3) Q) := by
  unfold next wpb started
  by_cases h : k0_cond2 i = 1#1
  · have hi : (i 0).val + 2 < 32 := (cond2_iff i).mp h
    have ha := ahead_toNat i
    rw [dif_pos h, if_pos hi, wp_bind, ← ha]
    iintro H Hk
    iapply (startAll_wp c ids ws hids (k0_cond2 i) h (ahead i) (ahead_lt i h) k0_t3_loop (k0_t3_ok i h) trips3) $$ H
    iintro H
    iapply (pure_wp c)
    iapply Hk
    iexact H
  · have hi : ¬ (i 0).val + 2 < 32 := fun e => h ((cond2_iff i).mpr e)
    rw [dif_neg h, if_neg hi]
    iintro H Hk
    iapply (pure_wp c)
    iapply Hk
    iexact H

end Cert.Proof.KernelIdeal
-- ==== Proof.Ideal.Vals.lean ====
/-
  The values one block leaves: the embedding's block and the normalised block, a tile and a group at a time.
-/
module

public import proofs.«01_k».proof.Proof.Ideal.Fill

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

/-! ### The values -/

/-- A scale as kept: rounded to bf16 and widened. -/
abbrev metaS (x : F .f32) : F .f32 := FloatOps.extf .f32 bitsLt_bf16_f32 (FloatOps.truncf .bf16 bitsLt_bf16_f32 x)

/-- A token's shift: the one that brings its byte of a word to the top. -/
abbrev upS (v : BitVec 32) : BitVec 32 := Scalar.muli (Scalar.subi 3#32 (Scalar.andi v 3#32)) 8#32

section Values
variable (ids : S4096.Idx → BitVec 32) (ws : S16032x1792.Idx → BitVec 32) (sc : S14x64128.Idx → F .f32) (wt : S1x1792.Idx → F .bf16)

/-- The embedding at row `n`, column `c`: the token's byte of its word, signed, times its group's scale, rounded. -/
def embS (n : Nat) (c : Fin 1792) : F .bf16 :=
  FloatOps.truncf .bf16 bitsLt_bf16_f32 (FloatOps.mulf
    (FloatOps.sitofp .f32 (IntOp.shrsi .vector (IntOp.shli .vector (ws (ix2 (Fin.ofNat 16032 (tok ids n >>> 2).toNat) c)) (upS (tok ids n))) 24#32))
    (metaS (scaleAt ids sc n ⟨c.val / 128, by omega⟩)))

/-- Block `b` of the embedding, and its tiles. -/
def embB (b : Nat) : S128x1792.Idx → F .bf16 := fun y => embS ids ws sc (b * 128 + (y 0).val) (y 1)
abbrev tileIdx (t : Fin 8) (g : Fin 14) (j : S16x128.Idx) : S128x1792.Idx := (Rect.unit (s := S128x1792) ![16 * t.val, 128 * g.val] S16x128.size (tile_inb t g)).emb j
def eT (b : Nat) (t : Fin 8) (g : Fin 14) : FVec F S16x128 .bf16 := fun j => embB ids ws sc b (tileIdx t g j)

/-- A tile's lanes' sums of squares over the groups. -/
def accT (b : Nat) (t : Fin 8) : FVec F S16x128 .f32 :=
  (List.finRange 14).foldl (fun a g => sqAdd a (eT ids ws sc b t g)) (broadcast S16x128 (Scalar.ofBits .f32 0x00000000#32))
/-- The weights of a group. -/
def wT (g : Fin 14) : Vec F S1x128 .bf16 := fun j => wt ((Rect.unit (s := S1x1792) ![0, 128 * g.val] S1x128.size (weight_inb g)).emb j)
/-- A group of the normalised tile, and block `b` of the result. -/
def outT (b : Nat) (t : Fin 8) (g : Fin 14) : FVec F S16x128 .bf16 := normed (rmsRec (accT ids ws sc b t)) (eT ids ws sc b t g) (wT wt g)
def outB (b : Nat) : S128x1792.Idx → F .bf16 := fun y =>
  outT ids ws sc wt b ⟨(y 0).val / 16, by have : (y 0).val < 128 := (y 0).isLt; omega⟩ ⟨(y 1).val / 128, by have : (y 1).val < 1792 := (y 1).isLt; omega⟩
    (ix2 ⟨(y 0).val % 16, by omega⟩ ⟨(y 1).val % 128, by omega⟩)

theorem outB_tile (b : Nat) (t : Fin 8) (g : Fin 14) (j : S16x128.Idx) : outB ids ws sc wt b (tileIdx t g j) = outT ids ws sc wt b t g j := by
  have h0 : (j 0).val < 16 := (j 0).isLt
  have h1 : (j 1).val < 128 := (j 1).isLt
  have e0 : (tileIdx t g j 0).val = 16 * t.val + 1 * (j 0).val := rfl
  have e1 : (tileIdx t g j 1).val = 128 * g.val + 1 * (j 1).val := rfl
  unfold outB
  have ht : (⟨(tileIdx t g j 0).val / 16, by rw [e0]; omega⟩ : Fin 8) = t := Fin.ext (by show (tileIdx t g j 0).val / 16 = t.val; rw [e0]; omega)
  have hg : (⟨(tileIdx t g j 1).val / 128, by rw [e1]; omega⟩ : Fin 14) = g := Fin.ext (by show (tileIdx t g j 1).val / 128 = g.val; rw [e1]; omega)
  rw [ht, hg]
  refine congrArg _ (funext fun d => ?_)
  fin_cases d
  · apply Fin.ext; show (tileIdx t g j 0).val % 16 = (j 0).val; rw [e0]; omega
  · apply Fin.ext; show (tileIdx t g j 1).val % 128 = (j 1).val; rw [e1]; omega

end Values

/-! ### Tiles of a staging buffer -/

/-- The tiles and groups of a block in the order they are written. -/
def key (y : S128x1792.Idx) : Nat := (y 0).val / 16 * 14 + (y 1).val / 128
theorem key_lt (y : S128x1792.Idx) : key y < 112 := by
  have h0 : (y 0).val < 128 := (y 0).isLt
  have h1 : (y 1).val < 1792 := (y 1).isLt
  unfold key; omega
theorem key_tile (t : Fin 8) (g : Fin 14) (j : S16x128.Idx) : key (tileIdx t g j) = t.val * 14 + g.val := by
  have h0 : (j 0).val < 16 := (j 0).isLt
  have h1 : (j 1).val < 128 := (j 1).isLt
  have e0 : (tileIdx t g j 0).val = 16 * t.val + 1 * (j 0).val := rfl
  have e1 : (tileIdx t g j 1).val = 128 * g.val + 1 * (j 1).val := rfl
  unfold key; rw [e0, e1]; omega
theorem tile_of_key (t : Fin 8) (g : Fin 14) (y : S128x1792.Idx) (h : key y = t.val * 14 + g.val) :
    y = tileIdx t g (ix2 ⟨(y 0).val % 16, by omega⟩ ⟨(y 1).val % 128, by omega⟩) := by
  have h0 : (y 0).val < 128 := (y 0).isLt
  have h1 : (y 1).val < 1792 := (y 1).isLt
  have hg := g.isLt
  unfold key at h
  funext d
  fin_cases d
  · apply Fin.ext; show (y 0).val = 16 * t.val + 1 * ((y 0).val % 16); omega
  · apply Fin.ext; show (y 1).val = 128 * g.val + 1 * ((y 1).val % 128); omega

/-- A staging buffer's first `n` tile groups hold the block `v`. -/
def Done (M : Memref sig .tc .vmem S128x1792 .bf16) (f : M.view.ty.Contents (Elt F)) (v : S128x1792.Idx → F .bf16) (n : Nat) : Prop :=
  ∀ y, key y < n → M.view.read (Elt F) f y = v y

/-- A buffer stored to through a rectangle, read inside the rectangle and outside. -/
theorem store_in (M : Memref sig .tc .vmem S128x1792 .bf16) (r : Rect S128x1792) (f : M.view.ty.Contents (Elt F)) (w : r.shape.Idx → F .bf16) (j : r.shape.Idx) :
    M.view.read (Elt F) ((M.access r).write (Elt F) f w Finset.univ) (r.emb j) = w j :=
  View.read_slice_write_emb (v := M.view) r f w (Finset.mem_univ j)
theorem store_out (M : Memref sig .tc .vmem S128x1792 .bf16) (r : Rect S128x1792) (f : M.view.ty.Contents (Elt F)) (w : r.shape.Idx → F .bf16) (y : S128x1792.Idx)
    (h : ∀ j, r.emb j ≠ y) : M.view.read (Elt F) ((M.access r).write (Elt F) f w Finset.univ) y = M.view.read (Elt F) f y :=
  View.read_slice_write_of_not_mem (v := M.view) r f w Finset.univ fun hm => by
    obtain ⟨j, -, e⟩ := Finset.mem_map.mp hm
    exact h j e

/-- One more group stored, through the rectangle of the elements of its key. -/
theorem done_rect (M : Memref sig .tc .vmem S128x1792 .bf16) (r : Rect S128x1792) (f : M.view.ty.Contents (Elt F)) (v : S128x1792.Idx → F .bf16) (n : Nat)
    (w : r.shape.Idx → F .bf16) (hw : ∀ j, w j = v (r.emb j)) (hk : ∀ j, key (r.emb j) = n) (hc : ∀ y, key y = n → ∃ j, r.emb j = y) (h : Done M f v n) :
    Done M ((M.access r).write (Elt F) f w Finset.univ) v (n + 1) := by
  intro y hy
  by_cases e : key y = n
  · obtain ⟨j, rfl⟩ := hc y e
    rw [store_in, hw]
  · rw [store_out M r f w y fun j hj => e (hj ▸ hk j)]
    exact h y (by omega)

/-- One more group stored. -/
theorem done_store (M : Memref sig .tc .vmem S128x1792 .bf16) (f : M.view.ty.Contents (Elt F)) (v : S128x1792.Idx → F .bf16) (t : Fin 8) (g : Fin 14)
    (w : S16x128.Idx → F .bf16) (hw : ∀ j, w j = v (tileIdx t g j)) (h : Done M f v (t.val * 14 + g.val)) :
    Done M ((M.access (Rect.unit (s := S128x1792) ![16 * t.val, 128 * g.val] S16x128.size (tile_inb t g))).write (Elt F) f w Finset.univ) v (t.val * 14 + g.val + 1) :=
  done_rect M (Rect.unit (s := S128x1792) ![16 * t.val, 128 * g.val] S16x128.size (tile_inb t g)) f v _ w hw (key_tile t g)
    (fun y hy => ⟨_, (tile_of_key t g y hy).symm⟩) h

/-- A group stored read back. -/
theorem done_load (M : Memref sig .tc .vmem S128x1792 .bf16) (f : M.view.ty.Contents (Elt F)) (v : S128x1792.Idx → F .bf16) (t : Fin 8) (g : Fin 14)
    (n : Nat) (hn : t.val * 14 + g.val < n) (h : Done M f v n) :
    M.view.readAt (Elt F) (Rect.unit (s := S128x1792) ![16 * t.val, 128 * g.val] S16x128.size (tile_inb t g)).toLoadRect f = fun j => v (tileIdx t g j) := by
  funext j
  exact h (tileIdx t g j) (by rw [key_tile]; exact hn)

end Cert.Proof.KernelIdeal
-- ==== Proof.Ideal.Tile.lean ====
/-
  A tile: its loads, its shifts, its two passes.
-/
module

public import proofs.«01_k».proof.Proof.Ideal.Vals
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

variable (c : Dev nD) (ids : S4096.Idx → BitVec 32) (ws : S16032x1792.Idx → BitVec 32) (sc : S14x64128.Idx → F .f32) (wt : S1x1792.Idx → F .bf16)

/-! ### Reading the ring, the kept scales and the ids -/

/-- The ring seen as 128 rows a slot. -/
abbrev mRows : Memref sig .tc .vmem S3x128x1792 .i32 :=
  mRing.reshape S3x128x1792 reshapes_S3x16x8x1792_S3x128x1792.1 reshapes_S3x16x8x1792_S3x128x1792.2 (Memref.isWhole_whole _).contiguous

theorem rows_emb (x : S3x128x1792.Idx) : mRows.view.emb x = ix4 (n0 := 3) (n1 := 16) (n2 := 8) (n3 := 1792) (x 0)
    ⟨(x 1).val / 8, by have : (x 1).val < 128 := (x 1).isLt; omega⟩ ⟨(x 1).val % 8, by omega⟩ (x 2) := by
  show Shape.reshapeEquiv _ x = _
  refine Shape.reshapeEquiv_eq_of_rowMajor _ ?_
  rw [Shape.rowMajor_val_four, Shape.rowMajor_val_three]
  show (((x 0).val * 16 + (x 1).val / 8) * 8 + (x 1).val % 8) * 1792 + (x 2).val = ((x 0).val * 128 + (x 1).val) * 1792 + (x 2).val
  omega

theorem slotOf_toNat (i : grid0.Coords) : (slotOf i).toNat = (i 0).val % 3 := by
  have hi : (i 0).val < 32 := (i 0).isLt
  exact slotB_toNat ⟨(i 0).val, by omega⟩

/-- The index of the ring a group's load reads. -/
theorem word_emb (i : grid0.Coords) (t : Fin 8) (g : Fin 14) (x : S1x16x128.Idx) (y : S3x16x8x1792.Idx)
    (h : y = mRows.view.emb ((Rect.unit (s := S3x128x1792) (wordOff i t g) S1x16x128.size (word_inb i t g)).emb x)) :
    (y 0).val = (i 0).val % 3 ∧ (y 1).val * 8 + (y 2).val = 16 * t.val + (x 1).val ∧ (y 3).val = 128 * g.val + (x 2).val := by
  have hs := slotOf_toNat i
  have h0 : (x 0).val < 1 := (x 0).isLt
  rw [rows_emb] at h
  subst h
  refine ⟨?_, ?_, ?_⟩
  · show (slotOf i).toNat + 1 * (x 0).val = (i 0).val % 3
    omega
  · show (16 * t.val + 1 * (x 1).val) / 8 * 8 + (16 * t.val + 1 * (x 1).val) % 8 = _
    omega
  · show 128 * g.val + 1 * (x 2).val = _
    omega

theorem word_sub (i : grid0.Coords) (t : Fin 8) (g : Fin 14) :
    mRows.view.setOn (Rect.unit (s := S3x128x1792) (wordOff i t g) S1x16x128.size (word_inb i t g)).toLoadRect.set ⊆ slotSet (slot (i 0).val) := by
  intro y hy
  obtain ⟨z, hz, rfl⟩ := Finset.mem_map.mp hy
  have hz' := (Rect.mem_set_unit (inb := word_inb i t g)).mp hz
  have h0 : (slotOf i).toNat ≤ (z 0).val ∧ (z 0).val < (slotOf i).toNat + 1 := hz' 0
  have hs := slotOf_toNat i
  refine Finset.mem_filter.mpr ⟨Finset.mem_univ _, ?_⟩
  rw [rows_emb]
  show (z 0).val = (i 0).val % 3
  omega

/-- The words of a group of a tile, as loaded. -/
theorem word_read (i : grid0.Coords) (t : Fin 8) (g : Fin 14) (x : S1x16x128.Idx) :
    mRows.view.readAt (Elt F) (Rect.unit (s := S3x128x1792) (wordOff i t g) S1x16x128.size (word_inb i t g)).toLoadRect (ringVal ids ws (i 0).val : Bf (F := F) c mRing) x
      = ws (ix2 (Fin.ofNat 16032 (tok ids ((i 0).val * 128 + (16 * t.val + (x 1).val)) >>> 2).toNat)
          ⟨128 * g.val + (x 2).val, by have : (x 2).val < 128 := (x 2).isLt; omega⟩) := by
  have key : ∀ y, y = mRows.view.emb ((Rect.unit (s := S3x128x1792) (wordOff i t g) S1x16x128.size (word_inb i t g)).emb x) →
      ringVal ids ws (i 0).val y = ws (ix2 (Fin.ofNat 16032 (tok ids ((i 0).val * 128 + (16 * t.val + (x 1).val)) >>> 2).toNat)
        ⟨128 * g.val + (x 2).val, by have : (x 2).val < 128 := (x 2).isLt; omega⟩) := by
    intro y hy
    obtain ⟨-, h1, h2⟩ := word_emb i t g x y hy
    unfold ringVal
    rw [Nat.add_assoc, h1]
    exact congrArg ws (congrArg (ix2 _) (Fin.ext h2))
  exact key _ rfl

/-- The kept scales hold block `b`'s. -/
def Kept (b : Nat) (f : S128x128.Idx → F .f32) : Prop :=
  ∀ (y : S128x128.Idx) (hy : (y 1).val < 14), f y = metaS (scaleAt ids sc (b * 128 + (y 0).val) ⟨(y 1).val, hy⟩)

theorem kept_read (b : Nat) (f : S128x128.Idx → F .f32) (h : Kept ids sc b f) (t : Fin 8) (g : Fin 14) (x : S16x1.Idx) :
    mMeta.view.readAt (Elt F) (Rect.unit (s := S128x128) ![16 * t.val, g.val] S16x1.size (scale_inb t g)).toLoadRect (f : Bf (F := F) c mMeta) x
      = metaS (scaleAt ids sc (b * 128 + (16 * t.val + (x 0).val)) g) := by
  have h1 : (x 1).val < 1 := (x 1).isLt
  have hg := g.isLt
  let y : S128x128.Idx := (Rect.unit (s := S128x128) ![16 * t.val, g.val] S16x1.size (scale_inb t g)).emb x
  have e0 : (y 0).val = 16 * t.val + (x 0).val := by show 16 * t.val + 1 * (x 0).val = _; omega
  have e1 : (y 1).val = g.val := by show g.val + 1 * (x 1).val = _; omega
  show f y = _
  rw [h y (by omega)]
  have : (⟨(y 1).val, by omega⟩ : Fin 14) = g := Fin.ext e1
  rw [this, e0]

/-- A cast of a vector to its own shape. -/
theorem cast_self {s : Shape} {α : Type} (v : s.Idx → α) (h : s.ShapeCasts s) : shapeCast s v h = v :=
  funext fun j => congrArg v (Shape.reshapeEquiv_self _ j)

theorem metaOf_apply (acc : FVec F S14x128 .f32) (x : S128x14.Idx) : metaOf acc x = metaS (acc (ix2 (n0 := 14) (n1 := 128) (x 1) (x 0))) := by
  unfold metaOf
  rw [cast_self]
  show metaS (transpose S128x14 [1, 0] acc transposes_S14x128_p1_0_S128x14 x) = _
  refine congrArg (fun z => metaS (acc z)) (funext fun d => ?_)
  fin_cases d <;> rfl

include c in
theorem keep_kept (b : Nat) (acc : FVec F S14x128 .f32) (h : Picked ids sc b 128 acc) (f : Bf (F := F) c mMeta) :
    Kept ids sc b ((mMeta.access (Rect.unit (s := S128x128) ![0, 0] S128x14.size inb_S128x128_S128x14_0_0)).write (Elt F) f (metaOf acc) Finset.univ) := by
  intro y hy
  have h0 : (y 0).val < 128 := (y 0).isLt
  obtain ⟨x, e⟩ : ∃ x : S128x14.Idx, y = (Rect.unit (s := S128x128) ![0, 0] S128x14.size inb_S128x128_S128x14_0_0).emb x :=
    ⟨ix2 (n0 := 128) (n1 := 14) (y 0) ⟨(y 1).val, hy⟩, by
      funext d
      fin_cases d
      · apply Fin.ext; show (y 0).val = 0 + 1 * (y 0).val; omega
      · apply Fin.ext; show (y 1).val = 0 + 1 * (y 1).val; omega⟩
  have e0 : (y 0).val = (x 0).val := by rw [e]; show 0 + 1 * (x 0).val = _; omega
  have e1 : (⟨(y 1).val, hy⟩ : Fin 14) = x 1 := Fin.ext (by show (y 1).val = _; rw [e]; show 0 + 1 * (x 1).val = _; omega)
  have hx0 : (x 0).val < 128 := (x 0).isLt
  rw [e0, e1]
  refine .trans (congrArg _ e) ?_
  refine .trans (View.write_emb_of_mem (v := mMeta.access (Rect.unit (s := S128x128) ![0, 0] S128x14.size inb_S128x128_S128x14_0_0)) (Val := Elt F) f (metaOf acc) (x := x) (Finset.mem_univ x)) ?_
  show metaOf acc x = _
  rw [metaOf_apply]
  exact congrArg metaS (h (ix2 (x 1) (x 0)) hx0)

set_option backward.isDefEq.respectTransparency.types false in
/-- The scales kept as columns. -/
theorem keep_wp (b : Nat) (acc : FVec F S14x128 .f32) (h : Picked ids sc b 128 acc) (Q : PUnit → sProp 𝕄) :
    iprop(∃ f : Bf (F := F) c mMeta, pt c mMeta f)
      ⊢ iprop((iprop(∃ f : S128x128.Idx → F .f32, pt c mMeta (f : Bf (F := F) c mMeta) ∗ ⌜Kept ids sc b f⌝) -∗ Q ⟨⟩)
        -∗ wpb c (keep (F := F) mMeta acc) Q) := by
  unfold keep wpb
  simp only [Prog.lift, Prog.bind_op, Prog.bind_ret]
  iintro ⟨%f, H⟩ Hk
  iapply (wp_load 𝒱₀ (c : Thread nD τ) none Set.univ (m := mMeta) (S := Finset.univ) (Finset.subset_univ _)) $$ H
  iintro H
  iapply (wp_store 𝒱₀ (c : Thread nD τ) none Set.univ (m := mMeta) (r := Rect.unit (s := S128x128) ![0, 0] S128x14.size inb_S128x128_S128x14_0_0) (w := metaOf acc) (Mk := Finset.univ) (S := Finset.univ) (f := f) (Finset.subset_univ _)) $$ H
  iintro H
  rw [wp_ret]
  imodintro
  iapply Hk
  iexists _
  isplitl [H]; · iexact H
  ipureintro
  exact keep_kept c ids sc b acc h f

set_option backward.isDefEq.respectTransparency.types false in
/-- A tile's shifts. -/
def Ups (b : Nat) (t : Fin 8) (n : Nat) (up : IVec S16x1 32) : Prop :=
  ∀ j : S16x1.Idx, (j 0).val < n → up j = upS (tok ids (b * 128 + (16 * t.val + (j 0).val)))

theorem off115_eq (i : grid0.Coords) (t : Fin 8) (u : Fin 16) : k0_off115 i (BitVec.ofNat 32 (16 * t.val)) (BitVec.ofNat 32 u.val) = ![(i 0).val * 128 + (16 * t.val + u.val)] := by
  have hi : (i 0).val < 32 := (i 0).isLt
  have ht := t.isLt
  have hu := u.isLt
  unfold k0_off115
  dsimp only
  congr 1
  simp only [Scalar.indexCast, Scalar.addi, Scalar.muli, IntOp.addi, IntOp.muli, BitVec.toNat_add, BitVec.toNat_mul, BitVec.toNat_ofNat]
  omega

theorem ups_step (b : Nat) (t : Fin 8) (u : Fin 16) (v : BitVec 32) (hv : v = tok ids (b * 128 + (16 * t.val + u.val))) (up : IVec S16x1 32) (h : Ups ids b t u.val up) :
    Ups ids b t (u.val + 1) (select (cmpi .eq (iota .tc S16x1 32 [0] iota_S16x1_d0_w32) (broadcast S16x1 (BitVec.ofNat 32 u.val))) (broadcast S16x1 (upS v)) up) := by
  intro j hj
  have h0 : (j 0).val < 16 := (j 0).isLt
  have hu := u.isLt
  show (if (IntOp.cmpi .eq (BitVec.ofNat 32 (0 * 16 + (j 0).val)) (BitVec.ofNat 32 u.val)) = 1#1 then upS v else up j) = _
  by_cases hje : (j 0).val = u.val
  · have hc : IntOp.cmpi .eq (BitVec.ofNat 32 (0 * 16 + (j 0).val)) (BitVec.ofNat 32 u.val) = 1#1 := by
      rw [show 0 * 16 + (j 0).val = u.val by omega]
      unfold IntOp.cmpi; simp
    refine (if_pos hc).trans ?_
    rw [hje, hv]
  · have hc : ¬ IntOp.cmpi .eq (BitVec.ofNat 32 (0 * 16 + (j 0).val)) (BitVec.ofNat 32 u.val) = 1#1 := by
      have hne : BitVec.ofNat 32 (0 * 16 + (j 0).val) ≠ BitVec.ofNat 32 u.val := fun e => hje (by
        have := congrArg BitVec.toNat e
        rw [BitVec.toNat_ofNat, BitVec.toNat_ofNat] at this; omega)
      unfold IntOp.cmpi
      show ¬ BitVec.ofBool (BitVec.ofNat 32 (0 * 16 + (j 0).val) == BitVec.ofNat 32 u.val) = 1#1
      rw [beq_false_of_ne hne]; decide
    refine (if_neg hc).trans ?_
    exact h j (by omega)

set_option backward.isDefEq.respectTransparency.types false in
theorem upStep_wp (i : grid0.Coords) (t : Fin 8) (u : Fin 16) (up : IVec S16x1 32) (Q : IVec S16x1 32 → sProp 𝕄) :
    iprop(idsAt c ids ∗ ⌜Ups ids (i 0).val t u.val up⌝)
      ⊢ iprop((∀ up', iprop(idsAt c ids ∗ ⌜Ups ids (i 0).val t (u.val + 1) up'⌝) -∗ Q up')
        -∗ wpb c (upStep (F := F) i mIds (iota .tc S16x1 32 [0] iota_S16x1_d0_w32) t u up) Q) := by
  have hi : (i 0).val < 32 := (i 0).isLt
  have ht : ∀ x, (mIds.access (Rect.unit (s := S4096) (k0_off115 i (BitVec.ofNat 32 (16 * t.val)) (BitVec.ofNat 32 u.val)) S1.size (k0_off115_inb i t u))).read (Elt F) ids x
      = tok ids ((i 0).val * 128 + (16 * t.val + u.val)) := fun x => by
    have : ∀ (o : Fin 1 → Nat) (h : ∀ a, o a + S1.size a ≤ S4096.size a), o = ![(i 0).val * 128 + (16 * t.val + u.val)] →
        (mIds.access (Rect.unit (s := S4096) o S1.size h)).read (Elt F) ids x = tok ids ((i 0).val * 128 + (16 * t.val + u.val)) := by
      intro o h e; subst e; exact ids_load ids _ (by omega) h x
    exact this _ _ (off115_eq i t u)
  have e : upStep (F := F) i mIds (iota .tc S16x1 32 [0] iota_S16x1_d0_w32) t u up =
      smemLoadElt mIds (Rect.unit (s := S4096) (k0_off115 i (BitVec.ofNat 32 (16 * t.val)) (BitVec.ofNat 32 u.val)) S1.size (k0_off115_inb i t u)) (View.loads_smem_one (e := .i32) rfl numel1_S1) (Shape.Idx.first (s := S1) (numel1_S1.symm ▸ Nat.one_pos)) fun (v : Elt F .i32) =>
      Prog.ret (select (cmpi .eq (iota .tc S16x1 32 [0] iota_S16x1_d0_w32) (broadcast S16x1 (BitVec.ofNat 32 u.val))) (broadcast S16x1 (upS v)) up) := rfl
  rw [e]
  iintro ⟨Hi, %hp⟩ Hk
  iapply (wp_smemLoadElt 𝒱₀ (c : Thread nD τ) none Set.univ (m := mIds) (r := Rect.unit (s := S4096) (k0_off115 i (BitVec.ofNat 32 (16 * t.val)) (BitVec.ofNat 32 u.val)) S1.size (k0_off115_inb i t u)) (S := Finset.univ) (Finset.subset_univ _)) $$ Hi
  iintro Hi
  rw [ht, wp_ret]
  imodintro
  iapply Hk
  isplitl [Hi]; · iexact Hi
  ipureintro
  exact ups_step ids (i 0).val t u _ rfl up hp

end Cert.Proof.KernelIdeal
-- ==== Proof.Ideal.Tiles.lean ====
module

public import proofs.«01_k».proof.Proof.Ideal.Tile

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

variable (c : Dev nD) (ids : S4096.Idx → BitVec 32) (ws : S16032x1792.Idx → BitVec 32) (sc : S14x64128.Idx → F .f32) (wt : S1x1792.Idx → F .bf16)

/-! ### One group's values -/

/-- What a group's step stores: the words and scales loaded, dequantised, are the embedding's group. -/
theorem deq_eq (b : Nat) (t : Fin 8) (g : Fin 14) (up : IVec S16x1 32) (hup : Ups ids b t 16 up) (w : Vec F S1x16x128 .i32) (s : Vec F S16x1 .f32)
    (hw : ∀ x : S1x16x128.Idx, w x = ws (ix2 (Fin.ofNat 16032 (tok ids (b * 128 + (16 * t.val + (x 1).val)) >>> 2).toNat)
          ⟨128 * g.val + (x 2).val, by have : (x 2).val < 128 := (x 2).isLt; omega⟩))
    (hs : ∀ x : S16x1.Idx, s x = metaS (scaleAt ids sc (b * 128 + (16 * t.val + (x 0).val)) g)) : deq up w s = eT ids ws sc b t g := by
  funext j
  have h0 : (j 0).val < 16 := (j 0).isLt
  have h1 : (j 1).val < 128 := (j 1).isLt
  have hb : ∀ (α : Type) (x : S16x1.Idx → α), broadcastTo S16x128 x broadcasts_S16x1_S16x128 j = x (ix2 (n0 := 16) (n1 := 1) (j 0) 0) := fun α x =>
    broadcastTo_apply x _ j _ fun a => by fin_cases a <;> rfl
  have hc : shapeCast S16x128 w shapeCasts_S1x16x128_S16x128 j = w (ix3 (n0 := 1) (n1 := 16) (n2 := 128) 0 (j 0) (j 1)) :=
    shapeCast_apply w _ j _ (by
      rw [Shape.rowMajor_val_three, Shape.rowMajor_val_two]
      show (0 * 16 + (j 0).val) * 128 + (j 1).val = (j 0).val * 128 + (j 1).val
      omega)
  show FloatOps.truncf .bf16 bitsLt_bf16_f32 (FloatOps.mulf (FloatOps.sitofp .f32 (IntOp.shrsi .vector (IntOp.shli .vector
    (shapeCast S16x128 w shapeCasts_S1x16x128_S16x128 j) (broadcastTo S16x128 (shapeCast S16x1 up shapeCasts_S16x1_S16x1) broadcasts_S16x1_S16x128 j)) 24#32))
    (broadcastTo S16x128 s broadcasts_S16x1_S16x128 j)) = _
  rw [hc, hb, hb, cast_self, hw, hs, hup _ h0]
  have e0 : (tileIdx t g j 0).val = 16 * t.val + (j 0).val := by show 16 * t.val + 1 * (j 0).val = _; omega
  have e1 : (tileIdx t g j 1).val = 128 * g.val + (j 1).val := by show 128 * g.val + 1 * (j 1).val = _; omega
  unfold eT embB embS
  have hc1 : tileIdx t g j 1 = (⟨128 * g.val + (j 1).val, by omega⟩ : Fin 1792) := Fin.ext e1
  have hg : (⟨(tileIdx t g j 1).val / 128, by rw [e1]; omega⟩ : Fin 14) = g := Fin.ext (by show (tileIdx t g j 1).val / 128 = g.val; rw [e1]; omega)
  rw [e0, hg, hc1]

/-! ### The two passes -/

section Passes
variable (i : grid0.Coords) (M4 : Memref sig .tc .vmem S1x1792 .bf16) (M5 : Memref sig .tc .vmem S128x1792 .bf16) (h5 : M5.IsWhole)
  (M6 : Memref sig .tc .vmem S128x1792 .bf16) (h6 : M6.IsWhole)

/-- What the first pass holds: the ring's slot, the kept scales, and the embedding's staging buffer, done up to a group. -/
def grpI (n : Nat) : sProp 𝕄 :=
  iprop(ringAt (F := F) c (slot (i 0).val) (ringVal ids ws (i 0).val)
    ∗ (∃ f : S128x128.Idx → F .f32, pt c mMeta (f : Bf (F := F) c mMeta) ∗ ⌜Kept ids sc (i 0).val f⌝)
    ∗ ∃ f : Bf (F := F) c M6, pt c M6 f ∗ ⌜Done M6 f (embB ids ws sc (i 0).val) n⌝)

set_option backward.isDefEq.respectTransparency.types false in
theorem grpStep_wp (t : Fin 8) (up : IVec S16x1 32) (hup : Ups ids (i 0).val t 16 up) (g : Fin 14) (acc : FVec F S16x128 .f32) (Q : FVec F S16x128 .f32 → sProp 𝕄) :
    grpI c ids ws sc i M6 (t.val * 14 + g.val)
      ⊢ iprop((grpI c ids ws sc i M6 (t.val * 14 + (g.val + 1)) -∗ Q (sqAdd acc (eT ids ws sc (i 0).val t g)))
        -∗ wpb c (grpStep i M6 h6 mRing (Memref.isWhole_whole _) mMeta t up g acc) Q) := by
  unfold grpI grpStep wpb
  simp only [Prog.lift, Prog.bind_op, Prog.bind_ret]
  iintro ⟨Hr, ⟨%fm, Hm, %hm⟩, ⟨%f6, H6, %h⟩⟩ Hk
  iapply (wp_load 𝒱₀ (c : Thread nD τ) none Set.univ (m := mRows) (S := slotSet (slot (i 0).val)) (word_sub i t g)) $$ Hr
  iintro Hr
  iapply (wp_load 𝒱₀ (c : Thread nD τ) none Set.univ (m := mMeta) (S := Finset.univ) (Finset.subset_univ _)) $$ Hm
  iintro Hm
  iapply (wp_load 𝒱₀ (c : Thread nD τ) none Set.univ (m := M6) (S := Finset.univ) (Finset.subset_univ _)) $$ H6
  iintro H6
  rw [deq_eq ids ws sc (i 0).val t g up hup (mRows.view.readAt (Elt F) (Rect.unit (s := S3x128x1792) (wordOff i t g) S1x16x128.size (word_inb i t g)).toLoadRect (ringVal ids ws (i 0).val : Bf (F := F) c mRing)) _ (fun x => word_read ids ws i t g x) (fun x => kept_read ids sc (i 0).val fm hm t g x)]
  iapply (wp_store 𝒱₀ (c : Thread nD τ) none Set.univ (m := M6) (r := Rect.unit (s := S128x1792) ![16 * t.val, 128 * g.val] S16x128.size (tile_inb t g)) (w := eT ids ws sc (i 0).val t g) (Mk := Finset.univ) (S := Finset.univ) (f := f6) (Finset.subset_univ _)) $$ H6
  iintro H6
  have hr : ∀ a : FVec F S16x128 .f32, (Pure.pure a : Prog (TpuEff nD τ sig (Elt F) Λ₀ .tc) (FVec F S16x128 .f32)) = Prog.ret a := fun _ => rfl
  rw [hr, wp_ret]
  imodintro
  iapply Hk
  isplitl [Hr]; · iexact Hr
  isplitl [Hm]
  · iexists fm
    isplitl [Hm]; · iexact Hm
    ipureintro; exact hm
  iexists _
  isplitl [H6]; · iexact H6
  ipureintro
  exact done_store M6 f6 _ t g _ (fun _ => rfl) h

/-- What the second pass holds: the embedding's buffer done past the tile, the weights, and the result's buffer, done up to a group. -/
def outI (k n : Nat) : sProp 𝕄 :=
  iprop((∃ f : Bf (F := F) c M6, pt c M6 f ∗ ⌜Done M6 f (embB ids ws sc (i 0).val) k⌝)
    ∗ (∃ f : Bf (F := F) c M4, pt c M4 f ∗ ⌜M4.view.read (Elt F) f = wt⌝)
    ∗ ∃ f : Bf (F := F) c M5, pt c M5 f ∗ ⌜Done M5 f (outB ids ws sc wt (i 0).val) n⌝)

set_option backward.isDefEq.respectTransparency.types false in
theorem outStep_wp (t : Fin 8) (g : Fin 14) (Q : PUnit → sProp 𝕄) :
    outI c ids ws sc wt i M4 M5 M6 (t.val * 14 + 14) (t.val * 14 + g.val)
      ⊢ iprop((outI c ids ws sc wt i M4 M5 M6 (t.val * 14 + 14) (t.val * 14 + (g.val + 1)) -∗ Q ⟨⟩)
        -∗ wpb c (outStep M4 M5 h5 M6 t (rmsRec (accT ids ws sc (i 0).val t)) g) Q) := by
  have hg := g.isLt
  unfold outI outStep wpb
  simp only [Prog.lift, Prog.bind_op, Prog.bind_ret]
  iintro ⟨⟨%f6, H6, %h6⟩, ⟨%f4, H4, %h4⟩, ⟨%f5, H5, %h⟩⟩ Hk
  iapply (wp_load 𝒱₀ (c : Thread nD τ) none Set.univ (m := M6) (S := Finset.univ) (Finset.subset_univ _)) $$ H6
  iintro H6
  iapply (wp_load 𝒱₀ (c : Thread nD τ) none Set.univ (m := M4) (S := Finset.univ) (Finset.subset_univ _)) $$ H4
  iintro H4
  iapply (wp_load 𝒱₀ (c : Thread nD τ) none Set.univ (m := M5) (S := Finset.univ) (Finset.subset_univ _)) $$ H5
  iintro H5
  have e6 := done_load M6 f6 _ t g _ (by omega) h6
  have e4 : M4.view.readAt (Elt F) (Rect.unit (s := S1x1792) ![0, 128 * g.val] S1x128.size (weight_inb g)).toLoadRect f4 = wT wt g := funext fun j => congrFun h4 _
  rw [e6, e4]
  iapply (wp_store 𝒱₀ (c : Thread nD τ) none Set.univ (m := M5) (r := Rect.unit (s := S128x1792) ![16 * t.val, 128 * g.val] S16x128.size (tile_inb t g)) (w := outT ids ws sc wt (i 0).val t g) (Mk := Finset.univ) (S := Finset.univ) (f := f5) (Finset.subset_univ _)) $$ H5
  iintro H5
  rw [wp_ret]
  imodintro
  iapply Hk
  isplitl [H6]
  · iexists f6
    isplitl [H6]; · iexact H6
    ipureintro; exact h6
  isplitl [H4]
  · iexists f4
    isplitl [H4]; · iexact H4
    ipureintro; exact h4
  iexists _
  isplitl [H5]; · iexact H5
  ipureintro
  exact done_store M5 f5 _ t g _ (fun j => (outB_tile ids ws sc wt (i 0).val t g j).symm) h

/-- What the tiles hold. -/
def tileI (n : Nat) : sProp 𝕄 :=
  iprop(idsAt c ids ∗ grpI c ids ws sc i M6 n
    ∗ (∃ f : Bf (F := F) c M4, pt c M4 f ∗ ⌜M4.view.read (Elt F) f = wt⌝)
    ∗ ∃ f : Bf (F := F) c M5, pt c M5 f ∗ ⌜Done M5 f (outB ids ws sc wt (i 0).val) n⌝)

set_option backward.isDefEq.respectTransparency.types false in
theorem tile_wp (t : Fin 8) (Q : PUnit → sProp 𝕄) :
    tileI c ids ws sc wt i M4 M5 M6 (t.val * 14)
      ⊢ iprop((tileI c ids ws sc wt i M4 M5 M6 ((t.val + 1) * 14) -∗ Q ⟨⟩)
        -∗ wpb c (tile (F := F) i mIds M4 M5 h5 M6 h6 mRing (Memref.isWhole_whole _) mMeta (iota .tc S16x1 32 [0] iota_S16x1_d0_w32) t) Q) := by
  have hn : (t.val + 1) * 14 = t.val * 14 + 14 := by omega
  rw [hn]
  unfold tile tileI wpb
  rw [L16_eq, L14_eq, wp_bind]
  iintro ⟨Hi, Hg, H4, H5⟩ Hk
  iapply (fold_wpI c _ (fun n up => iprop(idsAt c ids ∗ ⌜Ups ids (i 0).val t n up⌝))
    (fun u s Q => upStep_wp c ids i t u s Q) (broadcast S16x1 0#32) _) $$ [Hi]
  · isplitl [Hi]; · iexact Hi
    ipureintro
    intro j hj; omega
  iintro %up ⟨Hi, %hup⟩
  rw [wp_bind]
  iapply (fold_wp c _ (fun g a => sqAdd a (eT ids ws sc (i 0).val t g)) (fun n => grpI c ids ws sc i M6 (t.val * 14 + n))
    (fun u s Q => grpStep_wp c ids ws sc i M6 h6 t up hup u s Q) (broadcast S16x128 (Scalar.ofBits .f32 0x00000000#32)) _) $$ Hg
  iintro Hg
  unfold grpI
  icases Hg with ⟨Hr, Hm, H6⟩
  iapply (each_wp c _ (fun n => outI c ids ws sc wt i M4 M5 M6 (t.val * 14 + 14) (t.val * 14 + n))
    (fun u Q => outStep_wp c ids ws sc wt i M4 M5 h5 M6 t u Q) _) $$ [H4 H5 H6]
  · unfold outI
    isplitl [H6]; · iexact H6
    isplitl [H4]; · iexact H4
    iexact H5
  unfold outI
  iintro ⟨H6, H4, H5⟩
  iapply Hk
  isplitl [Hi]; · iexact Hi
  isplitl [Hr Hm H6]
  · isplitl [Hr]; · iexact Hr
    isplitl [Hm]; · iexact Hm
    iexact H6
  isplitl [H4]; · iexact H4
  iexact H5

set_option backward.isDefEq.respectTransparency.types false in
theorem tiles_wp (Q : PUnit → sProp 𝕄) :
    tileI c ids ws sc wt i M4 M5 M6 0
      ⊢ iprop((tileI c ids ws sc wt i M4 M5 M6 112 -∗ Q ⟨⟩)
        -∗ wpb c (tiles (F := F) i mIds M4 M5 h5 M6 h6 mRing (Memref.isWhole_whole _) mMeta) Q) := by
  have h := each_wp (F := F) c (tile (F := F) i mIds M4 M5 h5 M6 h6 mRing (Memref.isWhole_whole _) mMeta (iota .tc S16x1 32 [0] iota_S16x1_d0_w32)) (fun n => tileI c ids ws sc wt i M4 M5 M6 (n * 14)) (fun u Q => tile_wp c ids ws sc wt i M4 M5 h5 M6 h6 u Q) Q
  have hs : ∀ a b, a = 0 * 14 → b = 8 * 14 → (tileI c ids ws sc wt i M4 M5 M6 a
      ⊢ iprop((tileI c ids ws sc wt i M4 M5 M6 b -∗ Q ⟨⟩)
        -∗ wpb c (tiles (F := F) i mIds M4 M5 h5 M6 h6 mRing (Memref.isWhole_whole _) mMeta) Q)) := by
    intro a b ha hb
    subst ha hb
    unfold tiles
    rw [L8_eq]
    beta_reduce at h
    convert h using 3
  exact hs 0 112 (by omega) (by omega)

end Passes

end Cert.Proof.KernelIdeal
-- ==== Proof.Ideal.Triple.lean ====
module

public import proofs.«01_k».proof.Proof.Ideal.Tiles
public import proofs.«01_k».proof.Proof.Ideal.Fill

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

variable (c : Dev nD) (ids : S4096.Idx → BitVec 32) (ws : S16032x1792.Idx → BitVec 32) (sc : S14x64128.Idx → F .f32) (wt : S1x1792.Idx → F .bf16)

/-- What the body holds of its own before grid point `p`: the ids, the ring, the scale table and its copy, the kept scales, the
    table's semaphore at zero. -/
def state (p : Nat) : sProp 𝕄 :=
  iprop(idsAt c ids ∗ ringState (F := F) c ids ws p ∗ tabState (F := F) c sc p ∗ pt c mScales (sc : Bf (F := F) c mScales)
    ∗ (∃ f : Bf (F := F) c mMeta, pt c mMeta f) ∗ semVal ((c : Thread nD τ), SemLoc.dma ssem) 0)

theorem off113_eq (i : grid0.Coords) : k0_off113 i = ![(slot (i 0).val).val] := by
  have h : k0_off113 i = ![(slotOf i).toNat] := rfl
  rw [h, slotOf_toNat]
  rfl

theorem slot_add (p : Nat) : slot (p + 3) = slot p := Fin.ext (by show (p + 3) % 3 = p % 3; omega)

set_option backward.isDefEq.respectTransparency.types false in
/-- The body at a grid point: from the weights in their buffer, the block of the embedding and of the result in theirs. -/
theorem body_wp (hids : ∀ x, (ids x).toNat < 64128) (i : grid0.Coords) (M4 : Memref sig .tc .vmem S1x1792 .bf16) (M5 : Memref sig .tc .vmem S128x1792 .bf16) (h5 : M5.IsWhole)
    (M6 : Memref sig .tc .vmem S128x1792 .bf16) (h6 : M6.IsWhole) (Q : PUnit → sProp 𝕄) :
    iprop(state c ids ws sc (i 0).val ∗ owing (F := F) c ∗ (∃ f : Bf (F := F) c M4, pt c M4 f ∗ ⌜M4.view.read (Elt F) f = wt⌝)
        ∗ (∃ f : Bf (F := F) c M5, pt c M5 f) ∗ (∃ f : Bf (F := F) c M6, pt c M6 f))
      ⊢ iprop((iprop(state c ids ws sc ((i 0).val + 1) ∗ owing (F := F) c ∗ (∃ f : Bf (F := F) c M4, pt c M4 f ∗ ⌜M4.view.read (Elt F) f = wt⌝)
          ∗ (∃ f : Bf (F := F) c M5, pt c M5 f ∗ ⌜M5.view.read (Elt F) f = outB ids ws sc wt (i 0).val⌝)
          ∗ (∃ f : Bf (F := F) c M6, pt c M6 f ∗ ⌜M6.view.read (Elt F) f = embB ids ws sc (i 0).val⌝)) -∗ Q ⟨⟩)
        -∗ wpb c (body (F := F) i mIds mWords M4 M5 h5 M6 h6 mRing (Memref.isWhole_whole _) mTab mMeta cc0_scratch3 mScales (Memref.isWhole_whole _) (Memref.isWhole_whole _) cc0_scratch4) Q) := by
  have hi : (i 0).val < 32 := (i 0).isLt
  unfold body state wpb
  rw [wp_bind]
  iintro ⟨⟨Hi, HR, HT, Hs, Hm, Hv⟩, HO, H4, H5, H6⟩ Hk
  iapply (fill_wp c ids ws sc hids i _) $$ [Hi HR HT Hs Hv HO]
  · isplitl [Hi]; · iexact Hi
    isplitl [HR]; · iexact HR
    isplitl [HT]; · iexact HT
    isplitl [Hs]; · iexact Hs
    isplitl [Hv]; · iexact Hv
    iexact HO
  unfold filled
  iintro ⟨Hi, ⟨Hp, Hp1, Hf⟩, HT, Hs, Hv, HO⟩
  rw [wp_bind]
  iapply (next_wp c ids ws hids i _) $$ [Hi Hf]
  · isplitl [Hi]; · iexact Hi
    iexact Hf
  iintro ⟨Hi, Hp2⟩
  rw [wp_bind]
  iapply (pick_wp c ids sc hids i _) $$ [Hi HT]
  · isplitl [Hi]; · iexact Hi
    iexact HT
  iintro %acc ⟨Hi, HT, %hacc⟩
  rw [wp_bind]
  iapply (keep_wp c ids sc (i 0).val acc hacc _) $$ Hm
  iintro Hm
  rw [wp_bind]
  icases HO with ⟨%W, HO⟩
  have hst : started (F := F) c ids ws (i 0).val = part (F := F) c ids ws (slot (i 0).val) (i 0).val 128 := if_pos hi
  ihave Hp := (Entails.of_eq hst) $$ Hp
  iapply (drain_wp c ids ws i (off113_eq i) W _) $$ [Hp HO]
  · isplitl [Hp]; · iexact Hp
    iexact HO
  iintro ⟨Hv0, Hr, Hw, HO⟩
  icases H5 with ⟨%f5, H5⟩
  icases H6 with ⟨%f6, H6⟩
  iapply (tiles_wp c ids ws sc wt i M4 M5 h5 M6 h6 _) $$ [Hi Hr Hm H4 H5 H6]
  · unfold tileI grpI
    isplitl [Hi]; · iexact Hi
    isplitl [Hr Hm H6]
    · isplitl [Hr]; · iexact Hr
      isplitl [Hm]; · iexact Hm
      iexists f6
      isplitl [H6]; · iexact H6
      ipureintro; intro y hy; omega
    isplitl [H4]; · iexact H4
    iexists f5
    isplitl [H5]; · iexact H5
    ipureintro; intro y hy; omega
  unfold tileI grpI
  iintro ⟨Hi, ⟨Hr, ⟨%fm, Hm, -⟩, ⟨%g6, H6, %e6⟩⟩, H4, ⟨%g5, H5, %e5⟩⟩
  iapply Hk
  isplitl [Hi Hp1 Hp2 Hv0 Hr Hw HT Hs Hm Hv]
  · isplitl [Hi]; · iexact Hi
    isplitl [Hp1 Hp2 Hv0 Hr Hw]
    · unfold ringState filled
      rw [if_neg (Nat.succ_ne_zero _), show (i 0).val + 1 + 1 = (i 0).val + 2 from rfl, show (i 0).val + 1 + 2 = (i 0).val + 3 from rfl, slot_add]
      isplitl [Hp1]; · iexact Hp1
      isplitl [Hp2]; · iexact Hp2
      iapply (free_of c ws (slot (i 0).val) (ringVal ids ws (i 0).val))
      isplitl [Hv0]; · iexact Hv0
      isplitl [Hr]; · iexact Hr
      iexact Hw
    isplitl [HT]
    · unfold tabState
      rw [if_neg (Nat.succ_ne_zero _)]
      iexact HT
    isplitl [Hs]; · iexact Hs
    isplitl [Hm]; · iexists fm; iexact Hm
    iexact Hv
  isplitl [HO]; · iexists _; iexact HO
  isplitl [H4]; · iexact H4
  isplitl [H5]
  · iexists g5
    isplitl [H5]; · iexact H5
    ipureintro; exact funext fun y => e5 y (key_lt y)
  iexists g6
  isplitl [H6]; · iexact H6
  ipureintro; exact funext fun y => e6 y (key_lt y)

end Cert.Proof.KernelIdeal
-- ==== Proof.Ideal.Region.lean ====
module

public import proofs.«01_k».proof.Proof.Ideal.Triple
public import proofs.«01_k».proof.Proof.Gen.KernelIdeal.Launch
public import Idealize.ShloMosaic.Lib.Pipeline.FrameSuffixV
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

open Idealize.ShloMosaic.Pipeline (Dat Cfg Window BodyObligation)

abbrev Val0 (F : FTy → Type) : Type := (c : Dev nD) → (b : Ref sig .tc) → Buf (Elt F) ((c : Thread nD τ).loc b)

section Region
variable (V : Val0 F) (a : (p : Fin 1) → (pcfgs (F := F) p).Adm)

/-- What the region reads of its entry contents: the ids, the table's words, the scales, the weights. -/
abbrev idsV (c : Dev nD) : S4096.Idx → BitVec 32 := V c main_v0
abbrev wordsV (c : Dev nD) : S16032x1792.Idx → BitVec 32 := V c main_v3
abbrev scalesV (c : Dev nD) : S14x64128.Idx → F .f32 := V c main_v4
abbrev weightV (c : Dev nD) : S1x1792.Idx → F .bf16 := V c main_v5

/-- The invariant before grid point `p`: the body's own, and the share of the words no row's copy takes. -/
def phi (c : Dev nD) (p : Nat) : sProp 𝕄 :=
  iprop(state c (idsV V c) (wordsV V c) (scalesV V c) p
    ∗ (mWords.view.loc (c : Thread nD τ) ↦{shareDrop fullShare 384} (wordsV V c : Bf (F := F) c mWords)))

/-- The proof data of the region from valuation `V`: after a grid point the weights' buffer as it was, the result's and the
    embedding's at their blocks. -/
def dats (p : Fin 1) (c : Dev nD) : Dat τ (Elt F) Unit ℕ (UD sig nD τ) ℕ (Pipeline.pin (pcfgs (F := F)) a p) c where
  A w := V c (Pipeline.arrRef spec0 w)
  after w t := match w with
    | ⟨0, _⟩ => weightV V c
    | ⟨1, _⟩ => outB (idsV V c) (wordsV V c) (scalesV V c) (weightV V c) t.val
    | ⟨2, _⟩ => embB (idsV V c) (wordsV V c) (scalesV V c) t.val
  Φ t := phi V c t.val
  q _ := fullShare
  owed _ := 0

theorem coords_val : ∀ t : Fin grid0.N, (grid0.coords t 0).val = t.val := by decide +kernel

/-- The weights' block is the weights, at every grid point. -/
theorem weight_blk (c : Dev nD) (t : Fin grid0.N) : (dats V a 0 c).blockOf 0 t = weightV V c := by
  have h : ∀ y : S1x1792.Idx, (dats V a 0 c).blockOf 0 t y = weightV V c y := fun y => by
    refine congrArg (V c main_v5) (funext fun d => ?_)
    fin_cases d
    · apply Fin.ext; show 0 + 1 * (y 0).val = (y 0).val; omega
    · apply Fin.ext; show 0 + 1 * (y 1).val = (y 1).val; omega
  exact funext h

theorem before_weight (c : Dev nD) (t : Fin grid0.N) (d : S1x1792.Idx → F .bf16) : (dats V a 0 c).before 0 t d = weightV V c := by
  rw [Dat.before_in_eq_fetched (dats V a 0 c) 0 rfl (fun _ => rfl) (fun _ _ _ => rfl) (fun t => (weight_blk V a c t).symm) t d]
  exact weight_blk V a c t

/-- A whole memref's ownership is its buffer's. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt
  rw [h.set_eq_univ]

set_option backward.isDefEq.respectTransparency.types false in
theorem body_obligation (c : Dev nD) (hids : ∀ x, (idsV V c x).toNat < 64128) : BodyObligation (dats V a 0 c) (defs₀ (F := F)) 𝒱₀ () Set.univ := fun t => by
  rw [bigSep_W0, bigSep_W0]
  have ht : (grid0.coords t 0).val = t.val := coords_val t
  rw [show (dats V a 0 c).Φ t.castSucc = phi V c t.val from rfl, show (dats V a 0 c).Φ t.succ = phi V c (t.val + 1) from rfl]
  have hb : defs₀ (F := F) .tc (Pipeline.pin (pcfgs (F := F)) a 0).body ((Pipeline.pin (pcfgs (F := F)) a 0).bodyArgs t ((Pipeline.pin (pcfgs (F := F)) a 0).slots t))
      = body (F := F) (grid0.coords t) mIds mWords (((Pipeline.pin (pcfgs (F := F)) a 0).win 0).stage ((Pipeline.pin (pcfgs (F := F)) a 0).slots t 0))
        (((Pipeline.pin (pcfgs (F := F)) a 0).win 1).stage ((Pipeline.pin (pcfgs (F := F)) a 0).slots t 1)) (stage_whole0 1 _)
        (((Pipeline.pin (pcfgs (F := F)) a 0).win 2).stage ((Pipeline.pin (pcfgs (F := F)) a 0).slots t 2)) (stage_whole0 2 _)
        mRing (Memref.isWhole_whole _) mTab mMeta cc0_scratch3 mScales (Memref.isWhole_whole _) (Memref.isWhole_whole _) cc0_scratch4 :=
    body_eq ..
  rw [hb]
  have i0 : ∀ d, (owns (c : Thread nD τ) (((Pipeline.pin (pcfgs (F := F)) a 0).win 0).stage ((Pipeline.pin (pcfgs (F := F)) a 0).slots t 0)) fullShare ((dats V a 0 c).before 0 t d) : sProp 𝕄)
      ⊢ iprop(∃ f : Bf (F := F) c (((Pipeline.pin (pcfgs (F := F)) a 0).win 0).stage ((Pipeline.pin (pcfgs (F := F)) a 0).slots t 0)), ⌜View.read (Elt F) (((Pipeline.pin (pcfgs (F := F)) a 0).win 0).stage ((Pipeline.pin (pcfgs (F := F)) a 0).slots t 0)).view f = weightV V c⌝ ∗ pt c (((Pipeline.pin (pcfgs (F := F)) a 0).win 0).stage ((Pipeline.pin (pcfgs (F := F)) a 0).slots t 0)) f) := fun d => by
    rw [before_weight]; exact Entails.of_eq (owns_pt c _ (stage_whole0 0 _) _)
  have i1 : ∀ d, (owns (c : Thread nD τ) (((Pipeline.pin (pcfgs (F := F)) a 0).win 1).stage ((Pipeline.pin (pcfgs (F := F)) a 0).slots t 1)) fullShare ((dats V a 0 c).before 1 t d) : sProp 𝕄)
      ⊢ iprop(∃ f : Bf (F := F) c (((Pipeline.pin (pcfgs (F := F)) a 0).win 1).stage ((Pipeline.pin (pcfgs (F := F)) a 0).slots t 1)), pt c (((Pipeline.pin (pcfgs (F := F)) a 0).win 1).stage ((Pipeline.pin (pcfgs (F := F)) a 0).slots t 1)) f) := fun d => by
    refine (Entails.of_eq (owns_pt c _ (stage_whole0 1 _) _)).trans ?_
    iintro ⟨%f, -, H⟩
    iexists f; iexact H
  have i2 : ∀ d, (owns (c : Thread nD τ) (((Pipeline.pin (pcfgs (F := F)) a 0).win 2).stage ((Pipeline.pin (pcfgs (F := F)) a 0).slots t 2)) fullShare ((dats V a 0 c).before 2 t d) : sProp 𝕄)
      ⊢ iprop(∃ f : Bf (F := F) c (((Pipeline.pin (pcfgs (F := F)) a 0).win 2).stage ((Pipeline.pin (pcfgs (F := F)) a 0).slots t 2)), pt c (((Pipeline.pin (pcfgs (F := F)) a 0).win 2).stage ((Pipeline.pin (pcfgs (F := F)) a 0).slots t 2)) f) := fun d => by
    refine (Entails.of_eq (owns_pt c _ (stage_whole0 2 _) _)).trans ?_
    iintro ⟨%f, -, H⟩
    iexists f; iexact H
  have o0 : iprop(∃ f : Bf (F := F) c (((Pipeline.pin (pcfgs (F := F)) a 0).win 0).stage ((Pipeline.pin (pcfgs (F := F)) a 0).slots t 0)), pt c (((Pipeline.pin (pcfgs (F := F)) a 0).win 0).stage ((Pipeline.pin (pcfgs (F := F)) a 0).slots t 0)) f ∗ ⌜View.read (Elt F) (((Pipeline.pin (pcfgs (F := F)) a 0).win 0).stage ((Pipeline.pin (pcfgs (F := F)) a 0).slots t 0)).view f = weightV V c⌝)
      ⊢ (owns (c : Thread nD τ) (((Pipeline.pin (pcfgs (F := F)) a 0).win 0).stage ((Pipeline.pin (pcfgs (F := F)) a 0).slots t 0)) fullShare ((dats V a 0 c).after 0 t) : sProp 𝕄) := by
    refine .trans ?_ (Entails.of_eq (owns_pt c _ (stage_whole0 0 _) _).symm)
    iintro ⟨%f, H, %h⟩
    iexists f
    isplitr; · ipureintro; exact h
    iexact H
  have o1 : iprop(∃ f : Bf (F := F) c (((Pipeline.pin (pcfgs (F := F)) a 0).win 1).stage ((Pipeline.pin (pcfgs (F := F)) a 0).slots t 1)), pt c (((Pipeline.pin (pcfgs (F := F)) a 0).win 1).stage ((Pipeline.pin (pcfgs (F := F)) a 0).slots t 1)) f ∗ ⌜View.read (Elt F) (((Pipeline.pin (pcfgs (F := F)) a 0).win 1).stage ((Pipeline.pin (pcfgs (F := F)) a 0).slots t 1)).view f = outB (idsV V c) (wordsV V c) (scalesV V c) (weightV V c) t.val⌝)
      ⊢ (owns (c : Thread nD τ) (((Pipeline.pin (pcfgs (F := F)) a 0).win 1).stage ((Pipeline.pin (pcfgs (F := F)) a 0).slots t 1)) fullShare ((dats V a 0 c).after 1 t) : sProp 𝕄) := by
    refine .trans ?_ (Entails.of_eq (owns_pt c _ (stage_whole0 1 _) _).symm)
    iintro ⟨%f, H, %h⟩
    iexists f
    isplitr; · ipureintro; exact h
    iexact H
  have o2 : iprop(∃ f : Bf (F := F) c (((Pipeline.pin (pcfgs (F := F)) a 0).win 2).stage ((Pipeline.pin (pcfgs (F := F)) a 0).slots t 2)), pt c (((Pipeline.pin (pcfgs (F := F)) a 0).win 2).stage ((Pipeline.pin (pcfgs (F := F)) a 0).slots t 2)) f ∗ ⌜View.read (Elt F) (((Pipeline.pin (pcfgs (F := F)) a 0).win 2).stage ((Pipeline.pin (pcfgs (F := F)) a 0).slots t 2)).view f = embB (idsV V c) (wordsV V c) (scalesV V c) t.val⌝)
      ⊢ (owns (c : Thread nD τ) (((Pipeline.pin (pcfgs (F := F)) a 0).win 2).stage ((Pipeline.pin (pcfgs (F := F)) a 0).slots t 2)) fullShare ((dats V a 0 c).after 2 t) : sProp 𝕄) := by
    refine .trans ?_ (Entails.of_eq (owns_pt c _ (stage_whole0 2 _) _).symm)
    iintro ⟨%f, H, %h⟩
    iexists f
    isplitr; · ipureintro; exact h
    iexact H
  show BIBase.Entails (PROP := sProp 𝕄)
    iprop(phi V c t.val ∗ (dats V a 0 c).owesAt () t.castSucc ∗ (∃ d, owns (c : Thread nD τ) (((Pipeline.pin (pcfgs (F := F)) a 0).win 0).stage ((Pipeline.pin (pcfgs (F := F)) a 0).slots t 0)) fullShare ((dats V a 0 c).before 0 t d)) ∗ (∃ d, owns (c : Thread nD τ) (((Pipeline.pin (pcfgs (F := F)) a 0).win 1).stage ((Pipeline.pin (pcfgs (F := F)) a 0).slots t 1)) fullShare ((dats V a 0 c).before 1 t d)) ∗ (∃ d, owns (c : Thread nD τ) (((Pipeline.pin (pcfgs (F := F)) a 0).win 2).stage ((Pipeline.pin (pcfgs (F := F)) a 0).slots t 2)) fullShare ((dats V a 0 c).before 2 t d)))
    (wpb c _ fun _ => iprop(phi V c (t.val + 1) ∗ (dats V a 0 c).owesAt () t.succ ∗ (owns (c : Thread nD τ) (((Pipeline.pin (pcfgs (F := F)) a 0).win 0).stage ((Pipeline.pin (pcfgs (F := F)) a 0).slots t 0)) fullShare ((dats V a 0 c).after 0 t)) ∗ (owns (c : Thread nD τ) (((Pipeline.pin (pcfgs (F := F)) a 0).win 1).stage ((Pipeline.pin (pcfgs (F := F)) a 0).slots t 1)) fullShare ((dats V a 0 c).after 1 t)) ∗ (owns (c : Thread nD τ) (((Pipeline.pin (pcfgs (F := F)) a 0).win 2).stage ((Pipeline.pin (pcfgs (F := F)) a 0).slots t 2)) fullShare ((dats V a 0 c).after 2 t))))
  iintro ⟨HΦ, HO, ⟨%d0, H0⟩, ⟨%d1, H1⟩, ⟨%d2, H2⟩⟩
  ihave H0 := (i0 d0) $$ H0
  ihave H1 := (i1 d1) $$ H1
  ihave H2 := (i2 d2) $$ H2
  icases H0 with ⟨%f0, %hf0, H0⟩
  unfold phi
  icases HΦ with ⟨Hst, Hrem⟩
  have hw := body_wp c (idsV V c) (wordsV V c) (scalesV V c) (weightV V c) hids (grid0.coords t) (((Pipeline.pin (pcfgs (F := F)) a 0).win 0).stage ((Pipeline.pin (pcfgs (F := F)) a 0).slots t 0))
    (((Pipeline.pin (pcfgs (F := F)) a 0).win 1).stage ((Pipeline.pin (pcfgs (F := F)) a 0).slots t 1)) (stage_whole0 1 _)
    (((Pipeline.pin (pcfgs (F := F)) a 0).win 2).stage ((Pipeline.pin (pcfgs (F := F)) a 0).slots t 2)) (stage_whole0 2 _)
  rw [ht] at hw
  iapply (hw _) $$ [Hst HO H0 H1 H2]
  · isplitl [Hst]; · iexact Hst
    isplitl [HO]
    · unfold Dat.owesAt Pipeline.owesWithin
      icases HO with ⟨%W, -, HO⟩
      iexists W; iexact HO
    isplitl [H0]
    · iexists f0
      isplitl [H0]; · iexact H0
      ipureintro; exact hf0
    isplitl [H1]; · iexact H1
    iexact H2
  iintro ⟨Hst, ⟨%W, HO⟩, H0, H1, H2⟩
  isplitl [Hst Hrem]
  · isplitl [Hst]; · iexact Hst
    iexact Hrem
  isplitl [HO]
  · unfold Dat.owesAt Pipeline.owesWithin
    iexists W
    isplitr; · ipureintro; exact fun _ _ => Or.inl trivial
    iexact HO
  isplitl [H0]; · iapply o0; iexact H0
  isplitl [H1]; · iapply o1; iexact H1
  iapply o2; iexact H2

end Region

end Cert.Proof.KernelIdeal
-- ==== Proof.Ideal.Launch.lean ====
module

public import proofs.«01_k».proof.Proof.Ideal.Region
public import Idealize.ShloMosaic.Lib.PageRing.Basic
public import Idealize.ShloMosaic.Lib.Ring

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

open Idealize.ShloMosaic.Pipeline (Dat Cfg Window BodyObligation ΦDRV ΦT)

section Words
variable (c : Dev nD) (ws : S16032x1792.Idx → BitVec 32)

/-- The words held whole: the share no copy takes, and every slot's rows' shares. -/
theorem words_toks : (pt (F := F) c mWords (ws : Bf (F := F) c mWords) : sProp 𝕄)
    = iprop((mWords.view.loc (c : Thread nD τ) ↦{shareDrop fullShare 384} (ws : Bf (F := F) c mWords))
      ∗ slotToks (F := F) c ws 0 ∗ slotToks (F := F) c ws 1 ∗ slotToks (F := F) c ws 2) := by
  have h := pointsTo_toks_range (Val := Elt F) (ℓ := mWords.view.loc (c : Thread nD τ)) (S := Finset.univ) (f := (ws : Bf (F := F) c mWords)) (Ix := Unit) (Name := ℕ) (U := UD sig nD τ) (Lvl := ℕ) fullShare 384
  have e : bigSep (Finset.range 384) (fun i => (mWords.view.loc (c : Thread nD τ) ↦{shareTokN fullShare i} (ws : Bf (F := F) c mWords) : sProp 𝕄))
      = bigSep (Finset.univ : Finset (Fin 3)) fun sl => slotToks (F := F) c ws sl := by
    rw [show (384 : Nat) = 3 * 128 from rfl, PageRing.bigSep_range_mul]
    refine (Ring.bigSep_fin_eq_range 3 _ _ fun i hi => ?_).symm
    refine (Ring.bigSep_fin_eq_range 128 _ _ fun j hj => ?_).symm
    show _ = (mWords.view.loc (c : Thread nD τ) ↦{shareTokN fullShare (i * 128 + j)} (ws : Bf (F := F) c mWords) : sProp 𝕄)
    rw [Nat.mul_comm]
  rw [e, Ring.bigSep_fin3] at h
  exact BI.Entails.antisymm h.1 h.2

theorem slots_disjoint : ∀ s s' : Fin 3, s ≠ s' → Disjoint (slotSet s) (slotSet s') := by
  intro s s' hne
  rw [Finset.disjoint_left]
  intro x hx hx'
  simp only [slotSet, Finset.mem_filter, Finset.mem_univ, true_and] at hx hx'
  exact hne (Fin.ext (hx.symm.trans hx'))
theorem slots_cover : (Finset.univ : Finset (Fin 3)).biUnion slotSet = Finset.univ := by
  ext x
  simp only [slotSet, Finset.mem_filter, Finset.mem_univ, true_and, Finset.mem_biUnion, iff_true]
  exact ⟨⟨(x 0).val, (x 0).isLt⟩, rfl⟩
theorem rows_disjoint' (sl : Fin 3) : ∀ j j' : Fin 128, j ≠ j' → Disjoint (rowSet sl j) (rowSet sl j') :=
  fun j j' h => rows_disjoint sl j (Finset.mem_univ _) j' (Finset.mem_univ _) h

/-- The ring held whole is its three slots. -/
theorem ring_slots (f : S3x16x8x1792.Idx → BitVec 32) : (pt (F := F) c mRing (f : Bf (F := F) c mRing) : sProp 𝕄)
    = iprop(ringAt (F := F) c 0 f ∗ ringAt (F := F) c 1 f ∗ ringAt (F := F) c 2 f) := by
  unfold pt
  rw [Ring.pointsTo_blocks (ℓ := mRing.view.loc (c : Thread nD τ)) slotSet slots_disjoint slots_cover, Ring.bigSep_fin3]

/-- A free slot gives back its semaphore, its rows at something, and its shares of the words. -/
theorem of_free (sl : Fin 3) : Free (F := F) c ws sl
    ⊢ iprop(semVal ((c : Thread nD τ), SemLoc.dma (rsem sl)) 0
      ∗ (∃ f : Bf (F := F) c mRing, mRing.view.loc (c : Thread nD τ) ↦[slotSet sl]{fullShare} f) ∗ slotToks (F := F) c ws sl) := by
  have h : bigSep Finset.univ (rowFree (F := F) c ws sl)
      = iprop(bigSep Finset.univ (fun j : Fin 128 => iprop(∃ f : Bf (F := F) c mRing, mRing.view.loc (c : Thread nD τ) ↦[rowSet sl j]{fullShare} f))
        ∗ slotToks (F := F) c ws sl) := by
    unfold slotToks
    exact bigSep_sep' _ _ _
  unfold Free
  iintro ⟨Hv, H⟩
  isplitl [Hv]; · iexact Hv
  ihave H := (Entails.of_eq h) $$ H
  icases H with ⟨Hr, Ht⟩
  isplitl [Hr]
  · iapply (Ring.pointsTo_sub_blocks_join_exists (ℓ := mRing.view.loc (c : Thread nD τ)) (rowSet sl) (rows_disjoint' sl) (slotSet sl) (slotSet_rows sl).symm (fun _ => 0#32)); iexact Hr
  iexact Ht

/-- The three slots at something are the ring at something. -/
theorem ring_join :
    iprop((∃ f : Bf (F := F) c mRing, mRing.view.loc (c : Thread nD τ) ↦[slotSet 0]{fullShare} f)
      ∗ (∃ f : Bf (F := F) c mRing, mRing.view.loc (c : Thread nD τ) ↦[slotSet 1]{fullShare} f)
      ∗ (∃ f : Bf (F := F) c mRing, mRing.view.loc (c : Thread nD τ) ↦[slotSet 2]{fullShare} f))
    ⊢ (iprop(∃ f : Bf (F := F) c mRing, pt c mRing f) : sProp 𝕄) :=
  (Entails.of_eq (Ring.bigSep_fin3 (fun sl : Fin 3 => (iprop(∃ f : Bf (F := F) c mRing, mRing.view.loc (c : Thread nD τ) ↦[slotSet sl]{fullShare} f) : sProp 𝕄))).symm).trans
    (Ring.pointsTo_blocks_join_exists (ℓ := mRing.view.loc (c : Thread nD τ)) slotSet slots_disjoint slots_cover (fun _ => 0#32))

end Words

/-- The kernel's own semaphores: the ring's three and the scale copy's. -/
abbrev osem : Fin 4 → SemLoc sig := ![.dma (rsem 0), .dma (rsem 1), .dma (rsem 2), .dma ssem]
theorem osem_facts : Pipeline.OwnSemFacts spec0 osem := by decide

/-- What the body reads beside its windows: the table's words and the scale table. -/
abbrev heldRefs : Finset (Ref sig .tc) := {main_v3, main_v4}

section Ends
variable (V : Val0 F) (c : Dev nD)

theorem own_eq (G : Val0 F) : (ΦDRV (Val := Elt F) (τ := τ) osem spec0 heldRefs ∅ V G c : sProp 𝕄)
    = iprop(((∃ f : Bf (F := F) c mRing, pt c mRing f) ∗ (∃ f : Bf (F := F) c mTab, pt c mTab f) ∗ (∃ f : Bf (F := F) c mMeta, pt c mMeta f))
      ∗ (semVal ((c : Thread nD τ), SemLoc.dma (rsem 0)) 0 ∗ semVal ((c : Thread nD τ), SemLoc.dma (rsem 1)) 0
        ∗ semVal ((c : Thread nD τ), SemLoc.dma (rsem 2)) 0 ∗ semVal ((c : Thread nD τ), SemLoc.dma ssem) 0)
      ∗ (pt c mWords (wordsV V c : Bf (F := F) c mWords) ∗ pt c mScales (scalesV V c : Bf (F := F) c mScales)) ∗ BI.emp) := by
  unfold ΦDRV
  rw [scopedRest0_eq, Pipeline.ownSems0_eq_of_list c osem [0, 1, 2, 3] (by decide) (by decide), BI.bigSep_empty]
  rw [show bigSep heldRefs (fun b => (((c.tc : Thread nD τ).loc b) ↦{fullShare} V c b : sProp 𝕄))
    = iprop(pt c mWords (wordsV V c : Bf (F := F) c mWords) ∗ pt c mScales (scalesV V c : Bf (F := F) c mScales)) from by
      rw [BI.bigSep_insert (by decide), BI.bigSep_singleton]; rfl]
  rfl

/-- Before the first grid point. -/
theorem phi_first : iprop(ΦDRV (Val := Elt F) (τ := τ) osem spec0 heldRefs ∅ V V c ∗ idsAt c (idsV V c)) ⊢ phi V c 0 := by
  rw [own_eq]
  iintro ⟨⟨⟨⟨%f, HR⟩, HT, HM⟩, ⟨S0, S1, S2, S3⟩, ⟨HW, HS⟩, -⟩, HI⟩
  ihave HR := (Entails.of_eq (ring_slots c f)) $$ HR
  ihave HW := (Entails.of_eq (words_toks c (wordsV V c))) $$ HW
  icases HR with ⟨R0, R1, R2⟩
  icases HW with ⟨Hrem, T0, T1, T2⟩
  unfold phi state ringState tabState
  rw [if_pos rfl, if_pos rfl]
  isplitr [Hrem]
  · isplitl [HI]; · iexact HI
    isplitl [S0 R0 T0 S1 R1 T1 S2 R2 T2]
    · isplitl [S0 R0 T0]
      · iapply (free_of c (wordsV V c) 0 f)
        isplitl [S0]; · iexact S0
        isplitl [R0]; · iexact R0
        iexact T0
      isplitl [S1 R1 T1]
      · iapply (free_of c (wordsV V c) 1 f)
        isplitl [S1]; · iexact S1
        isplitl [R1]; · iexact R1
        iexact T1
      iapply (free_of c (wordsV V c) 2 f)
      isplitl [S2]; · iexact S2
      isplitl [R2]; · iexact R2
      iexact T2
    isplitl [HT]; · iexact HT
    isplitl [HS]; · iexact HS
    isplitl [HM]; · iexact HM
    iexact S3
  iexact Hrem

/-- After the last. -/
theorem phi_last (G : Val0 F) : phi V c 32 ⊢ ΦDRV (Val := Elt F) (τ := τ) osem spec0 heldRefs ∅ V G c := by
  rw [own_eq]
  unfold phi state ringState tabState
  rw [if_neg (by decide), if_neg (by decide)]
  unfold filled started
  rw [if_neg (by decide), if_neg (by decide)]
  rw [show slot 32 = 2 from rfl, show slot (32 + 1) = 0 from rfl, show slot (32 + 2) = 1 from rfl]
  iintro ⟨⟨-, ⟨F2, F0, F1⟩, HT, HS, HM, S3⟩, Hrem⟩
  ihave F0 := (of_free c (wordsV V c) 0) $$ F0
  ihave F1 := (of_free c (wordsV V c) 1) $$ F1
  ihave F2 := (of_free c (wordsV V c) 2) $$ F2
  icases F0 with ⟨S0, R0, T0⟩
  icases F1 with ⟨S1, R1, T1⟩
  icases F2 with ⟨S2, R2, T2⟩
  isplitl [R0 R1 R2 HT HM]
  · isplitl [R0 R1 R2]
    · iapply (ring_join (F := F) c)
      isplitl [R0]; · iexact R0
      isplitl [R1]; · iexact R1
      iexact R2
    isplitl [HT]; · iexists (scalesV V c : Bf (F := F) c mTab); iexact HT
    iexact HM
  isplitl [S0 S1 S2 S3]
  · isplitl [S0]; · iexact S0
    isplitl [S1]; · iexact S1
    isplitl [S2]; · iexact S2
    iexact S3
  isplitl
  · isplitr [HS]
    · iapply (Entails.of_eq (words_toks c (wordsV V c)).symm)
      isplitl [Hrem]; · iexact Hrem
      isplitl [T0]; · iexact T0
      isplitl [T1]; · iexact T1
      iexact T2
    iexact HS
  iempintro

end Ends

end Cert.Proof.KernelIdeal

end
-- ==== Proof.Ideal.Run.lean ====
module

public import proofs.«01_k».proof.Proof.Ideal.Launch
public import Idealize.ShloMosaic.Lib.StableHlo.Run

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
open Idealize.ShloMosaic.Transfers
open Idealize.ShloMosaic.ValueIdx
open Idealize.ShloMosaic.RefSig (tileCredit)

variable {F : FTy → Type} [FloatOps F]

local notation "𝕄" => MT nD τ sig Unit (Elt F) ℕ (UD sig nD τ) ℕ

open Idealize.ShloMosaic.Pipeline (Dat Cfg Window BodyObligation ΦDRV ΦT)

section Arrays
variable (ids : S4096.Idx → BitVec 32) (ws : S16032x1792.Idx → BitVec 32) (sc : S14x64128.Idx → F .f32) (wt : S1x1792.Idx → F .bf16)

/-- The embedding, and the normalised embedding: a row of the array is a row of its block. -/
def embArr : S4096x1792.Idx → F .bf16 := fun x => embS ids ws sc (x 0).val (x 1)
def outArr : S4096x1792.Idx → F .bf16 := fun x =>
  outB ids ws sc wt ((x 0).val / 128) (ValueIdx.ix2 ⟨(x 0).val % 128, by omega⟩ (x 1))
end Arrays

section Final
variable (V : Val0 F) (a : (p : Fin 1) → (pcfgs (F := F) p).Adm) (c : Dev nD)

/-- The windows do not read the table: their blocks are those at any contents of it. -/
abbrev someAdm : (p : Fin 1) → (pcfgs (F := Bits) p).Adm := fun p => match p with
  | ⟨0, _⟩ => ⟨fun k => match k with | ⟨0, _⟩ => fun _ => 0#32, trivial⟩
theorem covers_out : ((Pipeline.pin (pcfgs (F := Bits)) someAdm 0).win 1).Covers := by decide +kernel
theorem covers_emb : ((Pipeline.pin (pcfgs (F := Bits)) someAdm 0).win 2).Covers := by decide +kernel

theorem block_row : ∀ t : Fin grid0.N, cc0_transform_3 (grid0.coords t) 0 = t.val := by decide +kernel

theorem out_at (ids : S4096.Idx → BitVec 32) (ws : S16032x1792.Idx → BitVec 32) (sc : S14x64128.Idx → F .f32) (wt : S1x1792.Idx → F .bf16)
    (b : Nat) (y : S128x1792.Idx) (E : S4096x1792.Idx) (e0 : (E 0).val = b * 128 + (y 0).val) (e1 : (E 1).val = (y 1).val) :
    outB ids ws sc wt b y = outArr ids ws sc wt E := by
  have h0 : (y 0).val < 128 := (y 0).isLt
  unfold outArr
  have hb : (E 0).val / 128 = b := by omega
  rw [hb]
  refine congrArg _ (funext fun d => ?_)
  fin_cases d
  · apply Fin.ext; show (y 0).val = (E 0).val % 128; omega
  · apply Fin.ext; exact e1.symm

theorem emb_at (ids : S4096.Idx → BitVec 32) (ws : S16032x1792.Idx → BitVec 32) (sc : S14x64128.Idx → F .f32)
    (b : Nat) (y : S128x1792.Idx) (E : S4096x1792.Idx) (e0 : (E 0).val = b * 128 + (y 0).val) (e1 : (E 1).val = (y 1).val) :
    embB ids ws sc b y = embArr ids ws sc E := by
  unfold embArr embB
  rw [e0]
  exact congrArg _ (Fin.ext e1.symm)

theorem row_of (t : Fin grid0.N) (y0 : Nat) : cc0_transform_3 (grid0.coords t) 0 * 128 + 1 * y0 = t.val * 128 + y0 := by
  rw [block_row]; omega
theorem col_of (y1 : Nat) : 0 * 1792 + 1 * y1 = y1 := by omega

theorem arrAt_out : (dats V a 0 c).arrAt 1 (Pipeline.pin (pcfgs (F := F)) a 0).N = (outArr (idsV V c) (wordsV V c) (scalesV V c) (weightV V c) : Buf (Elt F) ((c : Thread nD τ).loc main_v6_0)) :=
  (dats V a 0 c).arrAt_eq_of_covers 1 _ covers_out fun t hf (y : S128x1792.Idx) =>
    out_at (idsV V c) (wordsV V c) (scalesV V c) (weightV V c) t.val y ((((Pipeline.pin (pcfgs (F := F)) a 0).win 1).blk t).view.emb y)
      (row_of t (y 0).val) (col_of (y 1).val)

theorem arrAt_emb : (dats V a 0 c).arrAt 2 (Pipeline.pin (pcfgs (F := F)) a 0).N = (embArr (idsV V c) (wordsV V c) (scalesV V c) : Buf (Elt F) ((c : Thread nD τ).loc main_v6_1)) :=
  (dats V a 0 c).arrAt_eq_of_covers 2 _ covers_emb fun t hf (y : S128x1792.Idx) =>
    emb_at (idsV V c) (wordsV V c) (scalesV V c) t.val y ((((Pipeline.pin (pcfgs (F := F)) a 0).win 2).blk t).view.emb y)
      (row_of t (y 0).val) (col_of (y 1).val)

end Final

section Run
variable (m : (ℓ : Loc nD τ sig) → Buf (Elt F) ℓ)

/-- The buffers when the region is entered: the host operations done on the launch contents. -/
abbrev V0 (c : Dev nD) : Valuation τ sig (Elt F) := StableHlo.after [hostOps0 (F := F)].flatten (fun b => m (c, b))
abbrev Vr : Val0 F := fun c b => V0 m c (Proc.devRef .tc b)
/-- The id table's contents, as the region's prefetched table. -/
abbrev adm : (p : Fin 1) → (pcfgs (F := F) p).Adm := fun p => match p with
  | ⟨0, _⟩ => ⟨fun k => V0 m 0 (Proc.devRef .tc (pre0.ref k)), trivial⟩

/-- The run: every initial memory whose ids are in the vocabulary ends with the two arrays and its arguments unchanged, and
    no semaphore counts anything. -/
theorem run (g : Dev nD → PrngReg) (hids : ∀ (c : Dev nD) (x : S1x4096.Idx), (m ((c : Thread nD τ).loc main_arg0) x : BitVec 32).toNat < 64128) :
    θ_run (defs (F := F)) (onTc (τ := τ) (main (F := F))) ⟨m, fun _ => 0, g⟩ (fun r => (∀ c : Dev nD,
      r.2.mem ((c.tc : Thread nD τ).loc main_v6_0) = (outArr (idsV (Vr m) c) (wordsV (Vr m) c) (scalesV (Vr m) c) (weightV (Vr m) c) : Buf (Elt F) ((c : Thread nD τ).loc main_v6_0))
      ∧ r.2.mem ((c.tc : Thread nD τ).loc main_v6_1) = (embArr (idsV (Vr m) c) (wordsV (Vr m) c) (scalesV (Vr m) c) : Buf (Elt F) ((c : Thread nD τ).loc main_v6_1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have hd : ∀ c : Dev nD, c = 0 := fun c => Subsingleton.elim _ _
  have hi : ∀ c x, (idsV (Vr m) c x).toNat < 64128 := by
    intro c x
    have e : idsV (Vr m) c = shapeCast S4096 (m ((c : Thread nD τ).loc main_arg0) : S1x4096.Idx → BitVec 32) shapeCasts_S1x4096_S4096 := by
      show StableHlo.after (hostOps0 (F := F)) (fun b => m (c, b)) (Proc.devRef .tc main_v0) = _
      after_results_simp
      rfl
    rw [e]
    exact hids c _
  refine Pipeline.θ_run_frameP_dmaR_aroundV (pcfgs (F := F)) (adm m) (dats (Vr m) (adm m)) 0 Gen.launch0 osem (defs₀ (F := F)) 𝒱₀ osem_facts
    (H := heldRefs) (R := ∅) (show heldRefs ⊆ Pipeline.restRefsP sig pre0 spec0 from by decide) (show (∅ : Finset (Ref sig .tc)) ⊆ Pipeline.restRefsP sig pre0 spec0 \ heldRefs from by decide) m g (main (F := F)) (fun c => (body_obligation (Vr m) (adm m) c (hi c)).loose) (fun c => (dats (Vr m) (adm m) 0 c).share_full fun _ => rfl) (fun _ _ => rfl)
    (V0 m) [] (by simp) (by simp) (by simp) (Vr m)
    (Pipeline.hmainP_around (pcfgs (F := F)) 0 (defs₀ (F := F)) 𝒱₀ m (main (F := F)) [hostOps0] [] hostOps0_sub ⟨rfl, rfl, rfl, rfl, rfl, rfl⟩ (fun c => main_chain c))
    (fun _ _ => rfl) (fun c k => by rw [hd c]) (fun c => ?_) (fun c => ?_) _ (fun r h => ?_)
  · have e : (ΦT (Val := Elt F) (τ := τ) pre0 (adm m 0).1 c : sProp 𝕄) = idsAt c (idsV (Vr m) c) := by
      rw [hd c]
      exact BI.bigSep_univ_eq_bigSepL [(0 : Fin 1)] (by decide) (by decide) _
    refine BIBase.Entails.trans ?_ (phi_first (Vr m) c)
    exact Laws.sep_mono .rfl (Entails.of_eq e)
  · exact phi_last (Vr m) c (Vr m)
  · obtain ⟨hr, hs⟩ := (show (∀ c : Dev nD, (∀ w : Fin 3, r.2.mem ((spec0 w).arr.view.loc (c.tc : Thread nD τ)) = (dats (Vr m) (adm m) 0 c).arrAt w (Pipeline.pin (pcfgs (F := F)) (adm m) 0).N)
      ∧ ∀ b ∈ Pipeline.restRefsP sig pre0 spec0, r.2.mem ((c.tc : Thread nD τ).loc b) = StableHlo.after [] (Pipeline.withArrays spec0 c (Pipeline.withR (V0 m c) ∅ c (Vr m c)) fun w => (dats (Vr m) (adm m) 0 c).arrAt w (Pipeline.pin (pcfgs (F := F)) (adm m) 0).N) (Proc.devRef .tc b)) ∧ r.2.sem = (fun _ => 0) from h)
    refine ⟨fun c => ?_, hs⟩
    have hw := (hr c).1
    have harg : ∀ b ∈ Pipeline.restRefsP sig pre0 spec0, StableHlo.after (hostOps0 (F := F)) (fun b => m (c, b)) (Proc.devRef .tc b) = m (c, Proc.devRef .tc b) →
        r.2.mem ((c.tc : Thread nD τ).loc b) = m ((c.tc : Thread nD τ).loc b) := by
      intro b hb e
      rw [(hr c).2 b hb, StableHlo.after_nil, Pipeline.withArrays_of_ne]
      · unfold Pipeline.withR
        rw [dif_neg (by simp)]
        exact e
      · intro w e
        rw [← e] at hb
        exact (show ∀ w : Fin 3, Pipeline.arrRef spec0 w ∉ Pipeline.restRefsP sig pre0 spec0 from by decide) w hb
    refine ⟨(hw 1).trans (arrAt_out (Vr m) (adm m) c), (hw 2).trans (arrAt_emb (Vr m) (adm m) c), harg _ (by decide) ?_, harg _ (by decide) ?_, harg _ (by decide) ?_, harg _ (by decide) ?_⟩
    all_goals after_results_simp

end Run

end Cert.Proof.KernelIdeal

end
-- ==== Proof.Bits.Same.lean ====
/- `Kernel` and `KernelIdeal` are one program: no operation of it was rewritten, so the two printed texts are the same and
   what is proved of the one at every instance holds of the other. -/
module

public import proofs.«01_k».proof.Defs
public import proofs.«01_k».proof.Proof.Ideal.Run
public import proofs.«01_k».proof.Proof.Gen.Kernel

@[expose] public section

set_option maxRecDepth 100000
set_option maxHeartbeats 4000000

noncomputable section

namespace Cert.Proof

open Idealize.ShloMosaic Idealize.ShloMosaic.TcCoe

/-- The kernels' bodies are the same program. -/
theorem cc0_same : @Cert.Kernel.cc0_embed_rmsnorm Bits _ Cert.Kernel.Gen.facts = @Cert.KernelIdeal.cc0_embed_rmsnorm Bits _ Cert.KernelIdeal.Gen.facts := rfl

theorem defs₀_same : @Cert.Kernel.defs₀ Bits _ Cert.Kernel.Gen.facts = @Cert.KernelIdeal.defs₀ Bits _ Cert.KernelIdeal.Gen.facts := by
  refine congrArg Defs.onTc (funext fun l => funext fun x => ?_)
  fin_cases l
  rfl

/-- So are their body tables. -/
theorem defs_same : @Cert.Kernel.defs Bits _ Cert.Kernel.Gen.facts = @Cert.KernelIdeal.defs Bits _ Cert.KernelIdeal.Gen.facts :=
  congrArg (Pipeline.defs (@Cert.KernelIdeal.pcfgs Bits _ Cert.KernelIdeal.Gen.facts)) defs₀_same

/-- The kernel's run over floats as bit patterns: it ends, nothing faults, the arguments are unchanged, no semaphore counts anything. -/
theorem run_bits (m : (ℓ : Loc Cert.Kernel.nD Cert.Kernel.τ Cert.Kernel.sig) → Buf (Elt Bits) ℓ) (g : Dev Cert.Kernel.nD → PrngReg)
    (hids : ∀ (c : Dev Cert.Kernel.nD) (x : Cert.Kernel.S1x4096.Idx), (m ((c : Thread Cert.Kernel.nD Cert.Kernel.τ).loc Cert.Kernel.main_arg0) x : BitVec 32).toNat < 64128) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  refine (θ_run _ _ _).mono (fun r hr => ⟨fun c => ?_, hr.2⟩)
    (Eq.mpr (congrArg (fun d => θ_run d (onTc (τ := Cert.Kernel.τ) (Cert.Kernel.main (F := Bits))) ⟨m, fun _ => 0, g⟩ _) defs_same) (Cert.Proof.KernelIdeal.run (F := Bits) m g hids))
  exact (hr.1 c).2.2

end Cert.Proof

end
-- ==== Proof.Value.Pre.lean ====
/-
  The precondition read back: every token is a row number of the table.
-/
module

public import proofs.«01_k».proof.Proof.Gen.Pre_in_vocab
public import Idealize.ShloMosaic.Lib.ReduceAll
public import Idealize.ShloMosaic.Lib.Affine
public import Idealize.ShloMosaic.Lib.StableHlo.Predicate

@[expose] public section

noncomputable section

namespace Cert.Proof

open Cert.Pre_in_vocab Cert.Pre_in_vocab.Gen
open Idealize.ShloMosaic

/-- A word between 0 and 64127 as a signed number is that number unsigned. -/
theorem lt_of_signed (v : BitVec 32) (h0 : 0 ≤ v.toInt) (h1 : v.toInt < 64128) : v.toNat < 64128 := by
  rw [BitVec.toInt_eq_toNat_cond] at h0 h1
  split at h0 <;> omega

/-- Where the precondition holds, every token is smaller than the table's number of rows. -/
theorem ids_lt {F : FTy → Type} [FloatOps F] (a0 : IVec S1x4096 32) (a1 : IVec S64128x1792 8) (a2 : FVec F S64128x14 .f32) (a3 : FVec F S1792 .bf16)
    (h : Cert.Pre_in_vocab.fn (F := F) a0 a1 a2 a3 = fun _ => 1#1) (x : S1x4096.Idx) : (a0 x).toNat < 64128 := by
  have e := congrFun h (Shape.Idx.first h_S_)
  dsimp only [Cert.Pre_in_vocab.fn] at e
  haveI : Subsingleton S_.Idx := ⟨fun a b => funext fun i => i.elim0⟩
  have hx := Host.reduce_andi_all _ _ _ _ _ e x
  have hb := (IntOp.andi_eq_one.mp hx)
  exact lt_of_signed _ (IntOp.cmpi_sge.1 hb.1) (IntOp.cmpi_slt.1 hb.2)

end Cert.Proof

end
-- ==== Proof.Frames.lean ====
/-
  The programs' frames: each runs to its end without a fault, leaves its arguments as they were and every semaphore at zero.
-/
module

public import proofs.«01_k».proof.Defs
public import proofs.«01_k».proof.Proof.Ideal.Run
public import proofs.«01_k».proof.Proof.Bits.Same
public import proofs.«01_k».proof.Proof.Gen.ReferenceIdeal.Run
public import proofs.«01_k».proof.Proof.Value.Pre
public import Idealize.ShloMosaic.Lib.Quiescent

@[expose] public section

noncomputable section

namespace Cert.Proof

open Idealize.ShloMosaic Idealize.ShloMosaic.TcCoe Idealize.SL.Sem

/-- The kernel over bit patterns. -/
theorem frame_kernel : Cert.quiescent_Kernel (hKernel := Cert.Kernel.Gen.facts) (hPre_in_vocab := Cert.Pre_in_vocab.Gen.facts) := by
  intro m g hpre
  exact run_bits m g fun c x => ids_lt _ _ _ _ (hpre c) x

/-- The kernel over the extended reals. -/
theorem frame_kernelIdeal : Cert.quiescent_KernelIdeal (hKernelIdeal := Cert.KernelIdeal.Gen.facts) (hPre_in_vocab := Cert.Pre_in_vocab.Gen.facts) := by
  intro m g hpre
  refine (θ_run _ _ _).mono (fun r hr => ⟨fun c => (hr.1 c).2.2, hr.2⟩) (Cert.Proof.KernelIdeal.run (F := Ideal) m g fun c x => ids_lt _ _ _ _ (hpre c) x)

/-- The reference over the extended reals, whatever its tokens. -/
theorem frame_reference : Cert.quiescent_ReferenceIdeal (hReferenceIdeal := Cert.ReferenceIdeal.Gen.facts) := by
  intro m g _
  refine (θ_run _ _ _).mono (fun r hr => ⟨fun c => (hr c).2.2, sem_eq_zero_of_no_sems (by decide) _⟩) (Cert.ReferenceIdeal.Value.run (F := Ideal) m g)

/-- The reference, its tokens rows of the table. -/
theorem frame_reference_in_vocab : Cert.quiescent_ReferenceIdeal_pre_in_vocab (hReferenceIdeal := Cert.ReferenceIdeal.Gen.facts) (hPre_in_vocab := Cert.Pre_in_vocab.Gen.facts) := by
  intro m g _
  exact frame_reference m g True.intro

end Cert.Proof

end
-- ==== Proof.Value.Words.lean ====
/-
  The kernel's operands as the program lays them out before its launch, and a code read back from its word.
-/
module

public import proofs.«01_k».proof.Proof.Ideal.Run
public import Idealize.ShloMosaic.Lib.BitcastConvert
public import Idealize.ShloMosaic.Lib.Pipeline.Value

@[expose] public section

set_option maxRecDepth 16384

noncomputable section

namespace Cert.Proof.KernelIdeal

open Cert.KernelIdeal Cert.KernelIdeal.Gen
open Idealize.ShloMosaic Idealize.ShloMosaic.TcCoe Idealize.SL.Sem

/-! ### A byte of a word -/

/-- A byte shifted to a word's top and back down arithmetically is the byte with its sign. -/
theorem byte_of (w : BitVec 32) (b : BitVec 8) (k : Nat) (hk : k < 4) (h : ∀ q, q < 8 → w.getLsbD (8 * k + q) = b.getLsbD q) :
    (w <<< ((3 - k) * 8)).sshiftRight 24 = b.signExtend 32 := by
  have hm : (w <<< ((3 - k) * 8)).msb = b.msb := by
    rw [BitVec.msb_eq_getLsbD_last, BitVec.msb_eq_getLsbD_last, BitVec.getLsbD_shiftLeft]
    have e := h 7 (by decide)
    rw [show 32 - 1 - (3 - k) * 8 = 8 * k + 7 by omega, e]
    simp
    omega
  apply BitVec.eq_of_getLsbD_eq
  intro i hi
  rw [BitVec.getLsbD_sshiftRight, BitVec.getLsbD_signExtend, hm]
  by_cases h8 : i < 8
  · rw [if_pos (by omega), if_pos h8, BitVec.getLsbD_shiftLeft, show 24 + i - (3 - k) * 8 = 8 * k + i by omega, h i h8]
    have : 24 + i < 32 := by omega
    have : ¬ 24 + i < (3 - k) * 8 := by omega
    simp [*]
  · rw [if_neg (by omega), if_neg h8]
    simp [hi]

/-- The shift of a token, as a number. -/
theorem upS_toNat (v : BitVec 32) : (upS v).toNat = (3 - v.toNat % 4) * 8 := by
  have e : (v &&& 3#32).toNat = v.toNat % 4 := by
    rw [BitVec.toNat_and]; exact Nat.and_two_pow_sub_one_eq_mod v.toNat 2
  show ((3#32 - (v &&& 3#32)) * 8#32).toNat = _
  rw [BitVec.toNat_mul, BitVec.toNat_sub, e]
  simp only [BitVec.toNat_ofNat]
  omega

/-- The kernel's two shifts of a word give the byte of the token's number modulo four, signed. -/
theorem shift_byte (w : BitVec 32) (v : BitVec 32) (b : BitVec 8) (h : ∀ q, q < 8 → w.getLsbD (8 * (v.toNat % 4) + q) = b.getLsbD q) :
    IntOp.shrsi .vector (IntOp.shli .vector w (upS v)) 24#32 = b.signExtend 32 := by
  have e : IntOp.shli .vector w (upS v) = w <<< ((3 - v.toNat % 4) * 8) := by
    unfold IntOp.shli
    rw [if_pos (by rw [upS_toNat]; omega), BitVec.shiftLeft_eq', upS_toNat]
  rw [e, ← byte_of w b (v.toNat % 4) (by omega) h]
  unfold IntOp.shrsi
  rw [if_pos (by decide)]
  rfl

/-! ### The words -/

/-- The codes packed four rows to a word. -/
def wordsOf (codes : S64128x1792.Idx → BitVec 8) : S16032x1792.Idx → BitVec 32 :=
  Host.bitcastConvertWiden S16032x1792 32 (transpose S16032x1792x4 [0, 2, 1]
    (shapeCast S16032x4x1792 codes shapeCasts_S64128x1792_S16032x4x1792) transposes_S16032x4x1792_S16032x1792x4_0_2_1) splits_S16032x1792_w32_S16032x1792x4_w8

/-- Eight bits of a word are a code of its column: the one of the row whose place among the word's four it is. -/
theorem wordsOf_bit (codes : S64128x1792.Idx → BitVec 8) (r : Fin 16032) (c : Fin 1792) (k : Nat) (hk : k < 4) (q : Nat) (hq : q < 8) :
    (wordsOf codes (ValueIdx.ix2 r c)).getLsbD (8 * k + q) = (codes (ValueIdx.ix2 ⟨4 * r.val + k, by omega⟩ c)).getLsbD q := by
  unfold wordsOf
  rw [Host.bitcastConvertWiden_getLsbD _ _ _ _ _ _ (by omega), show (8 * k + q) % 8 = q by omega]
  refine congrArg (fun b : BitVec 8 => b.getLsbD q) ?_
  rw [transpose_apply _ _ _ _ (ValueIdx.ix3 r ⟨k, hk⟩ c) ?_]
  · refine shapeCast_apply _ _ _ _ ?_
    rw [Shape.rowMajor_val_two, Shape.rowMajor_val_three]
    show (4 * r.val + k) * 1792 + c.val = (r.val * 4 + k) * 1792 + c.val
    omega
  · intro b
    match b with
    | ⟨0, _⟩ => rfl
    | ⟨1, _⟩ => rfl
    | ⟨2, _⟩ =>
      show k = (8 * k + q) / 8
      omega

/-- The code of token `v` in column `c`, read from its word by the kernel's shifts. -/
theorem code_read (codes : S64128x1792.Idx → BitVec 8) (v : BitVec 32) (hv : v.toNat < 64128) (c : Fin 1792) :
    IntOp.shrsi .vector (IntOp.shli .vector (wordsOf codes (ValueIdx.ix2 (Fin.ofNat 16032 (v >>> 2).toNat) c)) (upS v)) 24#32
      = (codes (ValueIdx.ix2 ⟨v.toNat, hv⟩ c)).signExtend 32 := by
  refine shift_byte _ _ _ fun q hq => ?_
  rw [wordsOf_bit codes _ c _ (by omega) q hq]
  refine congrArg (fun i : Fin 64128 => (codes (ValueIdx.ix2 i c)).getLsbD q) (Fin.ext ?_)
  show 4 * ((v >>> 2).toNat % 16032) + v.toNat % 4 = v.toNat
  rw [BitVec.toNat_ushiftRight, Nat.shiftRight_eq_div_pow]
  omega

/-! ### The operands of the launch -/

/-- One row as a list, and a list as one row, read at an index. -/
theorem row_at {α : Type} (x : S1x4096.Idx → α) (n : Nat) (hn : n < 4096) :
    shapeCast S4096 x shapeCasts_S1x4096_S4096 (ValueIdx.ix1 (Fin.ofNat 4096 n)) = x (ValueIdx.ix2 0 ⟨n, hn⟩) := by
  refine shapeCast_apply _ _ _ _ ?_
  rw [Shape.rowMajor_val_two, Shape.rowMajor_val_one]
  show 0 * 4096 + n = n % 4096
  omega
theorem wide_at {α : Type} (x : S1792.Idx → α) (j : Fin 1792) : shapeCast S1x1792 x shapeCasts_S1792_S1x1792 (ValueIdx.ix2 0 j) = x (ValueIdx.ix1 j) := by
  refine shapeCast_apply _ _ _ _ ?_
  rw [Shape.rowMajor_val_two, Shape.rowMajor_val_one]
  show j.val = 0 * 1792 + j.val
  omega

section Operands
variable {F : FTy → Type} [FloatOps F] (m : (ℓ : Loc nD τ sig) → Buf (Elt F) ℓ) (c : Dev nD)

theorem ids_operand : idsV (Vr m) c = shapeCast S4096 (m ((c : Thread nD τ).loc main_arg0) : S1x4096.Idx → BitVec 32) shapeCasts_S1x4096_S4096 := by
  show StableHlo.after (hostOps0 (F := F)) (fun b => m (c, b)) (Proc.devRef .tc main_v0) = _
  after_results_simp
  rfl
theorem words_operand : wordsV (Vr m) c = wordsOf (m ((c : Thread nD τ).loc main_arg1) : S64128x1792.Idx → BitVec 8) := by
  show StableHlo.after (hostOps0 (F := F)) (fun b => m (c, b)) (Proc.devRef .tc main_v3) = _
  after_results_simp
  rfl
theorem scales_operand : scalesV (Vr m) c = transpose S14x64128 [1, 0] (m ((c : Thread nD τ).loc main_arg2) : S64128x14.Idx → F .f32) transposes_S64128x14_S14x64128_1_0 := by
  show StableHlo.after (hostOps0 (F := F)) (fun b => m (c, b)) (Proc.devRef .tc main_v4) = _
  after_results_simp
theorem weight_operand : weightV (Vr m) c = shapeCast S1x1792 (m ((c : Thread nD τ).loc main_arg3) : S1792.Idx → F .bf16) shapeCasts_S1792_S1x1792 := by
  show StableHlo.after (hostOps0 (F := F)) (fun b => m (c, b)) (Proc.devRef .tc main_v5) = _
  after_results_simp
  rfl

/-- Token `n`. -/
theorem ids_at (n : Nat) (hn : n < 4096) : tok (idsV (Vr m) c) n = (m ((c : Thread nD τ).loc main_arg0) : S1x4096.Idx → BitVec 32) (ValueIdx.ix2 0 ⟨n, hn⟩) := by
  rw [ids_operand]
  exact row_at _ n hn
/-- A token's scale. -/
theorem scales_at (g : Fin 14) (v : Fin 64128) : scalesV (Vr m) c (ValueIdx.ix2 g v) = (m ((c : Thread nD τ).loc main_arg2) : S64128x14.Idx → F .f32) (ValueIdx.ix2 v g) := by
  rw [scales_operand]
  refine transpose_apply _ _ _ _ _ fun b => ?_
  match b with
  | ⟨0, _⟩ => rfl
  | ⟨1, _⟩ => rfl
/-- A weight. -/
theorem weight_at (j : Fin 1792) : weightV (Vr m) c (ValueIdx.ix2 0 j) = (m ((c : Thread nD τ).loc main_arg3) : S1792.Idx → F .bf16) (ValueIdx.ix1 j) := by
  rw [weight_operand]
  exact wide_at _ j
end Operands

end Cert.Proof.KernelIdeal

end
-- ==== Proof.Value.Ref.lean ====
/-
  The reference's two results, of its arguments, and the rows and scales it looks up read at an index.
-/
module

public import proofs.«01_k».proof.Proof.Gen.ReferenceIdeal.Run
public import Idealize.ShloMosaic.Lib.Pipeline.Value
public import Idealize.ShloMosaic.Lib.ValueIdx
public import Idealize.ShloMosaic.Lib.ReduceAll
public import Idealize.ShloMosaic.Lib.Affine

@[expose] public section

set_option maxRecDepth 16384

noncomputable section

namespace Cert.Proof.ReferenceIdeal

open Cert.ReferenceIdeal Cert.ReferenceIdeal.Gen
open Idealize.ShloMosaic Idealize.ShloMosaic.TcCoe Idealize.SL.Sem

variable {F : FTy → Type} [FloatOps F]

/-! ### The reference in parts -/

section Parts
variable (ids : IVec S1x4096 32) (tab : IVec S64128x1792 8) (sc : FVec F S64128x14 .f32) (wt : FVec F S1792 .bf16)

/-- The tokens, in a column, a negative one counted from the table's end. -/
def start : IVec S4096x1 32 :=
  broadcastInDim S4096x1 ![0] bcast_S4096_S4096x1_0 (select (cmpi .slt (shapeCast S4096 ids shapeCasts_S1x4096_S4096) (broadcastInDim S4096 ![] bcast_S_S4096 (constantI S_ 32 0#32)))
    (addi (shapeCast S4096 ids shapeCasts_S1x4096_S4096) (broadcastInDim S4096 ![] bcast_S_S4096 (constantI S_ 32 64128#32))) (shapeCast S4096 ids shapeCasts_S1x4096_S4096))
/-- Which tokens lie inside the table. -/
def inside : IVec S4096 1 :=
  Host.reduce IntOp.andi (andi (cmpi .sge (start ids) (broadcastInDim S4096x1 ![] bcast_S_S4096x1 (constantI S_ 32 0#32)))
    (cmpi .sle (start ids) (broadcastInDim S4096x1 ![0, 1] bcast_S1x1_S4096x1_0_1 (broadcastInDim S1x1 ![1] bcast_S1_S1x1_1 (constantI S1 32 64127#32)))))
    (constantI S_ 1 1#1) reducesTo_S4096x1_S4096_d1 h_S_
/-- The tokens' codes and the tokens' scales. -/
def codesOf : IVec S4096x1792 8 :=
  select (broadcastInDim S4096x1792 ![0] bcast_S4096_S4096x1792_0 (inside ids)) (Host.gather gather_S64128x1792_S4096x1_S4096x1792_1_0_n_n_0_1_11792 tab (start ids))
    (broadcastInDim S4096x1792 ![] bcast_S_S4096x1792 (constantI S_ 8 128#8))
def scalesOf : FVec F S4096x14 .f32 :=
  select (broadcastInDim S4096x14 ![0] bcast_S4096_S4096x14_0 (inside ids)) (Host.gather gather_S64128x14_S4096x1_S4096x14_1_0_n_n_0_1_114 sc (start ids))
    (broadcastInDim S4096x14 ![] bcast_S_S4096x14 (constant S_ .f32 0x7FC00000#32))
/-- The embedding. -/
def embOf : FVec F S4096x1792 .bf16 :=
  shapeCast S4096x1792 (mulf (sitofp .bf16 (extsi 32 (shapeCast S4096x14x128 (codesOf ids tab) shapeCasts_S4096x1792_S4096x14x128) natLt_8_32))
    (broadcastInDim S4096x14x128 ![0, 1, 2] bcast_S4096x14x1_S4096x14x128_0_1_2 (broadcastInDim S4096x14x1 ![0, 1] bcast_S4096x14_S4096x14x1_0_1
      (truncf .bf16 (scalesOf ids sc) bitsLt_bf16_f32)))) shapeCasts_S4096x14x128_S4096x1792
/-- The rows' means of squares. -/
def meanOf (e : FVec F S4096x1792 .bf16) : FVec F S4096x1 .f32 :=
  Host.divf (broadcastInDim S4096x1 ![0] bcast_S4096_S4096x1_0 (Host.reduceAdd (mulf (extf .f32 e bitsLt_bf16_f32) (extf .f32 e bitsLt_bf16_f32))
    (constant S_ .f32 0x00000000#32) reducesTo_S4096x1792_S4096_d1 h_S_)) (broadcastInDim S4096x1 ![] bcast_S_S4096x1 (constant S_ .f32 0x44E00000#32))
/-- The normalised embedding. -/
def outOf (e : FVec F S4096x1792 .bf16) : FVec F S4096x1792 .bf16 :=
  truncf .bf16 (mulf (mulf (extf .f32 e bitsLt_bf16_f32) (broadcastInDim S4096x1792 ![0, 1] bcast_S4096x1_S4096x1792_0_1
      (Host.rsqrt (addf (meanOf e) (broadcastInDim S4096x1 ![] bcast_S_S4096x1 (constant S_ .f32 0x358637BD#32))))))
    (broadcastInDim S4096x1792 ![0, 1] bcast_S1x1792_S4096x1792_0_1 (broadcastInDim S1x1792 ![1] bcast_S1792_S1x1792_1 (extf .f32 wt bitsLt_bf16_f32)))) bitsLt_bf16_f32

end Parts

/-- What the reference's run leaves, in those parts. -/
theorem res_emb (m : (ℓ : Loc nD τ sig) → Buf (Elt F) ℓ) (c : Dev nD) : Value.res_main_v10 m c
    = embOf (m ((c.tc : Thread nD τ).loc main_arg0)) (m ((c.tc : Thread nD τ).loc main_arg1)) (m ((c.tc : Thread nD τ).loc main_arg2)) := by
  unfold Value.res_main_v10 embOf codesOf scalesOf inside start
  rfl
theorem res_out (m : (ℓ : Loc nD τ sig) → Buf (Elt F) ℓ) (c : Dev nD) : Value.res_main_v26 m c
    = outOf (m ((c.tc : Thread nD τ).loc main_arg3)) (Value.res_main_v10 m c) := by
  unfold Value.res_main_v26 outOf meanOf Value.res_main_v10
  rfl

/-! ### The lookups -/

/-- A row looked up: with one start per row of the result, that many rows of a table, element `(p, q)` of the result is element
    `q` of the row its start names, a start below the table counting as its first row and one above it as its last. -/
theorem gather_rows {α : Type} {N C n w : Nat} (wf : GatherDims.WF ⟨2, ![N, C]⟩ ⟨2, ![n, 1]⟩ ⟨2, ![n, C]⟩ [1] [0] [] [0] [] 1 ![1, C])
    (d : GatherDims ⟨2, ![N, C]⟩ ⟨2, ![n, 1]⟩ ⟨2, ![n, C]⟩)
    (hd : d = { offsetDims := [1], collapsedSliceDims := [0], operandBatchingDims := [], startIndicesBatchingDims := [], startIndexMap := [0], indexVectorDim := 1, sliceSizes := ![1, C], wf := wf })
    (x : (⟨2, ![N, C]⟩ : Shape).Idx → α) (idx : IVec ⟨2, ![n, 1]⟩ w) (p : Fin n) (q : Fin C) (v : Fin N)
    (hv : (idx (ValueIdx.ix2 p 0)).toInt.toNat = v.val) :
    Host.gather d x idx (ValueIdx.ix2 p q) = x (ValueIdx.ix2 v q) := by
  subst hd
  unfold Host.gather
  refine congrArg x (funext fun a => Fin.ext ?_)
  have hN := v.isLt
  match a with
  | ⟨0, _⟩ =>
    show GatherDims.start _ _ _ 0 + GatherDims.batchCoord _ _ 0 + GatherDims.offCoord _ _ 0 = v.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    refine Eq.trans (b := min (idx (ValueIdx.ix2 p 0)).toInt.toNat (N - 1)) ?_ (by omega)
    simp only [Nat.add_zero]
    refine congrArg (fun i => min (idx i).toInt.toNat (N - 1)) (funext fun b => Fin.ext ?_)
    match b with
    | ⟨0, _⟩ => rfl
    | ⟨1, _⟩ => rfl
  | ⟨1, _⟩ =>
    show GatherDims.start _ _ _ 1 + GatherDims.batchCoord _ _ 1 + GatherDims.offCoord _ _ 1 = q.val
    rw [GatherDims.batchCoord_eq_zero _ _ _ List.not_mem_nil]
    unfold GatherDims.start
    rw [dif_neg (by simp)]
    simp only [Nat.zero_add]
    rfl

section Lookups
variable (ids : IVec S1x4096 32) (hids : ∀ x, (ids x).toNat < 64128)
include hids

/-- A token inside the table is its own start. -/
theorem start_at (p : Fin 4096) : start ids (ValueIdx.ix2 p 0) = ids (ValueIdx.ix2 0 p) := by
  have e : shapeCast S4096 ids shapeCasts_S1x4096_S4096 (ValueIdx.ix1 p) = ids (ValueIdx.ix2 0 p) := by
    refine shapeCast_apply _ _ _ _ ?_
    rw [Shape.rowMajor_val_two, Shape.rowMajor_val_one]
    show 0 * 4096 + p.val = p.val
    omega
  have h0 := hids (ValueIdx.ix2 0 p)
  unfold start
  refine (broadcastInDim_apply _ _ _ _ (ValueIdx.ix1 p) (fun a => by match a with | ⟨0, _⟩ => rfl)).trans ?_
  show Scalar.select (IntOp.cmpi .slt (shapeCast S4096 ids shapeCasts_S1x4096_S4096 (ValueIdx.ix1 p)) 0#32) _ (shapeCast S4096 ids shapeCasts_S1x4096_S4096 (ValueIdx.ix1 p)) = _
  rw [e]
  unfold Scalar.select
  rw [if_neg]
  intro h
  have h' := IntOp.cmpi_slt.1 h
  rw [BitVec.toInt_eq_toNat_cond, if_pos (by omega)] at h'
  exact absurd h' (by show ¬ (_ < (0 : Int)); omega)

theorem start_int (p : Fin 4096) : (start ids (ValueIdx.ix2 p 0)).toInt.toNat = (ids (ValueIdx.ix2 0 p)).toNat := by
  rw [start_at ids hids]
  have h0 := hids (ValueIdx.ix2 0 p)
  rw [BitVec.toInt_eq_toNat_cond, if_pos (by omega)]
  rfl

/-- All tokens lie inside. -/
theorem inside_at (j : S4096.Idx) : inside ids j = 1#1 := by
  unfold inside
  refine Host.reduce_andi_one _ _ _ _ _ rfl fun i => ?_
  have hi1 : (i 1).val < 1 := (i 1).isLt
  obtain ⟨p, rfl⟩ : ∃ p : Fin 4096, i = ValueIdx.ix2 p 0 := ⟨i 0, funext fun a => by
    match a with
    | ⟨0, _⟩ => rfl
    | ⟨1, _⟩ => exact Fin.ext (by show (i 1).val = 0; omega)⟩
  have h0 := hids (ValueIdx.ix2 0 p)
  have hi : (ids (ValueIdx.ix2 0 p)).toInt = (ids (ValueIdx.ix2 0 p)).toNat := by
    rw [BitVec.toInt_eq_toNat_cond, if_pos (by omega)]
  refine IntOp.andi_eq_one.mpr ⟨IntOp.cmpi_sge.2 ?_, IntOp.cmpi_sle.2 ?_⟩
  · rw [start_at ids hids, hi]
    exact Int.natCast_nonneg _
  · rw [start_at ids hids, hi]
    show _ ≤ (64127 : Int)
    omega

/-- So the looked-up element is taken, whatever stands in for a token outside. -/
theorem picked {α : Type} {T : Shape} {dims : Fin S4096.rank → Fin T.rank} (h : S4096.BroadcastsInDim T dims) (a b : T.Idx → α) (j : T.Idx) :
    select (broadcastInDim T dims h (inside ids)) a b j = a j := if_pos (inside_at ids hids _)

/-- A token's codes are its row of the table. -/
theorem codesOf_at (tab : IVec S64128x1792 8) (p : Fin 4096) (q : Fin 1792) : codesOf ids tab (ValueIdx.ix2 p q) = tab (ValueIdx.ix2 ⟨(ids (ValueIdx.ix2 0 p)).toNat, hids _⟩ q) := by
  refine (picked ids hids bcast_S4096_S4096x1792_0 _ _ _).trans ?_
  exact gather_rows gather_S64128x1792_S4096x1_S4096x1792_1_0_n_n_0_1_11792_wf _ rfl _ _ _ _ _ (start_int ids hids p)

/-- A token's scales are its row of the scales. -/
theorem scalesOf_at (sc : FVec F S64128x14 .f32) (p : Fin 4096) (g : Fin 14) : scalesOf ids sc (ValueIdx.ix2 p g) = sc (ValueIdx.ix2 ⟨(ids (ValueIdx.ix2 0 p)).toNat, hids _⟩ g) := by
  refine (picked ids hids bcast_S4096_S4096x14_0 _ _ _).trans ?_
  exact gather_rows gather_S64128x14_S4096x1_S4096x14_1_0_n_n_0_1_114_wf _ rfl _ _ _ _ _ (start_int ids hids p)

/-- The embedding at an index: the token's code times its group's scale. -/
theorem embOf_at (tab : IVec S64128x1792 8) (sc : FVec F S64128x14 .f32) (p : Fin 4096) (q : Fin 1792) :
    embOf ids tab sc (ValueIdx.ix2 p q)
      = FloatOps.mulf (FloatOps.sitofp .bf16 ((tab (ValueIdx.ix2 ⟨(ids (ValueIdx.ix2 0 p)).toNat, hids _⟩ q)).signExtend 32))
        (FloatOps.truncf .bf16 bitsLt_bf16_f32 (sc (ValueIdx.ix2 ⟨(ids (ValueIdx.ix2 0 p)).toNat, hids _⟩ ⟨q.val / 128, by omega⟩))) := by
  have hq := q.isLt
  unfold embOf
  rw [shapeCast_apply _ _ _ (ValueIdx.ix3 p (⟨q.val / 128, by omega⟩ : Fin 14) (⟨q.val % 128, by omega⟩ : Fin 128)) (by
    rw [Shape.rowMajor_val_two, Shape.rowMajor_val_three]
    show (p.val * 14 + q.val / 128) * 128 + q.val % 128 = p.val * 1792 + q.val
    omega)]
  show FloatOps.mulf (FloatOps.sitofp .bf16 ((shapeCast S4096x14x128 (codesOf ids tab) shapeCasts_S4096x1792_S4096x14x128 _).signExtend 32)) _ = _
  rw [shapeCast_apply _ _ _ (ValueIdx.ix2 p q) (by
    rw [Shape.rowMajor_val_two, Shape.rowMajor_val_three]
    show p.val * 1792 + q.val = (p.val * 14 + q.val / 128) * 128 + q.val % 128
    omega), codesOf_at ids hids]
  refine congrArg _ ?_
  rw [broadcastInDim_apply _ _ _ _ (ValueIdx.ix3 p (⟨q.val / 128, by omega⟩ : Fin 14) (0 : Fin 1)) (fun a => by
      match a with | ⟨0, _⟩ => rfl | ⟨1, _⟩ => rfl | ⟨2, _⟩ => rfl),
    broadcastInDim_apply _ _ _ _ (ValueIdx.ix2 p (⟨q.val / 128, by omega⟩ : Fin 14)) (fun a => by
      match a with | ⟨0, _⟩ => rfl | ⟨1, _⟩ => rfl)]
  exact congrArg _ (scalesOf_at ids hids sc p _)

end Lookups

end Cert.Proof.ReferenceIdeal

end
-- ==== Proof.Value.Emb.lean ====
/-
  The kernel's embedding is the reference's, over the extended reals: a token's code times its group's scale.
-/
module

public import proofs.«01_k».proof.Proof.Value.Words
public import proofs.«01_k».proof.Proof.Value.Ref
public import Idealize.ShloMosaic.PureOps.Ideal

@[expose] public section

set_option maxRecDepth 16384

noncomputable section

namespace Cert.Proof

open Cert.KernelIdeal Cert.KernelIdeal.Gen Cert.Proof.KernelIdeal
open Idealize.ShloMosaic Idealize.ShloMosaic.TcCoe Idealize.SL.Sem

section
variable (m : (ℓ : Loc nD τ sig) → Buf (Elt Ideal) ℓ) (c : Dev nD)

/-- The kernel's arguments: the tokens, the codes, the scales, the weights. -/
abbrev tokensOf : S1x4096.Idx → BitVec 32 := m ((c.tc : Thread nD τ).loc main_arg0)
abbrev tableOf : S64128x1792.Idx → BitVec 8 := m ((c.tc : Thread nD τ).loc main_arg1)
abbrev factorsOf : S64128x14.Idx → Ideal .f32 := m ((c.tc : Thread nD τ).loc main_arg2)
abbrev gainsOf : S1792.Idx → Ideal .bf16 := m ((c.tc : Thread nD τ).loc main_arg3)

variable (hids : ∀ x, (tokensOf m c x).toNat < 64128)
include hids

/-- An element of the kernel's embedding. -/
theorem embS_eq (n : Fin 4096) (j : Fin 1792) : embS (idsV (Vr m) c) (wordsV (Vr m) c) (scalesV (Vr m) c) n.val j
    = Cert.Proof.ReferenceIdeal.embOf (F := Ideal) (tokensOf m c) (tableOf m c) (factorsOf m c) (ValueIdx.ix2 n j) := by
  rw [Cert.Proof.ReferenceIdeal.embOf_at (tokensOf m c) hids]
  have ht : tok (idsV (Vr m) c) n.val = tokensOf m c (ValueIdx.ix2 0 n) := ids_at m c n.val n.isLt
  unfold embS
  rw [ht, words_operand, code_read _ _ (hids _)]
  unfold scaleAt
  rw [ht, scales_at]
  have hv : Fin.ofNat 64128 (tokensOf m c (ValueIdx.ix2 0 n)).toNat = ⟨(tokensOf m c (ValueIdx.ix2 0 n)).toNat, hids _⟩ :=
    Fin.ext (Nat.mod_eq_of_lt (hids _))
  rw [hv]
  rfl

/-- The kernel's embedding is the reference's. -/
theorem emb_eq : embArr (idsV (Vr m) c) (wordsV (Vr m) c) (scalesV (Vr m) c)
    = Cert.Proof.ReferenceIdeal.embOf (F := Ideal) (tokensOf m c) (tableOf m c) (factorsOf m c) := by
  funext x
  have hx : x = ValueIdx.ix2 (x 0) (x 1) := funext fun a => by
    match a with
    | ⟨0, _⟩ => rfl
    | ⟨1, _⟩ => rfl
  refine (embS_eq m c hids (x 0) (x 1)).trans ?_
  exact congrArg _ hx.symm

end

end Cert.Proof

end
-- ==== Proof.Value.Norm.lean ====
/-
  The kernel's normalised rows are the reference's, over the extended reals: its sum of squares, taken over lanes of sums over
  groups, is the sum over the row.
-/
module

public import proofs.«01_k».proof.Proof.Value.Emb
public import Idealize.ShloMosaic.Lib.IdealHost
public import Idealize.ShloMosaic.PureOps.Ideal.Laws

@[expose] public section

set_option maxRecDepth 16384

noncomputable section

namespace Cert.Proof

open Cert.KernelIdeal Cert.KernelIdeal.Gen Cert.Proof.KernelIdeal
open Idealize.ShloMosaic Idealize.ShloMosaic.TcCoe Idealize.SL.Sem

/-- A sum over a row's columns is a sum over lanes of sums over groups. -/
theorem sum_blocks (f : Fin 1792 → EReal) :
    ∑ k : Fin 128, ∑ g : Fin 14, f ⟨128 * g.val + k.val, by omega⟩ = ∑ j : Fin 1792, f j := by
  rw [Finset.sum_comm, ← Fintype.sum_prod_type']
  refine Fintype.sum_equiv (finProdFinEquiv (m := 14) (n := 128)) _ _ fun x => ?_
  exact congrArg f (Fin.ext (by show 128 * x.1.val + x.2.val = x.2.val + 128 * x.1.val; omega))

/-- A list folded by addition is the sum over it. -/
theorem fold_sum {ι : Type} (f : ι → EReal) (l : List ι) (a : EReal) : l.foldl (fun s i => s + f i) a = a + (l.map f).sum := by
  induction l generalizing a with
  | nil => simp
  | cons i l ih => rw [List.foldl_cons, ih, List.map_cons, List.sum_cons, add_assoc]

section Tile
variable (ids : S4096.Idx → BitVec 32) (ws : S16032x1792.Idx → BitVec 32) (sc : S14x64128.Idx → Ideal .f32) (wt : S1x1792.Idx → Ideal .bf16)

/-- A tile's row of the embedding, as a function of the column. -/
theorem eT_at (b : Nat) (t : Fin 8) (g : Fin 14) (r : Fin 16) (k : Fin 128) :
    eT ids ws sc b t g (ValueIdx.ix2 r k) = embS ids ws sc (b * 128 + (16 * t.val + r.val)) ⟨128 * g.val + k.val, by omega⟩ := by
  show embS ids ws sc (b * 128 + (16 * t.val + 1 * r.val)) ⟨128 * g.val + 1 * k.val, _⟩ = _
  simp only [Nat.one_mul]

/-- A lane's sum of squares over the groups. -/
theorem accT_at (b : Nat) (t : Fin 8) (r : Fin 16) (k : Fin 128) :
    accT ids ws sc b t (ValueIdx.ix2 r k) = ∑ g : Fin 14, eT ids ws sc b t g (ValueIdx.ix2 r k) * eT ids ws sc b t g (ValueIdx.ix2 r k) := by
  have h : ∀ (l : List (Fin 14)) (a : FVec Ideal S16x128 .f32),
      l.foldl (fun a g => sqAdd a (eT ids ws sc b t g)) a (ValueIdx.ix2 r k)
        = l.foldl (fun (s : EReal) g => s + eT ids ws sc b t g (ValueIdx.ix2 r k) * eT ids ws sc b t g (ValueIdx.ix2 r k)) (a (ValueIdx.ix2 r k)) := by
    intro l
    induction l with
    | nil => intro a; rfl
    | cons g l ih => intro a; exact ih _
  unfold accT
  rw [h, fold_sum, ← Fin.sum_univ_def]
  refine (congrArg (· + _) (show (_ : EReal) = 0 from ?_)).trans (zero_add _)
  exact Ideal.ofBits_zero_f32

/-- The lanes of a row added. -/
theorem lanes_at (a : FVec Ideal S16x128 .f32) (r : Fin 16) :
    multiReduction .add [1] S16 a 0x00000000#32 reduces_S16x128_S16 (.inl rfl) rfl (ValueIdx.ix1 r) = ∑ k : Fin 128, a (ValueIdx.ix2 r k) := by
  refine (Ideal.multiReduction_add_single a _ reduces_S16x128_S16 _ _ _).trans (Finset.sum_congr rfl fun k _ => congrArg a (funext fun d => ?_))
  match d with
  | ⟨0, _⟩ => rfl
  | ⟨1, _⟩ => rfl

/-- The row's reciprocal root mean square. -/
theorem rms_at (b : Nat) (t : Fin 8) (r : Fin 16) : rmsRec (accT ids ws sc b t) (ValueIdx.ix2 r 0)
    = Ideal.rsqrt (Ideal.div (∑ j : Fin 1792, embS ids ws sc (b * 128 + (16 * t.val + r.val)) j * embS ids ws sc (b * 128 + (16 * t.val + r.val)) j)
      (Ideal.ofBits .f32 0x44E00000#32) + Ideal.ofBits .f32 0x358637BD#32) := by
  show Ideal.rsqrt (Ideal.div (shapeCast S16x1 _ shapeCasts_S16_S16x1 _) _ + _) = _
  rw [shapeCast_apply _ _ _ (ValueIdx.ix1 r) (by
    rw [Shape.rowMajor_val_two, Shape.rowMajor_val_one]
    show r.val = r.val * 1 + 0
    omega)]
  refine congrArg (fun s => Ideal.rsqrt (Ideal.div s (Ideal.ofBits .f32 0x44E00000#32) + Ideal.ofBits .f32 0x358637BD#32)) ?_
  refine (lanes_at _ r).trans (Eq.trans ?_ (sum_blocks fun j => embS ids ws sc (b * 128 + (16 * t.val + r.val)) j * embS ids ws sc (b * 128 + (16 * t.val + r.val)) j))
  refine Finset.sum_congr rfl fun k _ => ?_
  refine (accT_at ids ws sc b t r k).trans (Finset.sum_congr rfl fun g _ => ?_)
  rw [eT_at]

/-- An element of the kernel's normalised array. -/
theorem outArr_at (n : Fin 4096) (j : Fin 1792) : outArr ids ws sc wt (ValueIdx.ix2 n j)
    = embS ids ws sc n.val j * Ideal.rsqrt (Ideal.div (∑ j : Fin 1792, embS ids ws sc n.val j * embS ids ws sc n.val j)
      (Ideal.ofBits .f32 0x44E00000#32) + Ideal.ofBits .f32 0x358637BD#32) * wt (ValueIdx.ix2 0 j) := by
  have hn := n.isLt
  have hj := j.isLt
  let b : Nat := n.val / 128
  let t : Fin 8 := ⟨n.val % 128 / 16, by omega⟩
  let r : Fin 16 := ⟨n.val % 128 % 16, by omega⟩
  let g : Fin 14 := ⟨j.val / 128, by omega⟩
  let k : Fin 128 := ⟨j.val % 128, by omega⟩
  have hrow : b * 128 + (16 * t.val + r.val) = n.val := by
    show n.val / 128 * 128 + (16 * (n.val % 128 / 16) + n.val % 128 % 16) = n.val
    omega
  have hcol : (⟨128 * g.val + k.val, by omega⟩ : Fin 1792) = j := Fin.ext (by
    show 128 * (j.val / 128) + j.val % 128 = j.val
    omega)
  show outT ids ws sc wt b t g (ValueIdx.ix2 r k) = _
  have hw : wT wt g (ValueIdx.ix2 0 k) = wt (ValueIdx.ix2 0 j) := by
    refine congrArg wt (funext fun a => Fin.ext ?_)
    match a with
    | ⟨0, _⟩ => rfl
    | ⟨1, _⟩ =>
      show 128 * (j.val / 128) + 1 * (j.val % 128) = j.val
      omega
  have hr := rms_at ids ws sc b t r
  have he := eT_at ids ws sc b t g r k
  rw [hrow, hcol] at he
  rw [hrow] at hr
  rw [← he, ← hr, ← hw]
  have h1 : shapeCast S16x128 (eT ids ws sc b t g) shapeCasts_S16x128_S16x128 (ValueIdx.ix2 r k) = eT ids ws sc b t g (ValueIdx.ix2 r k) :=
    shapeCast_apply _ _ _ _ rfl
  have h2 : broadcastTo S16x128 (rmsRec (accT ids ws sc b t)) broadcasts_S16x1_S16x128 (ValueIdx.ix2 r k) = rmsRec (accT ids ws sc b t) (ValueIdx.ix2 r 0) :=
    broadcastTo_apply _ _ _ _ fun a => by match a with | ⟨0, _⟩ => rfl | ⟨1, _⟩ => rfl
  have h3 : ∀ w : FVec Ideal S1x128 .f32, broadcastTo S16x128 w broadcasts_S1x128_S16x128 (ValueIdx.ix2 r k) = w (ValueIdx.ix2 0 k) := fun w =>
    broadcastTo_apply _ _ _ _ fun a => by match a with | ⟨0, _⟩ => rfl | ⟨1, _⟩ => rfl
  have h4 : shapeCast S1x128 (wT wt g) shapeCasts_S1x128_S1x128 (ValueIdx.ix2 0 k) = wT wt g (ValueIdx.ix2 0 k) :=
    shapeCast_apply _ _ _ _ rfl
  rw [← h1, ← h2, ← h4]
  exact congrArg (fun z : EReal => (shapeCast S16x128 (eT ids ws sc b t g) shapeCasts_S16x128_S16x128 (ValueIdx.ix2 r k) : EReal)
      * broadcastTo S16x128 (rmsRec (accT ids ws sc b t)) broadcasts_S16x1_S16x128 (ValueIdx.ix2 r k) * z)
    (h3 (extf .f32 (shapeCast S1x128 (wT wt g) shapeCasts_S1x128_S1x128) bitsLt_bf16_f32))

end Tile

/-! ### The reference's normalised array -/

section Reference
variable (wt : S1792.Idx → Ideal .bf16) (e : S4096x1792.Idx → Ideal .bf16)

/-- A row's mean of squares. -/
theorem meanOf_at (n : Fin 4096) : Cert.Proof.ReferenceIdeal.meanOf (F := Ideal) e (ValueIdx.ix2 n 0)
    = Ideal.div (∑ j : Fin 1792, (e (ValueIdx.ix2 n j) : EReal) * e (ValueIdx.ix2 n j)) (Ideal.ofBits .f32 0x44E00000#32) := by
  unfold Cert.Proof.ReferenceIdeal.meanOf
  refine congrArg (fun s : EReal => Ideal.div s (Ideal.ofBits .f32 0x44E00000#32)) ?_
  refine (broadcastInDim_apply _ _ _ _ (ValueIdx.ix1 n) (fun a => by match a with | ⟨0, _⟩ => rfl)).trans ?_
  refine (Ideal.hostReduceAdd_single _ (show S4096x1792.Reduces [1] S4096 by decide) _ _ _).trans ?_
  refine (congrArg (· + _) (show (_ : EReal) = 0 from Ideal.ofBits_zero_f32)).trans ((zero_add _).trans ?_)
  refine Finset.sum_congr rfl fun j _ => ?_
  refine congrArg (fun i => (e i : EReal) * e i) (funext fun d => ?_)
  match d with
  | ⟨0, _⟩ => rfl
  | ⟨1, _⟩ => rfl

/-- An element of the reference's normalised array. -/
theorem outOf_at (n : Fin 4096) (j : Fin 1792) : Cert.Proof.ReferenceIdeal.outOf (F := Ideal) wt e (ValueIdx.ix2 n j)
    = (e (ValueIdx.ix2 n j) : EReal) * Ideal.rsqrt (Ideal.div (∑ j : Fin 1792, (e (ValueIdx.ix2 n j) : EReal) * e (ValueIdx.ix2 n j))
      (Ideal.ofBits .f32 0x44E00000#32) + Ideal.ofBits .f32 0x358637BD#32) * wt (ValueIdx.ix1 j) := by
  rw [← meanOf_at]
  have h1 : ∀ y : FVec Ideal Cert.ReferenceIdeal.S4096x1 .f32, broadcastInDim S4096x1792 ![0, 1] Cert.ReferenceIdeal.Gen.bcast_S4096x1_S4096x1792_0_1 y (ValueIdx.ix2 n j) = y (ValueIdx.ix2 n 0) := fun y =>
    broadcastInDim_apply _ _ _ _ _ fun a => by match a with | ⟨0, _⟩ => rfl | ⟨1, _⟩ => rfl
  have h2 : ∀ y : FVec Ideal S1792 .f32, broadcastInDim S4096x1792 ![0, 1] Cert.ReferenceIdeal.Gen.bcast_S1x1792_S4096x1792_0_1
      (broadcastInDim S1x1792 ![1] Cert.ReferenceIdeal.Gen.bcast_S1792_S1x1792_1 y) (ValueIdx.ix2 n j) = y (ValueIdx.ix1 j) := fun y =>
    (broadcastInDim_apply _ _ _ _ (ValueIdx.ix2 0 j) fun a => by match a with | ⟨0, _⟩ => rfl | ⟨1, _⟩ => rfl).trans
      (broadcastInDim_apply _ _ _ _ _ fun a => by match a with | ⟨0, _⟩ => rfl)
  exact congrArg₂ (fun y z : EReal => (e (ValueIdx.ix2 n j) : EReal) * y * z)
    (h1 (Host.rsqrt (addf (Cert.Proof.ReferenceIdeal.meanOf (F := Ideal) e) (broadcastInDim Cert.ReferenceIdeal.S4096x1 ![] Cert.ReferenceIdeal.Gen.bcast_S_S4096x1 (constant Cert.ReferenceIdeal.S_ .f32 0x358637BD#32)))))
    (h2 (extf .f32 wt Cert.ReferenceIdeal.Gen.bitsLt_bf16_f32))

end Reference

section
variable (m : (ℓ : Loc nD τ sig) → Buf (Elt Ideal) ℓ) (c : Dev nD) (hids : ∀ x, (tokensOf m c x).toNat < 64128)
include hids

/-- The kernel's normalised array is the reference's. -/
theorem out_eq : outArr (idsV (Vr m) c) (wordsV (Vr m) c) (scalesV (Vr m) c) (weightV (Vr m) c)
    = Cert.Proof.ReferenceIdeal.outOf (F := Ideal) (gainsOf m c) (Cert.Proof.ReferenceIdeal.embOf (F := Ideal) (tokensOf m c) (tableOf m c) (factorsOf m c)) := by
  funext x
  obtain ⟨n, j, rfl⟩ : ∃ (n : Fin 4096) (j : Fin 1792), x = ValueIdx.ix2 n j := ⟨x 0, x 1, funext fun a => by
    match a with
    | ⟨0, _⟩ => rfl
    | ⟨1, _⟩ => rfl⟩
  rw [outArr_at, outOf_at]
  simp only [embS_eq m c hids]
  refine congrArg _ ?_
  exact weight_at m c j

end

end Cert.Proof

end
-- ==== Proof.Value.Algebraic.lean ====
/-
  Kernel and reference leave equal results over the extended reals.
-/
module

public import proofs.«01_k».proof.Defs
public import proofs.«01_k».proof.Proof.Value.Norm
public import proofs.«01_k».proof.Proof.Value.Pre

@[expose] public section

noncomputable section

namespace Cert.Proof

open Idealize.ShloMosaic Idealize.ShloMosaic.TcCoe Idealize.SL.Sem

/-- Both results are equal, for tokens that are rows of the table and whatever codes, scales and weights. -/
theorem algebraic : Cert.algebraic_KernelIdeal_ReferenceIdeal (hKernelIdeal := Cert.KernelIdeal.Gen.facts) (hReferenceIdeal := Cert.ReferenceIdeal.Gen.facts)
    (hPre_in_vocab := Cert.Pre_in_vocab.Gen.facts) := by
  intro m g m' g' hpre harg
  have hids : ∀ c x, (tokensOf m c x).toNat < 64128 := fun c x => ids_lt _ _ _ _ (hpre c) x
  have he : ∀ c, Cert.ReferenceIdeal.Value.res_main_v10 (F := Ideal) m' c
      = Cert.Proof.ReferenceIdeal.embOf (F := Ideal) (tokensOf m c) (tableOf m c) (factorsOf m c) := fun c => by
    rw [Cert.Proof.ReferenceIdeal.res_emb, (harg c).1, (harg c).2.1, (harg c).2.2.1]
  have ho : ∀ c, Cert.ReferenceIdeal.Value.res_main_v26 (F := Ideal) m' c
      = Cert.Proof.ReferenceIdeal.outOf (F := Ideal) (gainsOf m c) (Cert.Proof.ReferenceIdeal.embOf (F := Ideal) (tokensOf m c) (tableOf m c) (factorsOf m c)) := fun c => by
    rw [Cert.Proof.ReferenceIdeal.res_out, he, (harg c).2.2.2]
  refine ⟨fun c => Cert.Proof.ReferenceIdeal.outOf (F := Ideal) (gainsOf m c) (Cert.Proof.ReferenceIdeal.embOf (F := Ideal) (tokensOf m c) (tableOf m c) (factorsOf m c)),
    fun c => Cert.Proof.ReferenceIdeal.embOf (F := Ideal) (tokensOf m c) (tableOf m c) (factorsOf m c), ?_, ?_⟩
  · refine (θ_run _ _ _).mono (fun r hr c => ?_) (Cert.Proof.KernelIdeal.run (F := Ideal) m g hids)
    obtain ⟨h0, h1, h2⟩ := hr.1 c
    exact ⟨h0.trans (out_eq m c (hids c)), h1.trans (emb_eq m c (hids c)), h2⟩
  · refine (θ_run _ _ _).mono (fun r hr c => ?_) (Cert.ReferenceIdeal.Value.run (F := Ideal) m' g')
    obtain ⟨h0, h1, h2⟩ := hr c
    exact ⟨h0.trans (ho c), h1.trans (he c), h2⟩

end Cert.Proof

end
-- ==== Proof.lean ====
/-
  The certificate: every claim of the statement, from the modules that prove them.
-/
module

public import proofs.«01_k».proof.Defs
public import proofs.«01_k».proof.Proof.Frames
public import proofs.«01_k».proof.Proof.Value.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_vocab

@[expose] public section

noncomputable section

namespace Cert.Proof

/-- Every claim holds. -/
theorem claim : Cert.Claim := ⟨Cert.Kernel.Gen.facts, Cert.KernelIdeal.Gen.facts, Cert.ReferenceIdeal.Gen.facts, Cert.Pre_in_vocab.Gen.facts,
  frame_kernel, frame_kernelIdeal, frame_reference, frame_reference_in_vocab, trivial, algebraic⟩

end Cert.Proof

end
